-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x256x1024 .f32) (main_arg1 : FVec F S1024x1024 .f32) (main_arg2 : FVec F S1x4096x64x128 .f32) (main_arg3 : FVec F S1x4096x64x128 .f32) (main_arg4 : FVec F S1024x1024 .f32) : IVec S_ 1 × IVec S_ 1 × IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : FVec F S1x4096x64x128 .f32 := Host.absf main_arg2
  let main_cst_2 : FVec F S_ .f32 := constant S_ .f32 0x7F800000#32
  let main_v9 : FVec F S1x4096x64x128 .f32 := broadcastInDim S1x4096x64x128 ![] bcast_S_S1x4096x64x128 main_cst_2
  let main_v10 : IVec S1x4096x64x128 1 := cmpf .olt main_v8 main_v9
  let main_c_3 : IVec S_ 1 := constantI S_ 1 1#1
  let main_v11 : IVec S_ 1 := (fun x v => Host.reduce IntOp.andi x v reducesTo_S1x4096x64x128_S_d0_1_2_3 h_S_) main_v10 main_c_3
  (main_v3, main_v7, main_v11)
-- ==== Pre_finite_ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x4096x64x128 : S_.BroadcastsInDim S1x4096x64x128 (![] : Fin 0 → Fin S1x4096x64x128.rank)
  reducesTo_S1x4096x64x128_S_d0_1_2_3 : S1x4096x64x128.ReducesTo [0, 1, 2, 3] S_

variable [Facts]

def fn {F : FTy → Type} [FloatOps F] (main_arg0 : FVec F S1x2048x1024 .f32) (main_arg1 : FVec F S1024x8192 .f32) (main_arg2 : FVec F S1x4096x64x128 .f32) (main_arg3 : FVec F S1x4096x64x128 .f32) (main_arg4 : FVec F S8192x1024 .f32) : IVec S_ 1 × IVec S_ 1 × IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : FVec F S1x4096x64x128 .f32 := Host.absf main_arg2
  let main_cst_2 : FVec F S_ .f32 := constant S_ .f32 0x7F800000#32
  let main_v9 : FVec F S1x4096x64x128 .f32 := broadcastInDim S1x4096x64x128 ![] bcast_S_S1x4096x64x128 main_cst_2
  let main_v10 : IVec S1x4096x64x128 1 := cmpf .olt main_v8 main_v9
  let main_c_3 : IVec S_ 1 := constantI S_ 1 1#1
  let main_v11 : IVec S_ 1 := (fun x v => Host.reduce IntOp.andi x v reducesTo_S1x4096x64x128_S_d0_1_2_3 h_S_) main_v10 main_c_3
  (main_v3, main_v7, main_v11)
-- ==== Kernel.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩
abbrev S256x1024 : Shape := ⟨2, ![256, 1024]⟩
abbrev S4096x64x128 : Shape := ⟨3, ![4096, 64, 128]⟩
abbrev S8x128x1024 : Shape := ⟨3, ![8, 128, 1024]⟩
abbrev S7x128x1024 : Shape := ⟨3, ![7, 128, 1024]⟩
abbrev S2x384x1024 : Shape := ⟨3, ![2, 384, 1024]⟩
abbrev S7 : Shape := ⟨1, ![7]⟩
abbrev S2 : Shape := ⟨1, ![2]⟩
abbrev S128x1024 : Shape := ⟨2, ![128, 1024]⟩
abbrev S1x128x1024 : Shape := ⟨3, ![1, 128, 1024]⟩
abbrev S1 : Shape := ⟨1, ![1]⟩
abbrev S1x384x128 : Shape := ⟨3, ![1, 384, 128]⟩
abbrev S384x128 : Shape := ⟨2, ![384, 128]⟩
abbrev S384x1x128 : Shape := ⟨3, ![384, 1, 128]⟩
abbrev S1x384x1024 : Shape := ⟨3, ![1, 384, 1024]⟩
abbrev S384x1024 : Shape := ⟨2, ![384, 1024]⟩
abbrev S128x384 : Shape := ⟨2, ![128, 384]⟩
abbrev S128x128 : Shape := ⟨2, ![128, 128]⟩
abbrev S128 : Shape := ⟨1, ![128]⟩
abbrev S128x1 : Shape := ⟨2, ![128, 1]⟩

abbrev nBuf : Space → Nat
  | .hbm => 23
  | .vmem => 14
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x64x128, .f32⟩
  | .hbm, ⟨3, _⟩ => ⟨S1x4096x64x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S256x1024, .f32⟩
  | .hbm, ⟨14, _⟩ => ⟨S256x1024, .bf16⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1024x1024, .bf16⟩
  | .hbm, ⟨20, _⟩ => ⟨S4096x64x128, .f32⟩
  | .hbm, ⟨21, _⟩ => ⟨S4096x64x128, .f32⟩
  | .hbm, ⟨22, _⟩ => ⟨S1x256x1024, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x256x1024, .f32⟩
  | .local _ .vmem, ⟨4, _⟩ => ⟨S8x128x1024, .bf16⟩
  | .local _ .vmem, ⟨5, _⟩ => ⟨S8x128x1024, .bf16⟩
  | .local _ .vmem, ⟨6, _⟩ => ⟨S8x128x1024, .bf16⟩
  | .local _ .vmem, ⟨7, _⟩ => ⟨S8x128x1024, .bf16⟩
  | .local _ .vmem, ⟨8, _⟩ => ⟨S7x128x1024, .bf16⟩
  | .local _ .vmem, ⟨9, _⟩ => ⟨S7x128x1024, .bf16⟩
  | .local _ .vmem, ⟨10, _⟩ => ⟨S2x384x1024, .f32⟩
  | .local _ .vmem, ⟨11, _⟩ => ⟨S2x384x1024, .f32⟩
  | .local _ .vmem, ⟨12, _⟩ => ⟨S2x384x1024, .f32⟩
  | .local _ .vmem, ⟨13, _⟩ => ⟨S2x384x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v11 : Index := Scalar.indexCast v2
  let c0_6 : Index := 0#32
  let c0_7 : Index := 0#32
  ![v11.toNat, 0, 0]
def k0_mult1 (d0 : Dev nD) : BitVec 32 :=
  let c3712_i32 : BitVec 32 := 3712#32
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v22 : BitVec 32 := Scalar.subi v2 c0_i32
  let c16_i32 : BitVec 32 := 16#32
  let v23 : BitVec 32 := Scalar.addi v22 c16_i32
  let c8_i32_11 : BitVec 32 := 8#32
  let v24 : BitVec 32 := Scalar.remsi v23 c8_i32_11
  let c256_i32 : BitVec 32 := 256#32
  let v25 : BitVec 32 := Scalar.muli v24 c256_i32
  let c0_i32_12 : BitVec 32 := 0#32
  let v26 : BitVec 32 := Scalar.addi v25 c0_i32_12
  let c128_i32 : BitVec 32 := 128#32
  let v27 : BitVec 32 := Scalar.subi v26 c128_i32
  let v28 : BitVec 32 := Scalar.maxsi c0_i32_13 v27
  let v29 : BitVec 32 := Scalar.minsi c3712_i32 v28
  v29
def k0_off2 (d0 : Dev nD) (c0_i32 : BitVec 32) (c0_i32_12 : BitVec 32) (c0_i32_15 : BitVec 32) : Fin 3 → Nat :=
  let c3712_i32 : BitVec 32 := 3712#32
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v22 : BitVec 32 := Scalar.subi v2 c0_i32
  let c16_i32 : BitVec 32 := 16#32
  let v23 : BitVec 32 := Scalar.addi v22 c16_i32
  let c8_i32_11 : BitVec 32 := 8#32
  let v24 : BitVec 32 := Scalar.remsi v23 c8_i32_11
  let c256_i32 : BitVec 32 := 256#32
  let v25 : BitVec 32 := Scalar.muli v24 c256_i32
  let v26 : BitVec 32 := Scalar.addi v25 c0_i32_12
  let c128_i32 : BitVec 32 := 128#32
  let v27 : BitVec 32 := Scalar.subi v26 c128_i32
  let v28 : BitVec 32 := Scalar.maxsi c0_i32_13 v27
  let v29 : BitVec 32 := Scalar.minsi c3712_i32 v28
  let v30 : BitVec 32 := v29
  let c8_i32_14 : BitVec 32 := 8#32
  let v31 : BitVec 32 := Scalar.muli v2 c8_i32_14
  let v32 : BitVec 32 := Scalar.addi v31 c0_i32_15
  let c0_i32_28 : BitVec 32 := 0#32
  ![v30.toNat, v32.toNat, 0]
def k0_off2_at (r : Fin 128) : BitVec 32 × BitVec 32 × BitVec 32 :=
  if r.val < 64 then
    if r.val < 32 then
      if r.val < 16 then
        if r.val < 8 then
          if r.val < 4 then
            if r.val < 2 then
              if r.val < 1 then
                (0#32, 0#32, 0#32)
              else
                (0#32, 0#32, 1#32)
            else
              if r.val < 3 then
                (0#32, 0#32, 2#32)
              else
                (0#32, 0#32, 3#32)
          else
            if r.val < 6 then
              if r.val < 5 then
                (0#32, 0#32, 4#32)
              else
                (0#32, 0#32, 5#32)
            else
              if r.val < 7 then
                (0#32, 0#32, 6#32)
              else
                (0#32, 0#32, 7#32)
        else
          if r.val < 12 then
            if r.val < 10 then
              if r.val < 9 then
                (0#32, 128#32, 0#32)
              else
                (0#32, 128#32, 1#32)
            else
              if r.val < 11 then
                (0#32, 128#32, 2#32)
              else
                (0#32, 128#32, 3#32)
          else
            if r.val < 14 then
              if r.val < 13 then
                (0#32, 128#32, 4#32)
              else
                (0#32, 128#32, 5#32)
            else
              if r.val < 15 then
                (0#32, 128#32, 6#32)
              else
                (0#32, 128#32, 7#32)
      else
        if r.val < 24 then
          if r.val < 20 then
            if r.val < 18 then
              if r.val < 17 then
                (1#32, 0#32, 0#32)
              else
                (1#32, 0#32, 1#32)
            else
              if r.val < 19 then
                (1#32, 0#32, 2#32)
              else
                (1#32, 0#32, 3#32)
          else
            if r.val < 22 then
              if r.val < 21 then
                (1#32, 0#32, 4#32)
              else
                (1#32, 0#32, 5#32)
            else
              if r.val < 23 then
                (1#32, 0#32, 6#32)
              else
                (1#32, 0#32, 7#32)
        else
          if r.val < 28 then
            if r.val < 26 then
              if r.val < 25 then
                (4294967295#32, 128#32, 0#32)
              else
                (4294967295#32, 128#32, 1#32)
            else
              if r.val < 27 then
                (4294967295#32, 128#32, 2#32)
              else
                (4294967295#32, 128#32, 3#32)
          else
            if r.val < 30 then
              if r.val < 29 then
                (4294967295#32, 128#32, 4#32)
              else
                (4294967295#32, 128#32, 5#32)
            else
              if r.val < 31 then
                (4294967295#32, 128#32, 6#32)
              else
                (4294967295#32, 128#32, 7#32)
    else
      if r.val < 48 then
        if r.val < 40 then
          if r.val < 36 then
            if r.val < 34 then
              if r.val < 33 then
                (2#32, 0#32, 0#32)
              else
                (2#32, 0#32, 1#32)
            else
              if r.val < 35 then
                (2#32, 0#32, 2#32)
              else
                (2#32, 0#32, 3#32)
          else
            if r.val < 38 then
              if r.val < 37 then
                (2#32, 0#32, 4#32)
              else
                (2#32, 0#32, 5#32)
            else
              if r.val < 39 then
                (2#32, 0#32, 6#32)
              else
                (2#32, 0#32, 7#32)
        else
          if r.val < 44 then
            if r.val < 42 then
              if r.val < 41 then
                (4294967294#32, 128#32, 0#32)
              else
                (4294967294#32, 128#32, 1#32)
            else
              if r.val < 43 then
                (4294967294#32, 128#32, 2#32)
              else
                (4294967294#32, 128#32, 3#32)
          else
            if r.val < 46 then
              if r.val < 45 then
                (4294967294#32, 128#32, 4#32)
              else
                (4294967294#32, 128#32, 5#32)
            else
              if r.val < 47 then
                (4294967294#32, 128#32, 6#32)
              else
                (4294967294#32, 128#32, 7#32)
      else
        if r.val < 56 then
          if r.val < 52 then
            if r.val < 50 then
              if r.val < 49 then
                (3#32, 0#32, 0#32)
              else
                (3#32, 0#32, 1#32)
            else
              if r.val < 51 then
                (3#32, 0#32, 2#32)
              else
                (3#32, 0#32, 3#32)
          else
            if r.val < 54 then
              if r.val < 53 then
                (3#32, 0#32, 4#32)
              else
                (3#32, 0#32, 5#32)
            else
              if r.val < 55 then
                (3#32, 0#32, 6#32)
              else
                (3#32, 0#32, 7#32)
        else
          if r.val < 60 then
            if r.val < 58 then
              if r.val < 57 then
                (4294967293#32, 128#32, 0#32)
              else
                (4294967293#32, 128#32, 1#32)
            else
              if r.val < 59 then
                (4294967293#32, 128#32, 2#32)
              else
                (4294967293#32, 128#32, 3#32)
          else
            if r.val < 62 then
              if r.val < 61 then
                (4294967293#32, 128#32, 4#32)
              else
                (4294967293#32, 128#32, 5#32)
            else
              if r.val < 63 then
                (4294967293#32, 128#32, 6#32)
              else
                (4294967293#32, 128#32, 7#32)
  else
    if r.val < 96 then
      if r.val < 80 then
        if r.val < 72 then
          if r.val < 68 then
            if r.val < 66 then
              if r.val < 65 then
                (4#32, 0#32, 0#32)
              else
                (4#32, 0#32, 1#32)
            else
              if r.val < 67 then
                (4#32, 0#32, 2#32)
              else
                (4#32, 0#32, 3#32)
          else
            if r.val < 70 then
              if r.val < 69 then
                (4#32, 0#32, 4#32)
              else
                (4#32, 0#32, 5#32)
            else
              if r.val < 71 then
                (4#32, 0#32, 6#32)
              else
                (4#32, 0#32, 7#32)
        else
          if r.val < 76 then
            if r.val < 74 then
              if r.val < 73 then
                (4294967292#32, 128#32, 0#32)
              else
                (4294967292#32, 128#32, 1#32)
            else
              if r.val < 75 then
                (4294967292#32, 128#32, 2#32)
              else
                (4294967292#32, 128#32, 3#32)
          else
            if r.val < 78 then
              if r.val < 77 then
                (4294967292#32, 128#32, 4#32)
              else
                (4294967292#32, 128#32, 5#32)
            else
              if r.val < 79 then
                (4294967292#32, 128#32, 6#32)
              else
                (4294967292#32, 128#32, 7#32)
      else
        if r.val < 88 then
          if r.val < 84 then
            if r.val < 82 then
              if r.val < 81 then
                (5#32, 0#32, 0#32)
              else
                (5#32, 0#32, 1#32)
            else
              if r.val < 83 then
                (5#32, 0#32, 2#32)
              else
                (5#32, 0#32, 3#32)
          else
            if r.val < 86 then
              if r.val < 85 then
                (5#32, 0#32, 4#32)
              else
                (5#32, 0#32, 5#32)
            else
              if r.val < 87 then
                (5#32, 0#32, 6#32)
              else
                (5#32, 0#32, 7#32)
        else
          if r.val < 92 then
            if r.val < 90 then
              if r.val < 89 then
                (4294967291#32, 128#32, 0#32)
              else
                (4294967291#32, 128#32, 1#32)
            else
              if r.val < 91 then
                (4294967291#32, 128#32, 2#32)
              else
                (4294967291#32, 128#32, 3#32)
          else
            if r.val < 94 then
              if r.val < 93 then
                (4294967291#32, 128#32, 4#32)
              else
                (4294967291#32, 128#32, 5#32)
            else
              if r.val < 95 then
                (4294967291#32, 128#32, 6#32)
              else
                (4294967291#32, 128#32, 7#32)
    else
      if r.val < 112 then
        if r.val < 104 then
          if r.val < 100 then
            if r.val < 98 then
              if r.val < 97 then
                (6#32, 0#32, 0#32)
              else
                (6#32, 0#32, 1#32)
            else
              if r.val < 99 then
                (6#32, 0#32, 2#32)
              else
                (6#32, 0#32, 3#32)
          else
            if r.val < 102 then
              if r.val < 101 then
                (6#32, 0#32, 4#32)
              else
                (6#32, 0#32, 5#32)
            else
              if r.val < 103 then
                (6#32, 0#32, 6#32)
              else
                (6#32, 0#32, 7#32)
        else
          if r.val < 108 then
            if r.val < 106 then
              if r.val < 105 then
                (4294967290#32, 128#32, 0#32)
              else
                (4294967290#32, 128#32, 1#32)
            else
              if r.val < 107 then
                (4294967290#32, 128#32, 2#32)
              else
                (4294967290#32, 128#32, 3#32)
          else
            if r.val < 110 then
              if r.val < 109 then
                (4294967290#32, 128#32, 4#32)
              else
                (4294967290#32, 128#32, 5#32)
            else
              if r.val < 111 then
                (4294967290#32, 128#32, 6#32)
              else
                (4294967290#32, 128#32, 7#32)
      else
        if r.val < 120 then
          if r.val < 116 then
            if r.val < 114 then
              if r.val < 113 then
                (7#32, 0#32, 0#32)
              else
                (7#32, 0#32, 1#32)
            else
              if r.val < 115 then
                (7#32, 0#32, 2#32)
              else
                (7#32, 0#32, 3#32)
          else
            if r.val < 118 then
              if r.val < 117 then
                (7#32, 0#32, 4#32)
              else
                (7#32, 0#32, 5#32)
            else
              if r.val < 119 then
                (7#32, 0#32, 6#32)
              else
                (7#32, 0#32, 7#32)
        else
          if r.val < 124 then
            if r.val < 122 then
              if r.val < 121 then
                (4294967289#32, 128#32, 0#32)
              else
                (4294967289#32, 128#32, 1#32)
            else
              if r.val < 123 then
                (4294967289#32, 128#32, 2#32)
              else
                (4294967289#32, 128#32, 3#32)
          else
            if r.val < 126 then
              if r.val < 125 then
                (4294967289#32, 128#32, 4#32)
              else
                (4294967289#32, 128#32, 5#32)
            else
              if r.val < 127 then
                (4294967289#32, 128#32, 6#32)
              else
                (4294967289#32, 128#32, 7#32)
def k0_mult2 (d0 : Dev nD) : BitVec 32 :=
  let c3712_i32_106 : BitVec 32 := 3712#32
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_99 : BitVec 32 := 0#32
  let v143 : BitVec 32 := Scalar.subi v2 c0_i32_99
  let c16_i32_100 : BitVec 32 := 16#32
  let v144 : BitVec 32 := Scalar.addi v143 c16_i32_100
  let c8_i32_101 : BitVec 32 := 8#32
  let v145 : BitVec 32 := Scalar.remsi v144 c8_i32_101
  let c256_i32_102 : BitVec 32 := 256#32
  let v146 : BitVec 32 := Scalar.muli v145 c256_i32_102
  let c128_i32_103 : BitVec 32 := 128#32
  let v147 : BitVec 32 := Scalar.addi v146 c128_i32_103
  let c128_i32_104 : BitVec 32 := 128#32
  let v148 : BitVec 32 := Scalar.subi v147 c128_i32_104
  let v149 : BitVec 32 := Scalar.maxsi c0_i32_105 v148
  let v150 : BitVec 32 := Scalar.minsi c3712_i32_106 v149
  v150
def k0_dev1 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_204 : BitVec 32 := 1#32
  let v265 : BitVec 32 := Scalar.muli v5 c1_i32_204
  let v266 : BitVec 32 := Scalar.addi c0_i32_205 v265
  v266.toNat
def k0_dev2 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_207 : BitVec 32 := 1#32
  let v267 : BitVec 32 := Scalar.muli v7 c1_i32_207
  let v268 : BitVec 32 := Scalar.addi c0_i32_208 v267
  v268.toNat
def k0_off3 (d0 : Dev nD) (c0_i32_210 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v269 : BitVec 32 := Scalar.subi v2 c0_i32_210
  let c16_i32_211 : BitVec 32 := 16#32
  let v270 : BitVec 32 := Scalar.addi v269 c16_i32_211
  let c8_i32_212 : BitVec 32 := 8#32
  let v271 : BitVec 32 := Scalar.remsi v270 c8_i32_212
  let c0_i32_217 : BitVec 32 := 0#32
  let c0_i32_218 : BitVec 32 := 0#32
  ![v271.toNat, 0, 0]
def k0_off3_at (r : Fin 15) : BitVec 32 :=
  if r.val < 7 then
    if r.val < 3 then
      if r.val < 1 then
        0#32
      else
        if r.val < 2 then
          1#32
        else
          4294967295#32
    else
      if r.val < 5 then
        if r.val < 4 then
          2#32
        else
          4294967294#32
      else
        if r.val < 6 then
          3#32
        else
          4294967293#32
  else
    if r.val < 11 then
      if r.val < 9 then
        if r.val < 8 then
          4#32
        else
          4294967292#32
      else
        if r.val < 10 then
          5#32
        else
          4294967291#32
    else
      if r.val < 13 then
        if r.val < 12 then
          6#32
        else
          4294967290#32
      else
        if r.val < 14 then
          7#32
        else
          4294967289#32
def k0_dev3 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_215 : BitVec 32 := 1#32
  let v272 : BitVec 32 := Scalar.muli v7 c1_i32_215
  let v273 : BitVec 32 := Scalar.addi c0_i32_216 v272
  v273.toNat
def k0_dev4 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_226 : BitVec 32 := 1#32
  let v285 : BitVec 32 := Scalar.muli v5 c1_i32_226
  let v286 : BitVec 32 := Scalar.addi c0_i32_227 v285
  v286.toNat
def k0_mult3 (d0 : Dev nD) : BitVec 32 :=
  let c3712_i32_239 : BitVec 32 := 3712#32
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_232 : BitVec 32 := 1#32
  let v295 : BitVec 32 := Scalar.subi v2 c1_i32_232
  let c16_i32_233 : BitVec 32 := 16#32
  let v296 : BitVec 32 := Scalar.addi v295 c16_i32_233
  let c8_i32_234 : BitVec 32 := 8#32
  let v297 : BitVec 32 := Scalar.remsi v296 c8_i32_234
  let c256_i32_235 : BitVec 32 := 256#32
  let v298 : BitVec 32 := Scalar.muli v297 c256_i32_235
  let c0_i32_236 : BitVec 32 := 0#32
  let v299 : BitVec 32 := Scalar.addi v298 c0_i32_236
  let c128_i32_237 : BitVec 32 := 128#32
  let v300 : BitVec 32 := Scalar.subi v299 c128_i32_237
  let v301 : BitVec 32 := Scalar.maxsi c0_i32_238 v300
  let v302 : BitVec 32 := Scalar.minsi c3712_i32_239 v301
  v302
def k0_mult4 (d0 : Dev nD) : BitVec 32 :=
  let c3712_i32_342 : BitVec 32 := 3712#32
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32 : BitVec 32 := 4294967295#32
  let v416 : BitVec 32 := Scalar.subi v2 c_m1_i32
  let c16_i32_336 : BitVec 32 := 16#32
  let v417 : BitVec 32 := Scalar.addi v416 c16_i32_336
  let c8_i32_337 : BitVec 32 := 8#32
  let v418 : BitVec 32 := Scalar.remsi v417 c8_i32_337
  let c256_i32_338 : BitVec 32 := 256#32
  let v419 : BitVec 32 := Scalar.muli v418 c256_i32_338
  let c128_i32_339 : BitVec 32 := 128#32
  let v420 : BitVec 32 := Scalar.addi v419 c128_i32_339
  let c128_i32_340 : BitVec 32 := 128#32
  let v421 : BitVec 32 := Scalar.subi v420 c128_i32_340
  let v422 : BitVec 32 := Scalar.maxsi c0_i32_341 v421
  let v423 : BitVec 32 := Scalar.minsi c3712_i32_342 v422
  v423
def k0_mult5 (d0 : Dev nD) : BitVec 32 :=
  let c3712_i32_449 : BitVec 32 := 3712#32
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_442 : BitVec 32 := 0#32
  let v540 : BitVec 32 := Scalar.subi v2 c0_i32_442
  let c16_i32_443 : BitVec 32 := 16#32
  let v541 : BitVec 32 := Scalar.addi v540 c16_i32_443
  let c8_i32_444 : BitVec 32 := 8#32
  let v542 : BitVec 32 := Scalar.remsi v541 c8_i32_444
  let c256_i32_445 : BitVec 32 := 256#32
  let v543 : BitVec 32 := Scalar.muli v542 c256_i32_445
  let c0_i32_446 : BitVec 32 := 0#32
  let v544 : BitVec 32 := Scalar.addi v543 c0_i32_446
  let c128_i32_447 : BitVec 32 := 128#32
  let v545 : BitVec 32 := Scalar.subi v544 c128_i32_447
  let v546 : BitVec 32 := Scalar.maxsi c0_i32_448 v545
  let v547 : BitVec 32 := Scalar.minsi c3712_i32_449 v546
  v547
def k0_mult6 (d0 : Dev nD) : BitVec 32 :=
  let c3712_i32_556 : BitVec 32 := 3712#32
  let c0_i32_555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_439 : BitVec 32 := 0#32
  let v537 : BitVec 32 := Scalar.subi v2 c0_i32_439
  let c16_i32_440 : BitVec 32 := 16#32
  let v538 : BitVec 32 := Scalar.addi v537 c16_i32_440
  let c8_i32_441 : BitVec 32 := 8#32
  let v539 : BitVec 32 := Scalar.remsi v538 c8_i32_441
  let c256_i32_552 : BitVec 32 := 256#32
  let v667 : BitVec 32 := Scalar.muli v539 c256_i32_552
  let c0_i32_553 : BitVec 32 := 0#32
  let v668 : BitVec 32 := Scalar.addi v667 c0_i32_553
  let c128_i32_554 : BitVec 32 := 128#32
  let v669 : BitVec 32 := Scalar.subi v668 c128_i32_554
  let v670 : BitVec 32 := Scalar.maxsi c0_i32_555 v669
  let v671 : BitVec 32 := Scalar.minsi c3712_i32_556 v670
  v671
def k0_off4 (d0 : Dev nD) (c0_i32_439 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v537 : BitVec 32 := Scalar.subi v2 c0_i32_439
  let c16_i32_440 : BitVec 32 := 16#32
  let v538 : BitVec 32 := Scalar.addi v537 c16_i32_440
  let c8_i32_441 : BitVec 32 := 8#32
  let v539 : BitVec 32 := Scalar.remsi v538 c8_i32_441
  let v673 : Index := Scalar.indexCast v539
  let c0_557 : Index := 0#32
  let c0_558 : Index := 0#32
  ![v673.toNat, 0, 0]
def k0_off4_at (r : Fin 15) : BitVec 32 :=
  if r.val < 7 then
    if r.val < 3 then
      if r.val < 1 then
        0#32
      else
        if r.val < 2 then
          1#32
        else
          4294967295#32
    else
      if r.val < 5 then
        if r.val < 4 then
          2#32
        else
          4294967294#32
      else
        if r.val < 6 then
          3#32
        else
          4294967293#32
  else
    if r.val < 11 then
      if r.val < 9 then
        if r.val < 8 then
          4#32
        else
          4294967292#32
      else
        if r.val < 10 then
          5#32
        else
          4294967291#32
    else
      if r.val < 13 then
        if r.val < 12 then
          6#32
        else
          4294967290#32
      else
        if r.val < 14 then
          7#32
        else
          4294967289#32
def k0_mult7 (d0 : Dev nD) : BitVec 32 :=
  let c3712_i32_613 : BitVec 32 := 3712#32
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_606 : BitVec 32 := 0#32
  let v821 : BitVec 32 := Scalar.subi v2 c0_i32_606
  let c16_i32_607 : BitVec 32 := 16#32
  let v822 : BitVec 32 := Scalar.addi v821 c16_i32_607
  let c8_i32_608 : BitVec 32 := 8#32
  let v823 : BitVec 32 := Scalar.remsi v822 c8_i32_608
  let c256_i32_609 : BitVec 32 := 256#32
  let v824 : BitVec 32 := Scalar.muli v823 c256_i32_609
  let c128_i32_610 : BitVec 32 := 128#32
  let v825 : BitVec 32 := Scalar.addi v824 c128_i32_610
  let c128_i32_611 : BitVec 32 := 128#32
  let v826 : BitVec 32 := Scalar.subi v825 c128_i32_611
  let v827 : BitVec 32 := Scalar.maxsi c0_i32_612 v826
  let v828 : BitVec 32 := Scalar.minsi c3712_i32_613 v827
  v828
def k0_mult8 (d0 : Dev nD) : BitVec 32 :=
  let c3712_i32_720 : BitVec 32 := 3712#32
  let c0_i32_719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_603 : BitVec 32 := 0#32
  let v818 : BitVec 32 := Scalar.subi v2 c0_i32_603
  let c16_i32_604 : BitVec 32 := 16#32
  let v819 : BitVec 32 := Scalar.addi v818 c16_i32_604
  let c8_i32_605 : BitVec 32 := 8#32
  let v820 : BitVec 32 := Scalar.remsi v819 c8_i32_605
  let c256_i32_716 : BitVec 32 := 256#32
  let v948 : BitVec 32 := Scalar.muli v820 c256_i32_716
  let c128_i32_717 : BitVec 32 := 128#32
  let v949 : BitVec 32 := Scalar.addi v948 c128_i32_717
  let c128_i32_718 : BitVec 32 := 128#32
  let v950 : BitVec 32 := Scalar.subi v949 c128_i32_718
  let v951 : BitVec 32 := Scalar.maxsi c0_i32_719 v950
  let v952 : BitVec 32 := Scalar.minsi c3712_i32_720 v951
  v952
def k0_dev5 (d0 : Dev nD) : Nat :=
  let c0_i32_796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_795 : BitVec 32 := 1#32
  let v1124 : BitVec 32 := Scalar.muli v7 c1_i32_795
  let v1125 : BitVec 32 := Scalar.addi c0_i32_796 v1124
  v1125.toNat
def k0_dev6 (d0 : Dev nD) : Nat :=
  let c0_i32_807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_806 : BitVec 32 := 1#32
  let v1137 : BitVec 32 := Scalar.muli v5 c1_i32_806
  let v1138 : BitVec 32 := Scalar.addi c0_i32_807 v1137
  v1138.toNat
def k0_mult9 (d0 : Dev nD) : BitVec 32 :=
  let c3712_i32_819 : BitVec 32 := 3712#32
  let c0_i32_818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_812 : BitVec 32 := 2#32
  let v1147 : BitVec 32 := Scalar.subi v2 c2_i32_812
  let c16_i32_813 : BitVec 32 := 16#32
  let v1148 : BitVec 32 := Scalar.addi v1147 c16_i32_813
  let c8_i32_814 : BitVec 32 := 8#32
  let v1149 : BitVec 32 := Scalar.remsi v1148 c8_i32_814
  let c256_i32_815 : BitVec 32 := 256#32
  let v1150 : BitVec 32 := Scalar.muli v1149 c256_i32_815
  let c0_i32_816 : BitVec 32 := 0#32
  let v1151 : BitVec 32 := Scalar.addi v1150 c0_i32_816
  let c128_i32_817 : BitVec 32 := 128#32
  let v1152 : BitVec 32 := Scalar.subi v1151 c128_i32_817
  let v1153 : BitVec 32 := Scalar.maxsi c0_i32_818 v1152
  let v1154 : BitVec 32 := Scalar.minsi c3712_i32_819 v1153
  v1154
def k0_mult10 (d0 : Dev nD) : BitVec 32 :=
  let c3712_i32_922 : BitVec 32 := 3712#32
  let c0_i32_921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m2_i32 : BitVec 32 := 4294967294#32
  let v1268 : BitVec 32 := Scalar.subi v2 c_m2_i32
  let c16_i32_916 : BitVec 32 := 16#32
  let v1269 : BitVec 32 := Scalar.addi v1268 c16_i32_916
  let c8_i32_917 : BitVec 32 := 8#32
  let v1270 : BitVec 32 := Scalar.remsi v1269 c8_i32_917
  let c256_i32_918 : BitVec 32 := 256#32
  let v1271 : BitVec 32 := Scalar.muli v1270 c256_i32_918
  let c128_i32_919 : BitVec 32 := 128#32
  let v1272 : BitVec 32 := Scalar.addi v1271 c128_i32_919
  let c128_i32_920 : BitVec 32 := 128#32
  let v1273 : BitVec 32 := Scalar.subi v1272 c128_i32_920
  let v1274 : BitVec 32 := Scalar.maxsi c0_i32_921 v1273
  let v1275 : BitVec 32 := Scalar.minsi c3712_i32_922 v1274
  v1275
def k0_mult11 (d0 : Dev nD) : BitVec 32 :=
  let c3712_i32_1029 : BitVec 32 := 3712#32
  let c0_i32_1028 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1022 : BitVec 32 := 1#32
  let v1392 : BitVec 32 := Scalar.subi v2 c1_i32_1022
  let c16_i32_1023 : BitVec 32 := 16#32
  let v1393 : BitVec 32 := Scalar.addi v1392 c16_i32_1023
  let c8_i32_1024 : BitVec 32 := 8#32
  let v1394 : BitVec 32 := Scalar.remsi v1393 c8_i32_1024
  let c256_i32_1025 : BitVec 32 := 256#32
  let v1395 : BitVec 32 := Scalar.muli v1394 c256_i32_1025
  let c0_i32_1026 : BitVec 32 := 0#32
  let v1396 : BitVec 32 := Scalar.addi v1395 c0_i32_1026
  let c128_i32_1027 : BitVec 32 := 128#32
  let v1397 : BitVec 32 := Scalar.subi v1396 c128_i32_1027
  let v1398 : BitVec 32 := Scalar.maxsi c0_i32_1028 v1397
  let v1399 : BitVec 32 := Scalar.minsi c3712_i32_1029 v1398
  v1399
def k0_mult12 (d0 : Dev nD) : BitVec 32 :=
  let c3712_i32_1135 : BitVec 32 := 3712#32
  let c0_i32_1134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1019 : BitVec 32 := 1#32
  let v1389 : BitVec 32 := Scalar.subi v2 c1_i32_1019
  let c16_i32_1020 : BitVec 32 := 16#32
  let v1390 : BitVec 32 := Scalar.addi v1389 c16_i32_1020
  let c8_i32_1021 : BitVec 32 := 8#32
  let v1391 : BitVec 32 := Scalar.remsi v1390 c8_i32_1021
  let c256_i32_1131 : BitVec 32 := 256#32
  let v1519 : BitVec 32 := Scalar.muli v1391 c256_i32_1131
  let c0_i32_1132 : BitVec 32 := 0#32
  let v1520 : BitVec 32 := Scalar.addi v1519 c0_i32_1132
  let c128_i32_1133 : BitVec 32 := 128#32
  let v1521 : BitVec 32 := Scalar.subi v1520 c128_i32_1133
  let v1522 : BitVec 32 := Scalar.maxsi c0_i32_1134 v1521
  let v1523 : BitVec 32 := Scalar.minsi c3712_i32_1135 v1522
  v1523
def k0_mult13 (d0 : Dev nD) : BitVec 32 :=
  let c3712_i32_1193 : BitVec 32 := 3712#32
  let c0_i32_1192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32_1186 : BitVec 32 := 4294967295#32
  let v1673 : BitVec 32 := Scalar.subi v2 c_m1_i32_1186
  let c16_i32_1187 : BitVec 32 := 16#32
  let v1674 : BitVec 32 := Scalar.addi v1673 c16_i32_1187
  let c8_i32_1188 : BitVec 32 := 8#32
  let v1675 : BitVec 32 := Scalar.remsi v1674 c8_i32_1188
  let c256_i32_1189 : BitVec 32 := 256#32
  let v1676 : BitVec 32 := Scalar.muli v1675 c256_i32_1189
  let c128_i32_1190 : BitVec 32 := 128#32
  let v1677 : BitVec 32 := Scalar.addi v1676 c128_i32_1190
  let c128_i32_1191 : BitVec 32 := 128#32
  let v1678 : BitVec 32 := Scalar.subi v1677 c128_i32_1191
  let v1679 : BitVec 32 := Scalar.maxsi c0_i32_1192 v1678
  let v1680 : BitVec 32 := Scalar.minsi c3712_i32_1193 v1679
  v1680
def k0_mult14 (d0 : Dev nD) : BitVec 32 :=
  let c3712_i32_1300 : BitVec 32 := 3712#32
  let c0_i32_1299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m1_i32_1183 : BitVec 32 := 4294967295#32
  let v1670 : BitVec 32 := Scalar.subi v2 c_m1_i32_1183
  let c16_i32_1184 : BitVec 32 := 16#32
  let v1671 : BitVec 32 := Scalar.addi v1670 c16_i32_1184
  let c8_i32_1185 : BitVec 32 := 8#32
  let v1672 : BitVec 32 := Scalar.remsi v1671 c8_i32_1185
  let c256_i32_1296 : BitVec 32 := 256#32
  let v1800 : BitVec 32 := Scalar.muli v1672 c256_i32_1296
  let c128_i32_1297 : BitVec 32 := 128#32
  let v1801 : BitVec 32 := Scalar.addi v1800 c128_i32_1297
  let c128_i32_1298 : BitVec 32 := 128#32
  let v1802 : BitVec 32 := Scalar.subi v1801 c128_i32_1298
  let v1803 : BitVec 32 := Scalar.maxsi c0_i32_1299 v1802
  let v1804 : BitVec 32 := Scalar.minsi c3712_i32_1300 v1803
  v1804
def k0_dev7 (d0 : Dev nD) : Nat :=
  let c0_i32_1376 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1375 : BitVec 32 := 1#32
  let v1976 : BitVec 32 := Scalar.muli v7 c1_i32_1375
  let v1977 : BitVec 32 := Scalar.addi c0_i32_1376 v1976
  v1977.toNat
def k0_dev8 (d0 : Dev nD) : Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1386 : BitVec 32 := 1#32
  let v1989 : BitVec 32 := Scalar.muli v5 c1_i32_1386
  let v1990 : BitVec 32 := Scalar.addi c0_i32_1387 v1989
  v1990.toNat
def k0_mult15 (d0 : Dev nD) : BitVec 32 :=
  let c3712_i32_1399 : BitVec 32 := 3712#32
  let c0_i32_1398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1392 : BitVec 32 := 3#32
  let v1999 : BitVec 32 := Scalar.subi v2 c3_i32_1392
  let c16_i32_1393 : BitVec 32 := 16#32
  let v2000 : BitVec 32 := Scalar.addi v1999 c16_i32_1393
  let c8_i32_1394 : BitVec 32 := 8#32
  let v2001 : BitVec 32 := Scalar.remsi v2000 c8_i32_1394
  let c256_i32_1395 : BitVec 32 := 256#32
  let v2002 : BitVec 32 := Scalar.muli v2001 c256_i32_1395
  let c0_i32_1396 : BitVec 32 := 0#32
  let v2003 : BitVec 32 := Scalar.addi v2002 c0_i32_1396
  let c128_i32_1397 : BitVec 32 := 128#32
  let v2004 : BitVec 32 := Scalar.subi v2003 c128_i32_1397
  let v2005 : BitVec 32 := Scalar.maxsi c0_i32_1398 v2004
  let v2006 : BitVec 32 := Scalar.minsi c3712_i32_1399 v2005
  v2006
def k0_mult16 (d0 : Dev nD) : BitVec 32 :=
  let c3712_i32_1502 : BitVec 32 := 3712#32
  let c0_i32_1501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m3_i32 : BitVec 32 := 4294967293#32
  let v2120 : BitVec 32 := Scalar.subi v2 c_m3_i32
  let c16_i32_1496 : BitVec 32 := 16#32
  let v2121 : BitVec 32 := Scalar.addi v2120 c16_i32_1496
  let c8_i32_1497 : BitVec 32 := 8#32
  let v2122 : BitVec 32 := Scalar.remsi v2121 c8_i32_1497
  let c256_i32_1498 : BitVec 32 := 256#32
  let v2123 : BitVec 32 := Scalar.muli v2122 c256_i32_1498
  let c128_i32_1499 : BitVec 32 := 128#32
  let v2124 : BitVec 32 := Scalar.addi v2123 c128_i32_1499
  let c128_i32_1500 : BitVec 32 := 128#32
  let v2125 : BitVec 32 := Scalar.subi v2124 c128_i32_1500
  let v2126 : BitVec 32 := Scalar.maxsi c0_i32_1501 v2125
  let v2127 : BitVec 32 := Scalar.minsi c3712_i32_1502 v2126
  v2127
def k0_dev9 (d0 : Dev nD) : Nat :=
  let c0_i32_1606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1605 : BitVec 32 := 1#32
  let v2244 : BitVec 32 := Scalar.muli v7 c1_i32_1605
  let v2245 : BitVec 32 := Scalar.addi c0_i32_1606 v2244
  v2245.toNat
def k0_dev10 (d0 : Dev nD) : Nat :=
  let c0_i32_1618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1617 : BitVec 32 := 1#32
  let v2257 : BitVec 32 := Scalar.muli v5 c1_i32_1617
  let v2258 : BitVec 32 := Scalar.addi c0_i32_1618 v2257
  v2258.toNat
def k0_mult17 (d0 : Dev nD) : BitVec 32 :=
  let c3712_i32_1633 : BitVec 32 := 3712#32
  let c0_i32_1632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1626 : BitVec 32 := 2#32
  let v2270 : BitVec 32 := Scalar.subi v2 c2_i32_1626
  let c16_i32_1627 : BitVec 32 := 16#32
  let v2271 : BitVec 32 := Scalar.addi v2270 c16_i32_1627
  let c8_i32_1628 : BitVec 32 := 8#32
  let v2272 : BitVec 32 := Scalar.remsi v2271 c8_i32_1628
  let c256_i32_1629 : BitVec 32 := 256#32
  let v2273 : BitVec 32 := Scalar.muli v2272 c256_i32_1629
  let c0_i32_1630 : BitVec 32 := 0#32
  let v2274 : BitVec 32 := Scalar.addi v2273 c0_i32_1630
  let c128_i32_1631 : BitVec 32 := 128#32
  let v2275 : BitVec 32 := Scalar.subi v2274 c128_i32_1631
  let v2276 : BitVec 32 := Scalar.maxsi c0_i32_1632 v2275
  let v2277 : BitVec 32 := Scalar.minsi c3712_i32_1633 v2276
  v2277
def k0_mult18 (d0 : Dev nD) : BitVec 32 :=
  let c3712_i32_1740 : BitVec 32 := 3712#32
  let c0_i32_1739 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1623 : BitVec 32 := 2#32
  let v2267 : BitVec 32 := Scalar.subi v2 c2_i32_1623
  let c16_i32_1624 : BitVec 32 := 16#32
  let v2268 : BitVec 32 := Scalar.addi v2267 c16_i32_1624
  let c8_i32_1625 : BitVec 32 := 8#32
  let v2269 : BitVec 32 := Scalar.remsi v2268 c8_i32_1625
  let c256_i32_1736 : BitVec 32 := 256#32
  let v2397 : BitVec 32 := Scalar.muli v2269 c256_i32_1736
  let c0_i32_1737 : BitVec 32 := 0#32
  let v2398 : BitVec 32 := Scalar.addi v2397 c0_i32_1737
  let c128_i32_1738 : BitVec 32 := 128#32
  let v2399 : BitVec 32 := Scalar.subi v2398 c128_i32_1738
  let v2400 : BitVec 32 := Scalar.maxsi c0_i32_1739 v2399
  let v2401 : BitVec 32 := Scalar.minsi c3712_i32_1740 v2400
  v2401
def k0_mult19 (d0 : Dev nD) : BitVec 32 :=
  let c3712_i32_1798 : BitVec 32 := 3712#32
  let c0_i32_1797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m2_i32_1791 : BitVec 32 := 4294967294#32
  let v2551 : BitVec 32 := Scalar.subi v2 c_m2_i32_1791
  let c16_i32_1792 : BitVec 32 := 16#32
  let v2552 : BitVec 32 := Scalar.addi v2551 c16_i32_1792
  let c8_i32_1793 : BitVec 32 := 8#32
  let v2553 : BitVec 32 := Scalar.remsi v2552 c8_i32_1793
  let c256_i32_1794 : BitVec 32 := 256#32
  let v2554 : BitVec 32 := Scalar.muli v2553 c256_i32_1794
  let c128_i32_1795 : BitVec 32 := 128#32
  let v2555 : BitVec 32 := Scalar.addi v2554 c128_i32_1795
  let c128_i32_1796 : BitVec 32 := 128#32
  let v2556 : BitVec 32 := Scalar.subi v2555 c128_i32_1796
  let v2557 : BitVec 32 := Scalar.maxsi c0_i32_1797 v2556
  let v2558 : BitVec 32 := Scalar.minsi c3712_i32_1798 v2557
  v2558
def k0_mult20 (d0 : Dev nD) : BitVec 32 :=
  let c3712_i32_1905 : BitVec 32 := 3712#32
  let c0_i32_1904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m2_i32_1788 : BitVec 32 := 4294967294#32
  let v2548 : BitVec 32 := Scalar.subi v2 c_m2_i32_1788
  let c16_i32_1789 : BitVec 32 := 16#32
  let v2549 : BitVec 32 := Scalar.addi v2548 c16_i32_1789
  let c8_i32_1790 : BitVec 32 := 8#32
  let v2550 : BitVec 32 := Scalar.remsi v2549 c8_i32_1790
  let c256_i32_1901 : BitVec 32 := 256#32
  let v2678 : BitVec 32 := Scalar.muli v2550 c256_i32_1901
  let c128_i32_1902 : BitVec 32 := 128#32
  let v2679 : BitVec 32 := Scalar.addi v2678 c128_i32_1902
  let c128_i32_1903 : BitVec 32 := 128#32
  let v2680 : BitVec 32 := Scalar.subi v2679 c128_i32_1903
  let v2681 : BitVec 32 := Scalar.maxsi c0_i32_1904 v2680
  let v2682 : BitVec 32 := Scalar.minsi c3712_i32_1905 v2681
  v2682
def k0_dev11 (d0 : Dev nD) : Nat :=
  let c0_i32_1981 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1980 : BitVec 32 := 1#32
  let v2854 : BitVec 32 := Scalar.muli v7 c1_i32_1980
  let v2855 : BitVec 32 := Scalar.addi c0_i32_1981 v2854
  v2855.toNat
def k0_dev12 (d0 : Dev nD) : Nat :=
  let c0_i32_1992 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1991 : BitVec 32 := 1#32
  let v2867 : BitVec 32 := Scalar.muli v5 c1_i32_1991
  let v2868 : BitVec 32 := Scalar.addi c0_i32_1992 v2867
  v2868.toNat
def k0_mult21 (d0 : Dev nD) : BitVec 32 :=
  let c3712_i32_2004 : BitVec 32 := 3712#32
  let c0_i32_2003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1997 : BitVec 32 := 4#32
  let v2877 : BitVec 32 := Scalar.subi v2 c4_i32_1997
  let c16_i32_1998 : BitVec 32 := 16#32
  let v2878 : BitVec 32 := Scalar.addi v2877 c16_i32_1998
  let c8_i32_1999 : BitVec 32 := 8#32
  let v2879 : BitVec 32 := Scalar.remsi v2878 c8_i32_1999
  let c256_i32_2000 : BitVec 32 := 256#32
  let v2880 : BitVec 32 := Scalar.muli v2879 c256_i32_2000
  let c0_i32_2001 : BitVec 32 := 0#32
  let v2881 : BitVec 32 := Scalar.addi v2880 c0_i32_2001
  let c128_i32_2002 : BitVec 32 := 128#32
  let v2882 : BitVec 32 := Scalar.subi v2881 c128_i32_2002
  let v2883 : BitVec 32 := Scalar.maxsi c0_i32_2003 v2882
  let v2884 : BitVec 32 := Scalar.minsi c3712_i32_2004 v2883
  v2884
def k0_mult22 (d0 : Dev nD) : BitVec 32 :=
  let c3712_i32_2107 : BitVec 32 := 3712#32
  let c0_i32_2106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m4_i32 : BitVec 32 := 4294967292#32
  let v2998 : BitVec 32 := Scalar.subi v2 c_m4_i32
  let c16_i32_2101 : BitVec 32 := 16#32
  let v2999 : BitVec 32 := Scalar.addi v2998 c16_i32_2101
  let c8_i32_2102 : BitVec 32 := 8#32
  let v3000 : BitVec 32 := Scalar.remsi v2999 c8_i32_2102
  let c256_i32_2103 : BitVec 32 := 256#32
  let v3001 : BitVec 32 := Scalar.muli v3000 c256_i32_2103
  let c128_i32_2104 : BitVec 32 := 128#32
  let v3002 : BitVec 32 := Scalar.addi v3001 c128_i32_2104
  let c128_i32_2105 : BitVec 32 := 128#32
  let v3003 : BitVec 32 := Scalar.subi v3002 c128_i32_2105
  let v3004 : BitVec 32 := Scalar.maxsi c0_i32_2106 v3003
  let v3005 : BitVec 32 := Scalar.minsi c3712_i32_2107 v3004
  v3005
def k0_dev13 (d0 : Dev nD) : Nat :=
  let c0_i32_2228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2227 : BitVec 32 := 1#32
  let v3144 : BitVec 32 := Scalar.muli v7 c1_i32_2227
  let v3145 : BitVec 32 := Scalar.addi c0_i32_2228 v3144
  v3145.toNat
def k0_dev14 (d0 : Dev nD) : Nat :=
  let c0_i32_2257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2256 : BitVec 32 := 1#32
  let v3179 : BitVec 32 := Scalar.muli v5 c1_i32_2256
  let v3180 : BitVec 32 := Scalar.addi c0_i32_2257 v3179
  v3180.toNat
def k0_mult23 (d0 : Dev nD) : BitVec 32 :=
  let c3712_i32_2272 : BitVec 32 := 3712#32
  let c0_i32_2271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2265 : BitVec 32 := 3#32
  let v3192 : BitVec 32 := Scalar.subi v2 c3_i32_2265
  let c16_i32_2266 : BitVec 32 := 16#32
  let v3193 : BitVec 32 := Scalar.addi v3192 c16_i32_2266
  let c8_i32_2267 : BitVec 32 := 8#32
  let v3194 : BitVec 32 := Scalar.remsi v3193 c8_i32_2267
  let c256_i32_2268 : BitVec 32 := 256#32
  let v3195 : BitVec 32 := Scalar.muli v3194 c256_i32_2268
  let c0_i32_2269 : BitVec 32 := 0#32
  let v3196 : BitVec 32 := Scalar.addi v3195 c0_i32_2269
  let c128_i32_2270 : BitVec 32 := 128#32
  let v3197 : BitVec 32 := Scalar.subi v3196 c128_i32_2270
  let v3198 : BitVec 32 := Scalar.maxsi c0_i32_2271 v3197
  let v3199 : BitVec 32 := Scalar.minsi c3712_i32_2272 v3198
  v3199
def k0_mult24 (d0 : Dev nD) : BitVec 32 :=
  let c3712_i32_2379 : BitVec 32 := 3712#32
  let c0_i32_2378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2262 : BitVec 32 := 3#32
  let v3189 : BitVec 32 := Scalar.subi v2 c3_i32_2262
  let c16_i32_2263 : BitVec 32 := 16#32
  let v3190 : BitVec 32 := Scalar.addi v3189 c16_i32_2263
  let c8_i32_2264 : BitVec 32 := 8#32
  let v3191 : BitVec 32 := Scalar.remsi v3190 c8_i32_2264
  let c256_i32_2375 : BitVec 32 := 256#32
  let v3319 : BitVec 32 := Scalar.muli v3191 c256_i32_2375
  let c0_i32_2376 : BitVec 32 := 0#32
  let v3320 : BitVec 32 := Scalar.addi v3319 c0_i32_2376
  let c128_i32_2377 : BitVec 32 := 128#32
  let v3321 : BitVec 32 := Scalar.subi v3320 c128_i32_2377
  let v3322 : BitVec 32 := Scalar.maxsi c0_i32_2378 v3321
  let v3323 : BitVec 32 := Scalar.minsi c3712_i32_2379 v3322
  v3323
def k0_mult25 (d0 : Dev nD) : BitVec 32 :=
  let c3712_i32_2437 : BitVec 32 := 3712#32
  let c0_i32_2436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m3_i32_2430 : BitVec 32 := 4294967293#32
  let v3473 : BitVec 32 := Scalar.subi v2 c_m3_i32_2430
  let c16_i32_2431 : BitVec 32 := 16#32
  let v3474 : BitVec 32 := Scalar.addi v3473 c16_i32_2431
  let c8_i32_2432 : BitVec 32 := 8#32
  let v3475 : BitVec 32 := Scalar.remsi v3474 c8_i32_2432
  let c256_i32_2433 : BitVec 32 := 256#32
  let v3476 : BitVec 32 := Scalar.muli v3475 c256_i32_2433
  let c128_i32_2434 : BitVec 32 := 128#32
  let v3477 : BitVec 32 := Scalar.addi v3476 c128_i32_2434
  let c128_i32_2435 : BitVec 32 := 128#32
  let v3478 : BitVec 32 := Scalar.subi v3477 c128_i32_2435
  let v3479 : BitVec 32 := Scalar.maxsi c0_i32_2436 v3478
  let v3480 : BitVec 32 := Scalar.minsi c3712_i32_2437 v3479
  v3480
def k0_mult26 (d0 : Dev nD) : BitVec 32 :=
  let c3712_i32_2544 : BitVec 32 := 3712#32
  let c0_i32_2543 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m3_i32_2427 : BitVec 32 := 4294967293#32
  let v3470 : BitVec 32 := Scalar.subi v2 c_m3_i32_2427
  let c16_i32_2428 : BitVec 32 := 16#32
  let v3471 : BitVec 32 := Scalar.addi v3470 c16_i32_2428
  let c8_i32_2429 : BitVec 32 := 8#32
  let v3472 : BitVec 32 := Scalar.remsi v3471 c8_i32_2429
  let c256_i32_2540 : BitVec 32 := 256#32
  let v3600 : BitVec 32 := Scalar.muli v3472 c256_i32_2540
  let c128_i32_2541 : BitVec 32 := 128#32
  let v3601 : BitVec 32 := Scalar.addi v3600 c128_i32_2541
  let c128_i32_2542 : BitVec 32 := 128#32
  let v3602 : BitVec 32 := Scalar.subi v3601 c128_i32_2542
  let v3603 : BitVec 32 := Scalar.maxsi c0_i32_2543 v3602
  let v3604 : BitVec 32 := Scalar.minsi c3712_i32_2544 v3603
  v3604
def k0_dev15 (d0 : Dev nD) : Nat :=
  let c0_i32_2620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2619 : BitVec 32 := 1#32
  let v3776 : BitVec 32 := Scalar.muli v7 c1_i32_2619
  let v3777 : BitVec 32 := Scalar.addi c0_i32_2620 v3776
  v3777.toNat
def k0_dev16 (d0 : Dev nD) : Nat :=
  let c0_i32_2631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2630 : BitVec 32 := 1#32
  let v3789 : BitVec 32 := Scalar.muli v5 c1_i32_2630
  let v3790 : BitVec 32 := Scalar.addi c0_i32_2631 v3789
  v3790.toNat
def k0_mult27 (d0 : Dev nD) : BitVec 32 :=
  let c3712_i32_2643 : BitVec 32 := 3712#32
  let c0_i32_2642 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2636 : BitVec 32 := 5#32
  let v3799 : BitVec 32 := Scalar.subi v2 c5_i32_2636
  let c16_i32_2637 : BitVec 32 := 16#32
  let v3800 : BitVec 32 := Scalar.addi v3799 c16_i32_2637
  let c8_i32_2638 : BitVec 32 := 8#32
  let v3801 : BitVec 32 := Scalar.remsi v3800 c8_i32_2638
  let c256_i32_2639 : BitVec 32 := 256#32
  let v3802 : BitVec 32 := Scalar.muli v3801 c256_i32_2639
  let c0_i32_2640 : BitVec 32 := 0#32
  let v3803 : BitVec 32 := Scalar.addi v3802 c0_i32_2640
  let c128_i32_2641 : BitVec 32 := 128#32
  let v3804 : BitVec 32 := Scalar.subi v3803 c128_i32_2641
  let v3805 : BitVec 32 := Scalar.maxsi c0_i32_2642 v3804
  let v3806 : BitVec 32 := Scalar.minsi c3712_i32_2643 v3805
  v3806
def k0_mult28 (d0 : Dev nD) : BitVec 32 :=
  let c3712_i32_2746 : BitVec 32 := 3712#32
  let c0_i32_2745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m5_i32 : BitVec 32 := 4294967291#32
  let v3920 : BitVec 32 := Scalar.subi v2 c_m5_i32
  let c16_i32_2740 : BitVec 32 := 16#32
  let v3921 : BitVec 32 := Scalar.addi v3920 c16_i32_2740
  let c8_i32_2741 : BitVec 32 := 8#32
  let v3922 : BitVec 32 := Scalar.remsi v3921 c8_i32_2741
  let c256_i32_2742 : BitVec 32 := 256#32
  let v3923 : BitVec 32 := Scalar.muli v3922 c256_i32_2742
  let c128_i32_2743 : BitVec 32 := 128#32
  let v3924 : BitVec 32 := Scalar.addi v3923 c128_i32_2743
  let c128_i32_2744 : BitVec 32 := 128#32
  let v3925 : BitVec 32 := Scalar.subi v3924 c128_i32_2744
  let v3926 : BitVec 32 := Scalar.maxsi c0_i32_2745 v3925
  let v3927 : BitVec 32 := Scalar.minsi c3712_i32_2746 v3926
  v3927
def k0_dev17 (d0 : Dev nD) : Nat :=
  let c0_i32_2867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_2866 : BitVec 32 := 1#32
  let v4066 : BitVec 32 := Scalar.muli v7 c1_i32_2866
  let v4067 : BitVec 32 := Scalar.addi c0_i32_2867 v4066
  v4067.toNat
def k0_dev18 (d0 : Dev nD) : Nat :=
  let c0_i32_2896 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_2895 : BitVec 32 := 1#32
  let v4101 : BitVec 32 := Scalar.muli v5 c1_i32_2895
  let v4102 : BitVec 32 := Scalar.addi c0_i32_2896 v4101
  v4102.toNat
def k0_mult29 (d0 : Dev nD) : BitVec 32 :=
  let c3712_i32_2911 : BitVec 32 := 3712#32
  let c0_i32_2910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2904 : BitVec 32 := 4#32
  let v4114 : BitVec 32 := Scalar.subi v2 c4_i32_2904
  let c16_i32_2905 : BitVec 32 := 16#32
  let v4115 : BitVec 32 := Scalar.addi v4114 c16_i32_2905
  let c8_i32_2906 : BitVec 32 := 8#32
  let v4116 : BitVec 32 := Scalar.remsi v4115 c8_i32_2906
  let c256_i32_2907 : BitVec 32 := 256#32
  let v4117 : BitVec 32 := Scalar.muli v4116 c256_i32_2907
  let c0_i32_2908 : BitVec 32 := 0#32
  let v4118 : BitVec 32 := Scalar.addi v4117 c0_i32_2908
  let c128_i32_2909 : BitVec 32 := 128#32
  let v4119 : BitVec 32 := Scalar.subi v4118 c128_i32_2909
  let v4120 : BitVec 32 := Scalar.maxsi c0_i32_2910 v4119
  let v4121 : BitVec 32 := Scalar.minsi c3712_i32_2911 v4120
  v4121
def k0_mult30 (d0 : Dev nD) : BitVec 32 :=
  let c3712_i32_3018 : BitVec 32 := 3712#32
  let c0_i32_3017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2901 : BitVec 32 := 4#32
  let v4111 : BitVec 32 := Scalar.subi v2 c4_i32_2901
  let c16_i32_2902 : BitVec 32 := 16#32
  let v4112 : BitVec 32 := Scalar.addi v4111 c16_i32_2902
  let c8_i32_2903 : BitVec 32 := 8#32
  let v4113 : BitVec 32 := Scalar.remsi v4112 c8_i32_2903
  let c256_i32_3014 : BitVec 32 := 256#32
  let v4241 : BitVec 32 := Scalar.muli v4113 c256_i32_3014
  let c0_i32_3015 : BitVec 32 := 0#32
  let v4242 : BitVec 32 := Scalar.addi v4241 c0_i32_3015
  let c128_i32_3016 : BitVec 32 := 128#32
  let v4243 : BitVec 32 := Scalar.subi v4242 c128_i32_3016
  let v4244 : BitVec 32 := Scalar.maxsi c0_i32_3017 v4243
  let v4245 : BitVec 32 := Scalar.minsi c3712_i32_3018 v4244
  v4245
def k0_mult31 (d0 : Dev nD) : BitVec 32 :=
  let c3712_i32_3076 : BitVec 32 := 3712#32
  let c0_i32_3075 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m4_i32_3069 : BitVec 32 := 4294967292#32
  let v4395 : BitVec 32 := Scalar.subi v2 c_m4_i32_3069
  let c16_i32_3070 : BitVec 32 := 16#32
  let v4396 : BitVec 32 := Scalar.addi v4395 c16_i32_3070
  let c8_i32_3071 : BitVec 32 := 8#32
  let v4397 : BitVec 32 := Scalar.remsi v4396 c8_i32_3071
  let c256_i32_3072 : BitVec 32 := 256#32
  let v4398 : BitVec 32 := Scalar.muli v4397 c256_i32_3072
  let c128_i32_3073 : BitVec 32 := 128#32
  let v4399 : BitVec 32 := Scalar.addi v4398 c128_i32_3073
  let c128_i32_3074 : BitVec 32 := 128#32
  let v4400 : BitVec 32 := Scalar.subi v4399 c128_i32_3074
  let v4401 : BitVec 32 := Scalar.maxsi c0_i32_3075 v4400
  let v4402 : BitVec 32 := Scalar.minsi c3712_i32_3076 v4401
  v4402
def k0_mult32 (d0 : Dev nD) : BitVec 32 :=
  let c3712_i32_3183 : BitVec 32 := 3712#32
  let c0_i32_3182 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m4_i32_3066 : BitVec 32 := 4294967292#32
  let v4392 : BitVec 32 := Scalar.subi v2 c_m4_i32_3066
  let c16_i32_3067 : BitVec 32 := 16#32
  let v4393 : BitVec 32 := Scalar.addi v4392 c16_i32_3067
  let c8_i32_3068 : BitVec 32 := 8#32
  let v4394 : BitVec 32 := Scalar.remsi v4393 c8_i32_3068
  let c256_i32_3179 : BitVec 32 := 256#32
  let v4522 : BitVec 32 := Scalar.muli v4394 c256_i32_3179
  let c128_i32_3180 : BitVec 32 := 128#32
  let v4523 : BitVec 32 := Scalar.addi v4522 c128_i32_3180
  let c128_i32_3181 : BitVec 32 := 128#32
  let v4524 : BitVec 32 := Scalar.subi v4523 c128_i32_3181
  let v4525 : BitVec 32 := Scalar.maxsi c0_i32_3182 v4524
  let v4526 : BitVec 32 := Scalar.minsi c3712_i32_3183 v4525
  v4526
def k0_dev19 (d0 : Dev nD) : Nat :=
  let c0_i32_3259 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3258 : BitVec 32 := 1#32
  let v4698 : BitVec 32 := Scalar.muli v7 c1_i32_3258
  let v4699 : BitVec 32 := Scalar.addi c0_i32_3259 v4698
  v4699.toNat
def k0_dev20 (d0 : Dev nD) : Nat :=
  let c0_i32_3270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3269 : BitVec 32 := 1#32
  let v4711 : BitVec 32 := Scalar.muli v5 c1_i32_3269
  let v4712 : BitVec 32 := Scalar.addi c0_i32_3270 v4711
  v4712.toNat
def k0_mult33 (d0 : Dev nD) : BitVec 32 :=
  let c3712_i32_3282 : BitVec 32 := 3712#32
  let c0_i32_3281 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3275 : BitVec 32 := 6#32
  let v4721 : BitVec 32 := Scalar.subi v2 c6_i32_3275
  let c16_i32_3276 : BitVec 32 := 16#32
  let v4722 : BitVec 32 := Scalar.addi v4721 c16_i32_3276
  let c8_i32_3277 : BitVec 32 := 8#32
  let v4723 : BitVec 32 := Scalar.remsi v4722 c8_i32_3277
  let c256_i32_3278 : BitVec 32 := 256#32
  let v4724 : BitVec 32 := Scalar.muli v4723 c256_i32_3278
  let c0_i32_3279 : BitVec 32 := 0#32
  let v4725 : BitVec 32 := Scalar.addi v4724 c0_i32_3279
  let c128_i32_3280 : BitVec 32 := 128#32
  let v4726 : BitVec 32 := Scalar.subi v4725 c128_i32_3280
  let v4727 : BitVec 32 := Scalar.maxsi c0_i32_3281 v4726
  let v4728 : BitVec 32 := Scalar.minsi c3712_i32_3282 v4727
  v4728
def k0_mult34 (d0 : Dev nD) : BitVec 32 :=
  let c3712_i32_3385 : BitVec 32 := 3712#32
  let c0_i32_3384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m6_i32 : BitVec 32 := 4294967290#32
  let v4842 : BitVec 32 := Scalar.subi v2 c_m6_i32
  let c16_i32_3379 : BitVec 32 := 16#32
  let v4843 : BitVec 32 := Scalar.addi v4842 c16_i32_3379
  let c8_i32_3380 : BitVec 32 := 8#32
  let v4844 : BitVec 32 := Scalar.remsi v4843 c8_i32_3380
  let c256_i32_3381 : BitVec 32 := 256#32
  let v4845 : BitVec 32 := Scalar.muli v4844 c256_i32_3381
  let c128_i32_3382 : BitVec 32 := 128#32
  let v4846 : BitVec 32 := Scalar.addi v4845 c128_i32_3382
  let c128_i32_3383 : BitVec 32 := 128#32
  let v4847 : BitVec 32 := Scalar.subi v4846 c128_i32_3383
  let v4848 : BitVec 32 := Scalar.maxsi c0_i32_3384 v4847
  let v4849 : BitVec 32 := Scalar.minsi c3712_i32_3385 v4848
  v4849
def k0_dev21 (d0 : Dev nD) : Nat :=
  let c0_i32_3505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3504 : BitVec 32 := 1#32
  let v4988 : BitVec 32 := Scalar.muli v7 c1_i32_3504
  let v4989 : BitVec 32 := Scalar.addi c0_i32_3505 v4988
  v4989.toNat
def k0_dev22 (d0 : Dev nD) : Nat :=
  let c0_i32_3534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3533 : BitVec 32 := 1#32
  let v5023 : BitVec 32 := Scalar.muli v5 c1_i32_3533
  let v5024 : BitVec 32 := Scalar.addi c0_i32_3534 v5023
  v5024.toNat
def k0_mult35 (d0 : Dev nD) : BitVec 32 :=
  let c3712_i32_3549 : BitVec 32 := 3712#32
  let c0_i32_3548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3542 : BitVec 32 := 5#32
  let v5036 : BitVec 32 := Scalar.subi v2 c5_i32_3542
  let c16_i32_3543 : BitVec 32 := 16#32
  let v5037 : BitVec 32 := Scalar.addi v5036 c16_i32_3543
  let c8_i32_3544 : BitVec 32 := 8#32
  let v5038 : BitVec 32 := Scalar.remsi v5037 c8_i32_3544
  let c256_i32_3545 : BitVec 32 := 256#32
  let v5039 : BitVec 32 := Scalar.muli v5038 c256_i32_3545
  let c0_i32_3546 : BitVec 32 := 0#32
  let v5040 : BitVec 32 := Scalar.addi v5039 c0_i32_3546
  let c128_i32_3547 : BitVec 32 := 128#32
  let v5041 : BitVec 32 := Scalar.subi v5040 c128_i32_3547
  let v5042 : BitVec 32 := Scalar.maxsi c0_i32_3548 v5041
  let v5043 : BitVec 32 := Scalar.minsi c3712_i32_3549 v5042
  v5043
def k0_mult36 (d0 : Dev nD) : BitVec 32 :=
  let c3712_i32_3656 : BitVec 32 := 3712#32
  let c0_i32_3655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3539 : BitVec 32 := 5#32
  let v5033 : BitVec 32 := Scalar.subi v2 c5_i32_3539
  let c16_i32_3540 : BitVec 32 := 16#32
  let v5034 : BitVec 32 := Scalar.addi v5033 c16_i32_3540
  let c8_i32_3541 : BitVec 32 := 8#32
  let v5035 : BitVec 32 := Scalar.remsi v5034 c8_i32_3541
  let c256_i32_3652 : BitVec 32 := 256#32
  let v5163 : BitVec 32 := Scalar.muli v5035 c256_i32_3652
  let c0_i32_3653 : BitVec 32 := 0#32
  let v5164 : BitVec 32 := Scalar.addi v5163 c0_i32_3653
  let c128_i32_3654 : BitVec 32 := 128#32
  let v5165 : BitVec 32 := Scalar.subi v5164 c128_i32_3654
  let v5166 : BitVec 32 := Scalar.maxsi c0_i32_3655 v5165
  let v5167 : BitVec 32 := Scalar.minsi c3712_i32_3656 v5166
  v5167
def k0_mult37 (d0 : Dev nD) : BitVec 32 :=
  let c3712_i32_3714 : BitVec 32 := 3712#32
  let c0_i32_3713 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m5_i32_3707 : BitVec 32 := 4294967291#32
  let v5317 : BitVec 32 := Scalar.subi v2 c_m5_i32_3707
  let c16_i32_3708 : BitVec 32 := 16#32
  let v5318 : BitVec 32 := Scalar.addi v5317 c16_i32_3708
  let c8_i32_3709 : BitVec 32 := 8#32
  let v5319 : BitVec 32 := Scalar.remsi v5318 c8_i32_3709
  let c256_i32_3710 : BitVec 32 := 256#32
  let v5320 : BitVec 32 := Scalar.muli v5319 c256_i32_3710
  let c128_i32_3711 : BitVec 32 := 128#32
  let v5321 : BitVec 32 := Scalar.addi v5320 c128_i32_3711
  let c128_i32_3712 : BitVec 32 := 128#32
  let v5322 : BitVec 32 := Scalar.subi v5321 c128_i32_3712
  let v5323 : BitVec 32 := Scalar.maxsi c0_i32_3713 v5322
  let v5324 : BitVec 32 := Scalar.minsi c3712_i32_3714 v5323
  v5324
def k0_mult38 (d0 : Dev nD) : BitVec 32 :=
  let c3712_i32_3821 : BitVec 32 := 3712#32
  let c0_i32_3820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m5_i32_3704 : BitVec 32 := 4294967291#32
  let v5314 : BitVec 32 := Scalar.subi v2 c_m5_i32_3704
  let c16_i32_3705 : BitVec 32 := 16#32
  let v5315 : BitVec 32 := Scalar.addi v5314 c16_i32_3705
  let c8_i32_3706 : BitVec 32 := 8#32
  let v5316 : BitVec 32 := Scalar.remsi v5315 c8_i32_3706
  let c256_i32_3817 : BitVec 32 := 256#32
  let v5444 : BitVec 32 := Scalar.muli v5316 c256_i32_3817
  let c128_i32_3818 : BitVec 32 := 128#32
  let v5445 : BitVec 32 := Scalar.addi v5444 c128_i32_3818
  let c128_i32_3819 : BitVec 32 := 128#32
  let v5446 : BitVec 32 := Scalar.subi v5445 c128_i32_3819
  let v5447 : BitVec 32 := Scalar.maxsi c0_i32_3820 v5446
  let v5448 : BitVec 32 := Scalar.minsi c3712_i32_3821 v5447
  v5448
def k0_dev23 (d0 : Dev nD) : Nat :=
  let c0_i32_3897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_3896 : BitVec 32 := 1#32
  let v5620 : BitVec 32 := Scalar.muli v7 c1_i32_3896
  let v5621 : BitVec 32 := Scalar.addi c0_i32_3897 v5620
  v5621.toNat
def k0_dev24 (d0 : Dev nD) : Nat :=
  let c0_i32_3908 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_3907 : BitVec 32 := 1#32
  let v5633 : BitVec 32 := Scalar.muli v5 c1_i32_3907
  let v5634 : BitVec 32 := Scalar.addi c0_i32_3908 v5633
  v5634.toNat
def k0_mult39 (d0 : Dev nD) : BitVec 32 :=
  let c3712_i32_3920 : BitVec 32 := 3712#32
  let c0_i32_3919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3913 : BitVec 32 := 7#32
  let v5643 : BitVec 32 := Scalar.subi v2 c7_i32_3913
  let c16_i32_3914 : BitVec 32 := 16#32
  let v5644 : BitVec 32 := Scalar.addi v5643 c16_i32_3914
  let c8_i32_3915 : BitVec 32 := 8#32
  let v5645 : BitVec 32 := Scalar.remsi v5644 c8_i32_3915
  let c256_i32_3916 : BitVec 32 := 256#32
  let v5646 : BitVec 32 := Scalar.muli v5645 c256_i32_3916
  let c0_i32_3917 : BitVec 32 := 0#32
  let v5647 : BitVec 32 := Scalar.addi v5646 c0_i32_3917
  let c128_i32_3918 : BitVec 32 := 128#32
  let v5648 : BitVec 32 := Scalar.subi v5647 c128_i32_3918
  let v5649 : BitVec 32 := Scalar.maxsi c0_i32_3919 v5648
  let v5650 : BitVec 32 := Scalar.minsi c3712_i32_3920 v5649
  v5650
def k0_mult40 (d0 : Dev nD) : BitVec 32 :=
  let c3712_i32_4023 : BitVec 32 := 3712#32
  let c0_i32_4022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m7_i32 : BitVec 32 := 4294967289#32
  let v5764 : BitVec 32 := Scalar.subi v2 c_m7_i32
  let c16_i32_4017 : BitVec 32 := 16#32
  let v5765 : BitVec 32 := Scalar.addi v5764 c16_i32_4017
  let c8_i32_4018 : BitVec 32 := 8#32
  let v5766 : BitVec 32 := Scalar.remsi v5765 c8_i32_4018
  let c256_i32_4019 : BitVec 32 := 256#32
  let v5767 : BitVec 32 := Scalar.muli v5766 c256_i32_4019
  let c128_i32_4020 : BitVec 32 := 128#32
  let v5768 : BitVec 32 := Scalar.addi v5767 c128_i32_4020
  let c128_i32_4021 : BitVec 32 := 128#32
  let v5769 : BitVec 32 := Scalar.subi v5768 c128_i32_4021
  let v5770 : BitVec 32 := Scalar.maxsi c0_i32_4022 v5769
  let v5771 : BitVec 32 := Scalar.minsi c3712_i32_4023 v5770
  v5771
def k0_dev25 (d0 : Dev nD) : Nat :=
  let c0_i32_4143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4142 : BitVec 32 := 1#32
  let v5910 : BitVec 32 := Scalar.muli v7 c1_i32_4142
  let v5911 : BitVec 32 := Scalar.addi c0_i32_4143 v5910
  v5911.toNat
def k0_dev26 (d0 : Dev nD) : Nat :=
  let c0_i32_4172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4171 : BitVec 32 := 1#32
  let v5945 : BitVec 32 := Scalar.muli v5 c1_i32_4171
  let v5946 : BitVec 32 := Scalar.addi c0_i32_4172 v5945
  v5946.toNat
def k0_mult41 (d0 : Dev nD) : BitVec 32 :=
  let c3712_i32_4187 : BitVec 32 := 3712#32
  let c0_i32_4186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_4180 : BitVec 32 := 6#32
  let v5958 : BitVec 32 := Scalar.subi v2 c6_i32_4180
  let c16_i32_4181 : BitVec 32 := 16#32
  let v5959 : BitVec 32 := Scalar.addi v5958 c16_i32_4181
  let c8_i32_4182 : BitVec 32 := 8#32
  let v5960 : BitVec 32 := Scalar.remsi v5959 c8_i32_4182
  let c256_i32_4183 : BitVec 32 := 256#32
  let v5961 : BitVec 32 := Scalar.muli v5960 c256_i32_4183
  let c0_i32_4184 : BitVec 32 := 0#32
  let v5962 : BitVec 32 := Scalar.addi v5961 c0_i32_4184
  let c128_i32_4185 : BitVec 32 := 128#32
  let v5963 : BitVec 32 := Scalar.subi v5962 c128_i32_4185
  let v5964 : BitVec 32 := Scalar.maxsi c0_i32_4186 v5963
  let v5965 : BitVec 32 := Scalar.minsi c3712_i32_4187 v5964
  v5965
def k0_mult42 (d0 : Dev nD) : BitVec 32 :=
  let c3712_i32_4294 : BitVec 32 := 3712#32
  let c0_i32_4293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_4177 : BitVec 32 := 6#32
  let v5955 : BitVec 32 := Scalar.subi v2 c6_i32_4177
  let c16_i32_4178 : BitVec 32 := 16#32
  let v5956 : BitVec 32 := Scalar.addi v5955 c16_i32_4178
  let c8_i32_4179 : BitVec 32 := 8#32
  let v5957 : BitVec 32 := Scalar.remsi v5956 c8_i32_4179
  let c256_i32_4290 : BitVec 32 := 256#32
  let v6085 : BitVec 32 := Scalar.muli v5957 c256_i32_4290
  let c0_i32_4291 : BitVec 32 := 0#32
  let v6086 : BitVec 32 := Scalar.addi v6085 c0_i32_4291
  let c128_i32_4292 : BitVec 32 := 128#32
  let v6087 : BitVec 32 := Scalar.subi v6086 c128_i32_4292
  let v6088 : BitVec 32 := Scalar.maxsi c0_i32_4293 v6087
  let v6089 : BitVec 32 := Scalar.minsi c3712_i32_4294 v6088
  v6089
def k0_mult43 (d0 : Dev nD) : BitVec 32 :=
  let c3712_i32_4352 : BitVec 32 := 3712#32
  let c0_i32_4351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m6_i32_4345 : BitVec 32 := 4294967290#32
  let v6239 : BitVec 32 := Scalar.subi v2 c_m6_i32_4345
  let c16_i32_4346 : BitVec 32 := 16#32
  let v6240 : BitVec 32 := Scalar.addi v6239 c16_i32_4346
  let c8_i32_4347 : BitVec 32 := 8#32
  let v6241 : BitVec 32 := Scalar.remsi v6240 c8_i32_4347
  let c256_i32_4348 : BitVec 32 := 256#32
  let v6242 : BitVec 32 := Scalar.muli v6241 c256_i32_4348
  let c128_i32_4349 : BitVec 32 := 128#32
  let v6243 : BitVec 32 := Scalar.addi v6242 c128_i32_4349
  let c128_i32_4350 : BitVec 32 := 128#32
  let v6244 : BitVec 32 := Scalar.subi v6243 c128_i32_4350
  let v6245 : BitVec 32 := Scalar.maxsi c0_i32_4351 v6244
  let v6246 : BitVec 32 := Scalar.minsi c3712_i32_4352 v6245
  v6246
def k0_mult44 (d0 : Dev nD) : BitVec 32 :=
  let c3712_i32_4459 : BitVec 32 := 3712#32
  let c0_i32_4458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m6_i32_4342 : BitVec 32 := 4294967290#32
  let v6236 : BitVec 32 := Scalar.subi v2 c_m6_i32_4342
  let c16_i32_4343 : BitVec 32 := 16#32
  let v6237 : BitVec 32 := Scalar.addi v6236 c16_i32_4343
  let c8_i32_4344 : BitVec 32 := 8#32
  let v6238 : BitVec 32 := Scalar.remsi v6237 c8_i32_4344
  let c256_i32_4455 : BitVec 32 := 256#32
  let v6366 : BitVec 32 := Scalar.muli v6238 c256_i32_4455
  let c128_i32_4456 : BitVec 32 := 128#32
  let v6367 : BitVec 32 := Scalar.addi v6366 c128_i32_4456
  let c128_i32_4457 : BitVec 32 := 128#32
  let v6368 : BitVec 32 := Scalar.subi v6367 c128_i32_4457
  let v6369 : BitVec 32 := Scalar.maxsi c0_i32_4458 v6368
  let v6370 : BitVec 32 := Scalar.minsi c3712_i32_4459 v6369
  v6370
def k0_dev27 (d0 : Dev nD) : Nat :=
  let c0_i32_4552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4551 : BitVec 32 := 1#32
  let v6564 : BitVec 32 := Scalar.muli v7 c1_i32_4551
  let v6565 : BitVec 32 := Scalar.addi c0_i32_4552 v6564
  v6565.toNat
def k0_dev28 (d0 : Dev nD) : Nat :=
  let c0_i32_4581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4580 : BitVec 32 := 1#32
  let v6599 : BitVec 32 := Scalar.muli v5 c1_i32_4580
  let v6600 : BitVec 32 := Scalar.addi c0_i32_4581 v6599
  v6600.toNat
def k0_mult45 (d0 : Dev nD) : BitVec 32 :=
  let c3712_i32_4596 : BitVec 32 := 3712#32
  let c0_i32_4595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_4589 : BitVec 32 := 7#32
  let v6612 : BitVec 32 := Scalar.subi v2 c7_i32_4589
  let c16_i32_4590 : BitVec 32 := 16#32
  let v6613 : BitVec 32 := Scalar.addi v6612 c16_i32_4590
  let c8_i32_4591 : BitVec 32 := 8#32
  let v6614 : BitVec 32 := Scalar.remsi v6613 c8_i32_4591
  let c256_i32_4592 : BitVec 32 := 256#32
  let v6615 : BitVec 32 := Scalar.muli v6614 c256_i32_4592
  let c0_i32_4593 : BitVec 32 := 0#32
  let v6616 : BitVec 32 := Scalar.addi v6615 c0_i32_4593
  let c128_i32_4594 : BitVec 32 := 128#32
  let v6617 : BitVec 32 := Scalar.subi v6616 c128_i32_4594
  let v6618 : BitVec 32 := Scalar.maxsi c0_i32_4595 v6617
  let v6619 : BitVec 32 := Scalar.minsi c3712_i32_4596 v6618
  v6619
def k0_mult46 (d0 : Dev nD) : BitVec 32 :=
  let c3712_i32_4703 : BitVec 32 := 3712#32
  let c0_i32_4702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_4586 : BitVec 32 := 7#32
  let v6609 : BitVec 32 := Scalar.subi v2 c7_i32_4586
  let c16_i32_4587 : BitVec 32 := 16#32
  let v6610 : BitVec 32 := Scalar.addi v6609 c16_i32_4587
  let c8_i32_4588 : BitVec 32 := 8#32
  let v6611 : BitVec 32 := Scalar.remsi v6610 c8_i32_4588
  let c256_i32_4699 : BitVec 32 := 256#32
  let v6739 : BitVec 32 := Scalar.muli v6611 c256_i32_4699
  let c0_i32_4700 : BitVec 32 := 0#32
  let v6740 : BitVec 32 := Scalar.addi v6739 c0_i32_4700
  let c128_i32_4701 : BitVec 32 := 128#32
  let v6741 : BitVec 32 := Scalar.subi v6740 c128_i32_4701
  let v6742 : BitVec 32 := Scalar.maxsi c0_i32_4702 v6741
  let v6743 : BitVec 32 := Scalar.minsi c3712_i32_4703 v6742
  v6743
def k0_mult47 (d0 : Dev nD) : BitVec 32 :=
  let c3712_i32_4761 : BitVec 32 := 3712#32
  let c0_i32_4760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m7_i32_4754 : BitVec 32 := 4294967289#32
  let v6893 : BitVec 32 := Scalar.subi v2 c_m7_i32_4754
  let c16_i32_4755 : BitVec 32 := 16#32
  let v6894 : BitVec 32 := Scalar.addi v6893 c16_i32_4755
  let c8_i32_4756 : BitVec 32 := 8#32
  let v6895 : BitVec 32 := Scalar.remsi v6894 c8_i32_4756
  let c256_i32_4757 : BitVec 32 := 256#32
  let v6896 : BitVec 32 := Scalar.muli v6895 c256_i32_4757
  let c128_i32_4758 : BitVec 32 := 128#32
  let v6897 : BitVec 32 := Scalar.addi v6896 c128_i32_4758
  let c128_i32_4759 : BitVec 32 := 128#32
  let v6898 : BitVec 32 := Scalar.subi v6897 c128_i32_4759
  let v6899 : BitVec 32 := Scalar.maxsi c0_i32_4760 v6898
  let v6900 : BitVec 32 := Scalar.minsi c3712_i32_4761 v6899
  v6900
def k0_mult48 (d0 : Dev nD) : BitVec 32 :=
  let c3712_i32_4868 : BitVec 32 := 3712#32
  let c0_i32_4867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c_m7_i32_4751 : BitVec 32 := 4294967289#32
  let v6890 : BitVec 32 := Scalar.subi v2 c_m7_i32_4751
  let c16_i32_4752 : BitVec 32 := 16#32
  let v6891 : BitVec 32 := Scalar.addi v6890 c16_i32_4752
  let c8_i32_4753 : BitVec 32 := 8#32
  let v6892 : BitVec 32 := Scalar.remsi v6891 c8_i32_4753
  let c256_i32_4864 : BitVec 32 := 256#32
  let v7020 : BitVec 32 := Scalar.muli v6892 c256_i32_4864
  let c128_i32_4865 : BitVec 32 := 128#32
  let v7021 : BitVec 32 := Scalar.addi v7020 c128_i32_4865
  let c128_i32_4866 : BitVec 32 := 128#32
  let v7022 : BitVec 32 := Scalar.subi v7021 c128_i32_4866
  let v7023 : BitVec 32 := Scalar.maxsi c0_i32_4867 v7022
  let v7024 : BitVec 32 := Scalar.minsi c3712_i32_4868 v7023
  v7024
def k0_dev29 (d0 : Dev nD) : Nat :=
  let c0_i32_4939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_4938 : BitVec 32 := 1#32
  let v7196 : BitVec 32 := Scalar.muli v7 c1_i32_4938
  let v7197 : BitVec 32 := Scalar.addi c0_i32_4939 v7196
  v7197.toNat
def k0_dev30 (d0 : Dev nD) : Nat :=
  let c0_i32_4968 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_4967 : BitVec 32 := 1#32
  let v7231 : BitVec 32 := Scalar.muli v5 c1_i32_4967
  let v7232 : BitVec 32 := Scalar.addi c0_i32_4968 v7231
  v7232.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S1x2048x8192 : Shape := ⟨3, ![1, 2048, 8192]⟩
abbrev S1x2048x64x128 : Shape := ⟨4, ![1, 2048, 64, 128]⟩
abbrev S2048 : Shape := ⟨1, ![2048]⟩
abbrev S2048x1 : Shape := ⟨2, ![2048, 1]⟩
abbrev S4096 : Shape := ⟨1, ![4096]⟩
abbrev S1x4096 : Shape := ⟨2, ![1, 4096]⟩
abbrev S2048x4096 : Shape := ⟨2, ![2048, 4096]⟩
abbrev S_ : Shape := ⟨0, ![]⟩
abbrev S1x64x2048x4096 : Shape := ⟨4, ![1, 64, 2048, 4096]⟩
abbrev S1x1x2048x4096 : Shape := ⟨4, ![1, 1, 2048, 4096]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 57
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1x4096x64x128, .f32⟩
  | .hbm, ⟨3, _⟩ => ⟨S1x4096x64x128, .f32⟩
  | .hbm, ⟨4, _⟩ => ⟨S8192x1024, .f32⟩
  | .hbm, ⟨5, _⟩ => ⟨S1x2048x8192, .f32⟩
  | .hbm, ⟨6, _⟩ => ⟨S1x2048x64x128, .f32⟩
  | .hbm, ⟨7, _⟩ => ⟨S2048, .i32⟩
  | .hbm, ⟨8, _⟩ => ⟨S2048x1, .i32⟩
  | .hbm, ⟨9, _⟩ => ⟨S4096, .i32⟩
  | .hbm, ⟨10, _⟩ => ⟨S1x4096, .i32⟩
  | .hbm, ⟨11, _⟩ => ⟨S2048x4096, .i32⟩
  | .hbm, ⟨12, _⟩ => ⟨S2048x4096, .i32⟩
  | .hbm, ⟨13, _⟩ => ⟨S2048x4096, .i32⟩
  | .hbm, ⟨14, _⟩ => ⟨S2048x4096, .i32⟩
  | .hbm, ⟨15, _⟩ => ⟨S_, .i32⟩
  | .hbm, ⟨16, _⟩ => ⟨S2048x4096, .i32⟩
  | .hbm, ⟨17, _⟩ => ⟨S2048x4096, .i1⟩
  | .hbm, ⟨18, _⟩ => ⟨S1x64x2048x4096, .f32⟩
  | .hbm, ⟨19, _⟩ => ⟨S_, .f32⟩
  | .hbm, ⟨20, _⟩ => ⟨S1x64x2048x4096, .f32⟩
  | .hbm, ⟨21, _⟩ => ⟨S1x64x2048x4096, .f32⟩
  | .hbm, ⟨22, _⟩ => ⟨S1x1x2048x4096, .i1⟩
  | .hbm, ⟨23, _⟩ => ⟨S_, .f32⟩
  | .hbm, ⟨24, _⟩ => ⟨S_, .f32⟩
  | .hbm, ⟨25, _⟩ => ⟨S1x64x2048x4096, .i1⟩
  | .hbm, ⟨26, _⟩ => ⟨S1x64x2048x4096, .f32⟩
  | .hbm, ⟨27, _⟩ => ⟨S1x64x2048x4096, .f32⟩
  | .hbm, ⟨28, _⟩ => ⟨S_, .f32⟩
  | .hbm, ⟨29, _⟩ => ⟨S1x64x2048, .f32⟩
  | .hbm, ⟨30, _⟩ => ⟨S1x64x2048x1, .f32⟩
  | .hbm, ⟨31, _⟩ => ⟨S1x64x2048x4096, .f32⟩
  | .hbm, ⟨32, _⟩ => ⟨S1x64x2048x4096, .f32⟩
  | .hbm, ⟨33, _⟩ => ⟨S1x64x2048x4096, .f32⟩
  | .hbm, ⟨34, _⟩ => ⟨S_, .i1⟩
  | .hbm, ⟨35, _⟩ => ⟨S2048, .i1⟩
  | .hbm, ⟨36, _⟩ => ⟨S1x1x2048x1, .i1⟩
  | .hbm, ⟨37, _⟩ => ⟨S_, .f32⟩
  | .hbm, ⟨38, _⟩ => ⟨S1x64x2048, .f32⟩
  | .hbm, ⟨39, _⟩ => ⟨S1x64x2048x1, .f32⟩
  | .hbm, ⟨40, _⟩ => ⟨S_, .f32⟩
  | .hbm, ⟨41, _⟩ => ⟨S_, .f32⟩
  | .hbm, ⟨42, _⟩ => ⟨S1x64x2048x1, .i1⟩
  | .hbm, ⟨43, _⟩ => ⟨S1x64x2048x1, .f32⟩
  | .hbm, ⟨44, _⟩ => ⟨S1x64x2048x1, .f32⟩
  | .hbm, ⟨45, _⟩ => ⟨S1x64x2048x4096, .f32⟩
  | .hbm, ⟨46, _⟩ => ⟨S1x64x2048x4096, .f32⟩
  | .hbm, ⟨47, _⟩ => ⟨S1x1x2048x1, .i1⟩
  | .hbm, ⟨48, _⟩ => ⟨S_, .f32⟩
  | .hbm, ⟨49, _⟩ => ⟨S_, .f32⟩
  | .hbm, ⟨50, _⟩ => ⟨S1x64x2048x4096, .i1⟩
  | .hbm, ⟨51, _⟩ => ⟨S1x64x2048x4096, .f32⟩
  | .hbm, ⟨52, _⟩ => ⟨S1x64x2048x4096, .f32⟩
  | .hbm, ⟨53, _⟩ => ⟨S1x64x128x2048, .f32⟩
  | .hbm, ⟨54, _⟩ => ⟨S1x2048x64x128, .f32⟩
  | .hbm, ⟨55, _⟩ => ⟨S1x2048x8192, .f32⟩
  | .hbm, ⟨56, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Body.lean ====
/- The kernel body, restated once for every ring, ring step and head: `body c` runs, on device `c`, the
   operations `cc0_body` runs, in its order, with the two rings' buffers, semaphores and constants picked by
   a ring index (`0`: blocks travel to the right neighbour, `1`: to the left). -/
module

public import proofs.«01_k».proof.Proof.Gen.KernelIdeal
public import proofs.«01_k».proof.Proof.Gen.KernelIdeal.Points
public import Idealize.ShloMosaic.Lib.Pipeline.Regions

@[expose] public section

noncomputable section

namespace Cert.KernelIdeal.Run

open Idealize.ShloMosaic Idealize.ShloMosaic.TcCoe
open Idealize.SL Idealize.SL.Sem
open Cert.KernelIdeal
open Cert.KernelIdeal.Facts₀ Cert.KernelIdeal.Facts

variable {F : FTy → Type} [FloatOps F] [Named F]

/-! ## The two rings' constants, buffers and semaphores -/

/-- The constant a ring subtracts from the device's position at distance `h`: `h` on ring 0, `-h` on ring 1. -/
def dist (r : Fin 2) (h : ℕ) : BitVec 32 := match r with
  | 0 => BitVec.ofNat 32 h
  | 1 => BitVec.ofNat 32 (4294967296 - h)
/-- The first row, inside a device's 256, of the half a ring carries. -/
def half (r : Fin 2) : BitVec 32 := match r with
  | 0 => 0#32
  | 1 => 128#32
/-- The neighbour a ring sends to. -/
def tgt (r : Fin 2) (c : Dev nD) : Dev nD := match r with
  | 0 => ⟨k0_dev3 c, k0_dev3_lt c⟩
  | 1 => ⟨k0_dev4 c, k0_dev4_lt c⟩

/-- The gathered blocks of x. -/
def xf (r : Fin 2) : Memref sig .tc .vmem S8x128x1024 .bf16 := match r with
  | 0 => Memref.whole cc0_scratch0
  | 1 => Memref.whole cc0_scratch1
/-- The products, a block per device's rows. -/
def pa (r : Fin 2) : Memref sig .tc .vmem S8x128x1024 .bf16 := match r with
  | 0 => Memref.whole cc0_scratch2
  | 1 => Memref.whole cc0_scratch3
/-- The received products. -/
def rr (r : Fin 2) : Memref sig .tc .vmem S7x128x1024 .bf16 := match r with
  | 0 => Memref.whole cc0_scratch4
  | 1 => Memref.whole cc0_scratch5
/-- The windows of keys (`kv = 0`) and of values (`kv = 1`). -/
def wb (r kv : Fin 2) : Memref sig .tc .vmem S2x384x1024 .f32 := match r, kv with
  | 0, 0 => Memref.whole cc0_scratch6
  | 0, 1 => Memref.whole cc0_scratch7
  | 1, 0 => Memref.whole cc0_scratch8
  | 1, 1 => Memref.whole cc0_scratch9
/-- The keys and the values themselves. -/
def hb (kv : Fin 2) : Memref sig .tc .hbm S4096x64x128 .f32 := match kv with
  | 0 => Memref.whole main_v12
  | 1 => Memref.whole main_v13

theorem xf_whole (r : Fin 2) : (xf r).IsWhole := match r with
  | 0 => Memref.isWhole_whole _ | 1 => Memref.isWhole_whole _
theorem pa_whole (r : Fin 2) : (pa r).IsWhole := match r with
  | 0 => Memref.isWhole_whole _ | 1 => Memref.isWhole_whole _
theorem rr_whole (r : Fin 2) : (rr r).IsWhole := match r with
  | 0 => Memref.isWhole_whole _ | 1 => Memref.isWhole_whole _
theorem wb_whole (r kv : Fin 2) : (wb r kv).IsWhole := match r, kv with
  | 0, 0 => Memref.isWhole_whole _ | 0, 1 => Memref.isWhole_whole _
  | 1, 0 => Memref.isWhole_whole _ | 1, 1 => Memref.isWhole_whole _

/-- The four semaphore arrays of a ring's remote copies: the gather's send and receive cells, the scatter's. -/
def rsems (r : Fin 2) (k : Fin 4) : DmaSems sig S7 := match r, k with
  | 0, 0 => cc0_scratch10 | 0, 1 => cc0_scratch11 | 0, 2 => cc0_scratch12 | 0, 3 => cc0_scratch13
  | 1, 0 => cc0_scratch14 | 1, 1 => cc0_scratch15 | 1, 2 => cc0_scratch16 | 1, 3 => cc0_scratch17
/-- The semaphore arrays of the window copies. -/
def wsems (r kv : Fin 2) : DmaSems sig S2 := match r, kv with
  | 0, 0 => cc0_scratch18 | 0, 1 => cc0_scratch19
  | 1, 0 => cc0_scratch20 | 1, 1 => cc0_scratch21

theorem inb7 : ∀ (i : Fin 7), ∀ a, (![i.val] : Fin 1 → ℕ) a + S1.size a ≤ S7.size a := by decide
theorem inb2 : ∀ (i : Fin 2), ∀ a, (![i.val] : Fin 1 → ℕ) a + S1.size a ≤ S2.size a := by decide

/-- Cell `i` of remote-copy array `k` of ring `r`. -/
def rsem (r : Fin 2) (k : Fin 4) (i : Fin 7) : DmaSem sig :=
  (((rsems r k).slice (Rect.unit (s := S7) ![i.val] S1.size (inb7 i))).squeeze S_ squeezes_S1_S_).sem
/-- The window copies' cell at `slot`. -/
def wsem (r kv : Fin 2) (slot : Fin 2) : DmaSem sig :=
  (((wsems r kv).slice (Rect.unit (s := S2) ![slot.val] S1.size (inb2 slot))).squeeze S_ squeezes_S1_S_).sem

/-! ## The pieces -/

theorem off3_inb : ∀ (c : Dev nD) (r : Fin 2) (h : Fin 8), ∀ a,
    k0_off3 c (dist r h.val) a + S1x128x1024.size a ≤ S8x128x1024.size a := by decide +kernel
theorem off4_inb : ∀ (c : Dev nD) (r : Fin 2) (h : Fin 8), ∀ a,
    k0_off4 c (dist r h.val) a + S1x128x1024.size a ≤ S8x128x1024.size a := by decide +kernel
theorem off3_words : ∀ (c : Dev nD) (r : Fin 2) (h : Fin 8),
    (Rect.unit (s := S8x128x1024) (k0_off3 c (dist r h.val)) S1x128x1024.size (off3_inb c r h)).WholeWords (EltTy.packing .bf16) := by
  decide +kernel
theorem off4_packed : ∀ (c : Dev nD) (r : Fin 2) (h : Fin 8),
    (Rect.unit (s := S8x128x1024) (k0_off4 c (dist r h.val)) S1x128x1024.size (off4_inb c r h)).PackedRows (EltTy.packing .bf16) := by
  decide +kernel
theorem off2_inb : ∀ (c : Dev nD) (r : Fin 2) (h : Fin 8) (g : Fin 8), ∀ a,
    k0_off2 c (dist r h.val) (half r) (BitVec.ofNat 32 g.val) a + S384x1x128.size a ≤ S4096x64x128.size a := by decide +kernel
theorem rr_inb : ∀ (s : Fin 7), ∀ a, (![s.val, 0, 0] : Fin 3 → ℕ) a + S1x128x1024.size a ≤ S7x128x1024.size a := by decide
theorem rr_words : ∀ (s : Fin 7),
    (Rect.unit (s := S7x128x1024) ![s.val, 0, 0] S1x128x1024.size (rr_inb s)).WholeWords (EltTy.packing .bf16) := by decide +kernel
theorem wb_inb : ∀ (i : Fin 2) (g : Fin 8), ∀ a,
    (![i.val, 0, g.val * 128] : Fin 3 → ℕ) a + S1x384x128.size a ≤ S2x384x1024.size a := by decide
theorem wbw_inb : ∀ (i : Fin 2), ∀ a,
    (![i.val, 0, 0] : Fin 3 → ℕ) a + S1x384x1024.size a ≤ S2x384x1024.size a := by decide
theorem x_inb : ∀ (r : Fin 2), ∀ a, (![r.val * 128, 0] : Fin 2 → ℕ) a + S128x1024.size a ≤ S256x1024.size a := by decide

/-- The slot the windows of step `h` use. -/
def slot (h : Fin 8) : Fin 2 := ⟨h.val % 2, Nat.mod_lt _ (by decide)⟩

/-- Block of gathered x at distance `h` on ring `r`, as a copy's operand. -/
def xfB (c : Dev nD) (r : Fin 2) (h : Fin 8) : Memref sig .tc .vmem S128x1024 .bf16 :=
  ((xf r).slice (Rect.unit (s := S8x128x1024) (k0_off3 c (dist r h.val)) S1x128x1024.size (off3_inb c r h)) (fun _ => rfl)).squeeze
    S128x1024 squeezes_S1x128x1024_S128x1024
/-- Block of products at distance `h` on ring `r`, as a copy's operand. -/
def paB (c : Dev nD) (r : Fin 2) (h : Fin 8) : Memref sig .tc .vmem S128x1024 .bf16 :=
  ((pa r).slice (Rect.unit (s := S8x128x1024) (k0_off3 c (dist r h.val)) S1x128x1024.size (off3_inb c r h)) (fun _ => rfl)).squeeze
    S128x1024 squeezes_S1x128x1024_S128x1024
/-- Receive block `s` of ring `r`. -/
def rrB (r : Fin 2) (s : Fin 7) : Memref sig .tc .vmem S128x1024 .bf16 :=
  ((rr r).slice (Rect.unit (s := S7x128x1024) ![s.val, 0, 0] S1x128x1024.size (rr_inb s)) (fun _ => rfl)).squeeze
    S128x1024 squeezes_S1x128x1024_S128x1024
/-- Head `g`'s columns of window slot `i`. -/
def wbB (r kv : Fin 2) (i : Fin 2) (g : Fin 8) : Memref sig .tc .vmem S384x128 .f32 :=
  ((wb r kv).slice (Rect.unit (s := S2x384x1024) ![i.val, 0, g.val * 128] S1x384x128.size (wb_inb i g)) (fun _ => rfl)).squeeze
    S384x128 squeezes_S1x384x128_S384x128
/-- Head `g`'s rows of the keys or values that step `h` of ring `r` reads. -/
def hbB (c : Dev nD) (r kv : Fin 2) (h : Fin 8) (g : Fin 8) : Memref sig .tc .hbm S384x128 .f32 :=
  ((hb kv).slice (Rect.unit (s := S4096x64x128) (k0_off2 c (dist r h.val) (half r) (BitVec.ofNat 32 g.val)) S384x1x128.size
    (off2_inb c r h g)) (fun _ => rfl)).squeeze S384x128 squeezes_S384x1x128_S384x128

theorem xfB_word (c : Dev nD) (r : Fin 2) (h : Fin 8) : (xfB c r h).view.WordExact :=
  ((xf_whole r).wordExact_slice rfl _ (off3_words c r h)).reshape _ _
theorem paB_word (c : Dev nD) (r : Fin 2) (h : Fin 8) : (paB c r h).view.WordExact :=
  ((pa_whole r).wordExact_slice rfl _ (off3_words c r h)).reshape _ _
theorem rrB_word (r : Fin 2) (s : Fin 7) : (rrB r s).view.WordExact :=
  ((rr_whole r).wordExact_slice rfl _ (rr_words s)).reshape _ _
theorem wbB_word (r kv : Fin 2) (i : Fin 2) (g : Fin 8) : (wbB r kv i g).view.WordExact :=
  (View.wordExact_bits rfl).reshape _ _
theorem hbB_word (c : Dev nD) (r kv : Fin 2) (h : Fin 8) (g : Fin 8) : (hbB c r kv h g).view.WordExact :=
  (View.wordExact_bits rfl).reshape _ _

/-- The rectangle of block `h` of ring `r`, as a load's or a store's operand. -/
abbrev blkR (c : Dev nD) (r : Fin 2) (h : Fin 8) : Rect S8x128x1024 :=
  Rect.unit (s := S8x128x1024) (k0_off4 c (dist r h.val)) S1x128x1024.size (off4_inb c r h)
/-- The rectangle of the device's own block. -/
abbrev ownR (c : Dev nD) : Rect S8x128x1024 := Rect.unit (s := S8x128x1024) (k0_off1 c) S1x128x1024.size (k0_off1_inb c)
/-- The rectangle of receive block `s`. -/
abbrev rrR (s : Fin 7) : Rect S7x128x1024 := Rect.unit (s := S7x128x1024) ![s.val, 0, 0] S1x128x1024.size (rr_inb s)
/-- The rectangle of window slot `i`. -/
abbrev wbR (i : Fin 2) : Rect S2x384x1024 := Rect.unit (s := S2x384x1024) ![i.val, 0, 0] S1x384x1024.size (wbw_inb i)
/-- The rectangle of ring `r`'s half of x. -/
abbrev xR (r : Fin 2) : Rect S256x1024 := Rect.unit (s := S256x1024) ![r.val * 128, 0] S128x1024.size (x_inb r)
/-- The whole of a weight. -/
abbrev wR : Rect S1024x1024 := Rect.unit (s := S1024x1024) ![0, 0] S1024x1024.size inb_S1024x1024_S1024x1024_0_0
/-- The whole of the result. -/
abbrev oR : Rect S1x256x1024 := Rect.unit (s := S1x256x1024) ![0, 0, 0] S1x256x1024.size inb_S1x256x1024_S1x256x1024_0_0_0

/-! ## The arithmetic -/

/-- The device's position in the ring. -/
def pos (c : Dev nD) : BitVec 32 := Scalar.remsi (Scalar.divsi (Dev.word c) 1#32) 8#32
/-- The block a ring works on at distance `h`. -/
def blkW (c : Dev nD) (r : Fin 2) (h : ℕ) : BitVec 32 :=
  Scalar.remsi (Scalar.addi (Scalar.subi (pos c) (dist r h)) 16#32) 8#32
/-- The block's first row. -/
def rowW (c : Dev nD) (r : Fin 2) (h : ℕ) : BitVec 32 := Scalar.addi (Scalar.muli (blkW c r h) 256#32) (half r)
/-- The window's first row. -/
def winW (c : Dev nD) (r : Fin 2) (h : ℕ) : BitVec 32 :=
  Scalar.minsi 3712#32 (Scalar.maxsi 0#32 (Scalar.subi (rowW c r h) 128#32))

/-- The additive mask of a block of rows starting at `i₀` against a window starting at `j₀`. -/
def maskOf (i₀ j₀ : BitVec 32) : FVec F S128x384 .f32 :=
  select (cmpi .sle (absi (subi (addi (broadcast S128x384 i₀) (iota .tc S128x384 32 [0] iota_S128x384_d0_w32))
      (addi (broadcast S128x384 j₀) (iota .tc S128x384 32 [1] iota_S128x384_d1_w32)))) (broadcast S128x384 128#32))
    (broadcast S128x384 (Scalar.ofBits .f32 0x00000000#32 : F .f32))
    (broadcast S128x384 (Named.named κ "mask" 0xCE6E6B28#32 : F .f32))

theorem sl_q : ∀ g : Fin 8, S128x1024.Slices ![0, g.val * 128] S128x128 := by decide
theorem sl_k : ∀ g : Fin 8, S384x1024.Slices ![0, g.val * 128] S384x128 := by decide

/-- A head's exponentials. -/
def expOf (q : FVec F S128x1024 .bf16) (k : FVec F S384x1024 .bf16) (m : FVec F S128x384 .f32) (g : Fin 8) : FVec F S128x384 .f32 :=
  exp (addf (matmul dot_S128x128_S384x128_S128x384_1_1_0_0_n_n none
    (extractStridedSlice S128x128 ![0, g.val * 128] q (sl_q g)) (extractStridedSlice S384x128 ![0, g.val * 128] k (sl_k g))
    (constant S128x384 .f32 0x00000000#32)) m)
/-- A head's weighted values. -/
def headOf (q : FVec F S128x1024 .bf16) (k v : FVec F S384x1024 .bf16) (m : FVec F S128x384 .f32) (g : Fin 8) : FVec F S128x128 .f32 :=
  mulf (matmul dot_S128x384_S384x128_S128x128_1_0_0_1_n_n none (truncf .bf16 (expOf q k m g) bitsLt_bf16_f32)
      (extractStridedSlice S384x128 ![0, g.val * 128] v (sl_k g)) (constant S128x128 .f32 0x00000000#32))
    (broadcastTo S128x128 (divf (broadcast S128x1 (Scalar.ofBits .f32 0x3F800000#32 : F .f32))
      (shapeCast S128x1 (multiReduction .add [1] S128 (expOf q k m g) 0x00000000#32 reduces_S128x384_S128 (.inl rfl) rfl)
        shapeCasts_S128_S128x1)) broadcasts_S128x1_S128x128)
/-- The block's product with the output weight, from its x, the two weights and its windows. -/
def partOf (c : Dev nD) (r : Fin 2) (h : ℕ) (kw vw : Vec F S1x384x1024 .f32) (xb : Vec F S1x128x1024 .bf16)
    (wq wo : Vec F S1024x1024 .bf16) : FVec F S1x128x1024 .bf16 :=
  let k : FVec F S384x1024 .bf16 := truncf .bf16 (shapeCast S384x1024 kw shapeCasts_S1x384x1024_S384x1024 : FVec F S384x1024 .f32) bitsLt_bf16_f32
  let v : FVec F S384x1024 .bf16 := truncf .bf16 (shapeCast S384x1024 vw shapeCasts_S1x384x1024_S384x1024 : FVec F S384x1024 .f32) bitsLt_bf16_f32
  let q : FVec F S128x1024 .bf16 := truncf .bf16 (matmul dot_S128x1024_S1024x1024_S128x1024_1_0_0_1_n_n none
    (shapeCast S128x1024 xb shapeCasts_S1x128x1024_S128x1024 : FVec F S128x1024 .bf16)
    (shapeCast S1024x1024 wq shapeCasts_S1024x1024_S1024x1024 : FVec F S1024x1024 .bf16) (constant S128x1024 .f32 0x00000000#32)) bitsLt_bf16_f32
  let m : FVec F S128x384 .f32 := maskOf (rowW c r h) (winW c r h)
  let o : FVec F S128x1024 .f32 := concatenate S128x1024 1
    [⟨S128x128, headOf q k v m 0⟩, ⟨S128x128, headOf q k v m 1⟩, ⟨S128x128, headOf q k v m 2⟩, ⟨S128x128, headOf q k v m 3⟩,
     ⟨S128x128, headOf q k v m 4⟩, ⟨S128x128, headOf q k v m 5⟩, ⟨S128x128, headOf q k v m 6⟩, ⟨S128x128, headOf q k v m 7⟩]
    concatenates_S128x128_S128x128_S128x128_S128x128_S128x128_S128x128_S128x128_S128x128_S128x1024_d1
  shapeCast S1x128x1024 (shapeCast S1x128x1024 (truncf .bf16 (matmul dot_S128x1024_S1024x1024_S128x1024_1_0_0_1_n_n none
    (truncf .bf16 o bitsLt_bf16_f32) (shapeCast S1024x1024 wo shapeCasts_S1024x1024_S1024x1024 : FVec F S1024x1024 .bf16)
    (constant S128x1024 .f32 0x00000000#32)) bitsLt_bf16_f32) shapeCasts_S128x1024_S1x128x1024 : FVec F S1x128x1024 .bf16)
    shapeCasts_S1x128x1024_S1x128x1024
/-- Two blocks' sum, in f32. -/
def sumOf (a b : Vec F S1x128x1024 .bf16) : FVec F S128x1024 .f32 :=
  addf (extf .f32 (shapeCast S128x1024 a shapeCasts_S1x128x1024_S128x1024 : FVec F S128x1024 .bf16) bitsLt_bf16_f32)
    (extf .f32 (shapeCast S128x1024 b shapeCasts_S1x128x1024_S128x1024 : FVec F S128x1024 .bf16) bitsLt_bf16_f32)
/-- The sum, as the block keeps it. -/
def accOf (a b : Vec F S1x128x1024 .bf16) : FVec F S1x128x1024 .bf16 :=
  shapeCast S1x128x1024 (shapeCast S1x128x1024 (truncf .bf16 (sumOf a b) bitsLt_bf16_f32) shapeCasts_S128x1024_S1x128x1024 : FVec F S1x128x1024 .bf16)
    shapeCasts_S1x128x1024_S1x128x1024
/-- The half of x a ring carries, as its block keeps it. -/
def xinOf (x : Vec F S128x1024 .bf16) : FVec F S1x128x1024 .bf16 :=
  shapeCast S1x128x1024 (shapeCast S1x128x1024 (shapeCast S128x1024 x shapeCasts_S128x1024_S128x1024 : FVec F S128x1024 .bf16)
    shapeCasts_S128x1024_S1x128x1024 : FVec F S1x128x1024 .bf16) shapeCasts_S1x128x1024_S1x128x1024
/-- The result, the two halves stacked. -/
def outOf (a b : FVec F S128x1024 .f32) : FVec F S1x256x1024 .f32 :=
  shapeCast S1x256x1024 (concatenate S256x1024 0 [⟨S128x1024, a⟩, ⟨S128x1024, b⟩] concatenates_S128x1024_S128x1024_S256x1024_d0)
    shapeCasts_S256x1024_S1x256x1024

/-! ## The operations -/

/-- Programs of the body. -/
abbrev P (F : FTy → Type) [FloatOps F] [Named F] := Prog (TpuEff nD τ sig (Elt F) Λ₀ .tc)

section
variable (X : Memref sig .tc .vmem S256x1024 .bf16) (Wq Wo : Memref sig .tc .vmem S1024x1024 .bf16)
  (O : Memref sig .tc .vmem S1x256x1024 .f32) (c : Dev nD) (r : Fin 2)

/-- Ring `r`'s half of the device's x into the device's own block. -/
def stage : P F PUnit := do
  let x ← Prog.lift (.load X (xR r).toLoadRect (View.loadsAt_vmem h_S128x1024))
  let _ ← Prog.lift (.load (xf r) (ownR c).toLoadRect (View.loadsAt_vmem h_S1x128x1024))
  Prog.lift (.store (xf r) (ownR c) (xinOf x) Finset.univ
    (View.stores_vmem h_S1x128x1024 ((xf_whole r).storeExact_slice rfl _ (k0_off1_packedbf16 c)) (fun _ => rfl)) (.inl rfl))

/-- Start the copy of head `g`'s keys (or values) of step `h`. -/
def winCopy (h : Fin 8) (g : Fin 8) (kv : Fin 2) : P F PUnit :=
  Prog.lift (.enqueueDma (hbB c r kv h g) (.here (wbB r kv (slot h) g)) (.dma (wsem r kv (slot h)))
    (hbB_word c r kv h g) (wbB_word r kv (slot h) g) ⟨Or.inl rfl, trivial⟩)
/-- Wait for one copy's amount. -/
def winWait (h : Fin 8) (g : Fin 8) (kv : Fin 2) : P F PUnit :=
  Prog.lift (.waitDma2 (wsem r kv (slot h)) (hbB c r kv h g) (wbB r kv (slot h) g) (hbB_word c r kv h g) (wbB_word r kv (slot h) g))
/-- Each head's keys and values, from head `g` on. -/
def heads (f : Fin 8 → Fin 2 → P F PUnit) : P F PUnit := do
  f 0 0; f 0 1; f 1 0; f 1 1; f 2 0; f 2 1; f 3 0; f 3 1; f 4 0; f 4 1; f 5 0; f 5 1; f 6 0; f 6 1; f 7 0; f 7 1
/-- The windows of step `h`, started. -/
def winStart (h : Fin 8) : P F PUnit := heads (winCopy c r h)
/-- The windows of step `h`, waited for. -/
def winDone (h : Fin 8) : P F PUnit := heads (winWait c r h)

/-- Meet the two neighbours at the barrier. -/
def meet : P F PUnit := do
  semSignalWord (⟨k0_dev1 c, k0_dev1_lt c⟩ : Dev nD) (SemArray.scalar (sig.barrier 0 rfl) : Sems sig S_).sem 1#32
  semSignalWord (⟨k0_dev2 c, k0_dev2_lt c⟩ : Dev nD) (SemArray.scalar (sig.barrier 0 rfl) : Sems sig S_).sem 1#32
  semWaitWord (SemArray.scalar (sig.barrier 0 rfl) : Sems sig S_).sem 2#32

/-- Pass the block at distance `h` on. -/
def gSend (h : Fin 7) : P F PUnit :=
  Prog.lift (.enqueueDma (xfB c r h.castSucc) (.remote (Dev.tc (tgt r c)) (xfB c r h.castSucc) (.dma (rsem r 0 h))) (.dma (rsem r 1 h))
    (xfB_word c r h.castSucc) (xfB_word c r h.castSucc) ⟨⟨rfl, Or.inl rfl⟩, trivial⟩)
/-- Wait for the block at distance `h + 1`. -/
def gRecv (h : Fin 7) : P F PUnit :=
  Prog.lift (.waitDma2 (rsem r 1 h) (xfB c r h.succ) (xfB c r h.succ) (xfB_word c r h.succ) (xfB_word c r h.succ))
/-- Wait for the gather's send `h`. -/
def gSent (h : Fin 7) : P F PUnit :=
  Prog.lift (.waitDma2 (rsem r 0 h) (xfB c r h.castSucc) (xfB c r h.castSucc) (xfB_word c r h.castSucc) (xfB_word c r h.castSucc))
/-- Send the products at distance `s + 1`. -/
def sSend (s : Fin 7) : P F PUnit :=
  Prog.lift (.enqueueDma (paB c r s.succ) (.remote (Dev.tc (tgt r c)) (rrB r s) (.dma (rsem r 2 s))) (.dma (rsem r 3 s))
    (paB_word c r s.succ) (rrB_word r s) ⟨⟨rfl, Or.inl rfl⟩, trivial⟩)
/-- Wait for receive block `s`. -/
def sRecv (s : Fin 7) : P F PUnit :=
  Prog.lift (.waitDma2 (rsem r 3 s) (rrB r s) (rrB r s) (rrB_word r s) (rrB_word r s))
/-- Wait for the scatter's send `s`. -/
def sSent (s : Fin 7) : P F PUnit :=
  Prog.lift (.waitDma2 (rsem r 2 s) (rrB r s) (paB c r s.succ) (rrB_word r s) (paB_word c r s.succ))
/-- Wait for receive block `s` and add it to the block at distance `h`. -/
def sAdd (s : Fin 7) (h : Fin 8) : P F PUnit := do
  sRecv r s
  let a ← Prog.lift (.load (pa r) (blkR c r h).toLoadRect (View.loadsAt_vmem h_S1x128x1024))
  let b ← Prog.lift (.load (rr r) (rrR s).toLoadRect (View.loadsAt_vmem h_S1x128x1024))
  let _ ← Prog.lift (.load (pa r) (blkR c r h).toLoadRect (View.loadsAt_vmem h_S1x128x1024))
  Prog.lift (.store (pa r) (blkR c r h) (accOf a b) Finset.univ
    (View.stores_vmem h_S1x128x1024 ((pa_whole r).storeExact_slice rfl _ (off4_packed c r h)) (fun _ => rfl)) (.inl rfl))
/-- The last receive, added to the device's own block. -/
def sLast : P F (ULift (FVec F S128x1024 .f32)) := do
  sRecv r 6
  let a ← Prog.lift (.load (pa r) (ownR c).toLoadRect (View.loadsAt_vmem h_S1x128x1024))
  let b ← Prog.lift (.load (rr r) (rrR 6).toLoadRect (View.loadsAt_vmem h_S1x128x1024))
  pure ⟨sumOf a b⟩
/-- Compute the block at distance `h`. -/
def compute (h : Fin 8) : P F PUnit := do
  let kw ← Prog.lift (.load (wb r 0) (wbR (slot h)).toLoadRect (View.loadsAt_vmem h_S1x384x1024))
  let vw ← Prog.lift (.load (wb r 1) (wbR (slot h)).toLoadRect (View.loadsAt_vmem h_S1x384x1024))
  let xb ← Prog.lift (.load (xf r) (blkR c r h).toLoadRect (View.loadsAt_vmem h_S1x128x1024))
  let wq ← Prog.lift (.load Wq wR.toLoadRect (View.loadsAt_vmem h_S1024x1024))
  let wo ← Prog.lift (.load Wo wR.toLoadRect (View.loadsAt_vmem h_S1024x1024))
  let _ ← Prog.lift (.load (pa r) (blkR c r h).toLoadRect (View.loadsAt_vmem h_S1x128x1024))
  Prog.lift (.store (pa r) (blkR c r h) (partOf c r h.val kw vw xb wq wo) Finset.univ
    (View.stores_vmem h_S1x128x1024 ((pa_whole r).storeExact_slice rfl _ (off4_packed c r h)) (fun _ => rfl)) (.inl rfl))
/-- Wait for the windows of step `h`, then compute. -/
def work (h : Fin 8) : P F PUnit := do winDone c r h; compute Wq Wo c r h

end

section
variable (X : Memref sig .tc .vmem S256x1024 .bf16) (Wq Wo : Memref sig .tc .vmem S1024x1024 .bf16)
  (O : Memref sig .tc .vmem S1x256x1024 .f32) (c : Dev nD)

/-- Pass on the blocks at distance `h` and start the windows of step `h + 1`. -/
def ahead (h : Fin 7) : P F PUnit := do
  gSend c 0 h; gSend c 1 h; winStart c 0 h.succ; winStart c 1 h.succ
/-- Compute step `h` on both rings. -/
def works (h : Fin 8) : P F PUnit := do work Wq Wo c 0 h; work Wq Wo c 1 h
/-- Receive the blocks at distance `h + 1`. -/
def gRecvs (h : Fin 7) : P F PUnit := do gRecv c 0 h; gRecv c 1 h
/-- The first step of the scatter. -/
def scat0 : P F PUnit := do sSend c 0 0; sSend c 1 0
/-- A later step of the scatter. -/
def scat (s : Fin 6) : P F PUnit := do
  sAdd c 0 s.castSucc s.succ.succ; sSend c 0 s.succ; sAdd c 1 s.castSucc s.succ.succ; sSend c 1 s.succ
/-- The result. -/
def finish : P F PUnit := do
  let a ← sLast c 0
  let b ← sLast c 1
  let _ ← Prog.lift (.load O oR.toLoadRect (View.loadsAt_vmem h_S1x256x1024))
  Prog.lift (.store O oR (outOf a.down b.down) Finset.univ (View.stores_vmem_bits_univ h_S1x256x1024 rfl) (.inl rfl))
/-- Wait for every send. -/
def drain : P F PUnit := do
  gSent c 0 0; gSent c 1 0; gSent c 0 1; gSent c 1 1; gSent c 0 2; gSent c 1 2; gSent c 0 3; gSent c 1 3
  gSent c 0 4; gSent c 1 4; gSent c 0 5; gSent c 1 5; gSent c 0 6; gSent c 1 6
  sSent c 0 0; sSent c 1 0; sSent c 0 1; sSent c 1 1; sSent c 0 2; sSent c 1 2; sSent c 0 3; sSent c 1 3
  sSent c 0 4; sSent c 1 4; sSent c 0 5; sSent c 1 5; sSent c 0 6; sSent c 1 6
/-- Before the steps: the device's own blocks, the first windows, the barrier. -/
def setup : P F PUnit := do
  stage X c 0; stage X c 1; winStart c 0 0; winStart c 1 0; meet c
/-- The steps. -/
def steps : P F PUnit := do
  ahead c 0; works Wq Wo c 0; gRecvs c 0
  ahead c 1; works Wq Wo c 1; gRecvs c 1
  ahead c 2; scat0 c; works Wq Wo c 2; gRecvs c 2
  ahead c 3; scat c 0; works Wq Wo c 3; gRecvs c 3
  ahead c 4; scat c 1; works Wq Wo c 4; gRecvs c 4
  ahead c 5; scat c 2; works Wq Wo c 5; gRecvs c 5
  ahead c 6; scat c 3; works Wq Wo c 6; gRecvs c 6
  scat c 4; works Wq Wo c 7; scat c 5

/-- The body after it has read which device it runs on. -/
def bodyOn : P F PUnit := do
  setup X c; steps Wq Wo c; finish O c; drain c

/-- The body. -/
def body : P F PUnit := Prog.op .deviceId fun c => bodyOn X Wq Wo O c

end

end Cert.KernelIdeal.Run

end
-- ==== Proof.Sched.lean ====
/- What the devices exchange: the rings' positions, the contents every block holds at every moment as functions of
   the devices' operands, the semaphore cells, and the schedule: per cell who pays, how much, and what is handed over. -/
module

public import proofs.«01_k».proof.Proof.Body
public import Idealize.ShloMosaic.Lib.Pipeline.Kit
public import Idealize.ShloMosaic.Lib.Rounds
public import Idealize.ShloMosaic.Lib.Batch
public import Idealize.ShloMosaic.Lib.Tactic
public import Idealize.ShloMosaic.Lib.Exec.Context

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal

variable {F : FTy → Type} [FloatOps F] [Named F]

/-! ## Positions -/

/-- The block ring `r` of device `c` works on at distance `h`. -/
def blk (r : Fin 2) (h : ℕ) (c : Dev nD) : Fin 8 := match r with
  | 0 => ⟨(c.val + 8 - h % 8) % 8, Nat.mod_lt _ (by decide)⟩
  | 1 => ⟨(c.val + h % 8) % 8, Nat.mod_lt _ (by decide)⟩
/-- The neighbour that sends to `c` on ring `r`. -/
def src (r : Fin 2) (c : Dev nD) : Dev nD := tgt (1 - r) c

theorem tgt_src : ∀ (r : Fin 2) (c : Dev nD), tgt r (src r c) = c := by decide +kernel
theorem src_tgt : ∀ (r : Fin 2) (c : Dev nD), src r (tgt r c) = c := by decide +kernel
theorem blk_tgt : ∀ (r : Fin 2) (h : Fin 7) (c : Dev nD), blk r (h.val + 1) (tgt r c) = blk r h.val c := by decide +kernel
theorem blk_zero : ∀ (r : Fin 2) (c : Dev nD), (blk r 0 c).val = c.val := by decide +kernel
theorem off3_eq : ∀ (c : Dev nD) (r : Fin 2) (h : Fin 8), k0_off3 c (dist r h.val) = ![(blk r h.val c).val, 0, 0] := by decide +kernel
theorem off4_eq : ∀ (c : Dev nD) (r : Fin 2) (h : Fin 8), k0_off4 c (dist r h.val) = ![(blk r h.val c).val, 0, 0] := by decide +kernel
theorem off1_eq : ∀ (c : Dev nD) (r : Fin 2), k0_off1 c = ![(blk r 0 c).val, 0, 0] := by decide +kernel

theorem inb8 : ∀ (b : Fin 8), ∀ a, (![b.val, 0, 0] : Fin 3 → ℕ) a + S1x128x1024.size a ≤ S8x128x1024.size a := by decide
/-- The rectangle of block `b`. -/
abbrev bR (b : Fin 8) : Rect S8x128x1024 := Rect.unit (s := S8x128x1024) ![b.val, 0, 0] S1x128x1024.size (inb8 b)

/-! ## Contents -/

/-- What the devices enter the kernel with. -/
structure Ins (F : FTy → Type) where
  x : Dev nD → Vec F S256x1024 .bf16
  wq : Dev nD → Vec F S1024x1024 .bf16
  wo : Dev nD → Vec F S1024x1024 .bf16
  kv : Fin 2 → Dev nD → Vec F S4096x64x128 .f32

variable (I : Ins F)

/-- The keys or the values as the buffer holds them. -/
def kvC (kv : Fin 2) (c : Dev nD) : (hb kv).view.ty.Contents (Elt F) := match kv with
  | 0 => I.kv 0 c
  | 1 => I.kv 1 c

/-- Block `b` of x on ring `r`. -/
def xV (r : Fin 2) (b : Fin 8) : Vec F S1x128x1024 .bf16 := xinOf fun y => I.x b ((xR r).toLoadRect.idx y)
/-- The weights as loaded. -/
def wqV (c : Dev nD) : Vec F S1024x1024 .bf16 := fun y => I.wq c (wR.toLoadRect.idx y)
def woV (c : Dev nD) : Vec F S1024x1024 .bf16 := fun y => I.wo c (wR.toLoadRect.idx y)
/-- Row and lane of a head's window. -/
def ix2 (p : Fin 384) (q : Fin 128) : S384x128.Idx := fun
  | 0 => p
  | 1 => q
/-- The window of step `h`. -/
def winV (r kv : Fin 2) (h : Fin 8) (c : Dev nD) : Vec F S1x384x1024 .f32 := fun i =>
  (hbB c r kv h ⟨(i 2).val / 128, Nat.div_lt_of_lt_mul (i 2).isLt⟩).view.read (Elt F) (kvC I kv c)
    (ix2 (i 1) ⟨(i 2).val % 128, Nat.mod_lt _ (by decide)⟩)
/-- The block's own product. -/
def prod (r : Fin 2) (h : Fin 8) (c : Dev nD) : Vec F S1x128x1024 .bf16 :=
  partOf c r h.val (winV I r 0 h c) (winV I r 1 h c) (xV I r (blk r h.val c)) (wqV I c) (woV I c)
/-- What ring `r` sends at scatter step `s`. -/
def sentN (r : Fin 2) : ℕ → Dev nD → Vec F S1x128x1024 .bf16
  | 0, c => prod I r 1 c
  | s + 1, c => accOf (prod I r (Fin.ofNat 8 (s + 2)) c) (sentN r s (src r c))
def sent (r : Fin 2) (s : Fin 7) (c : Dev nD) : Vec F S1x128x1024 .bf16 := sentN I r s.val c
/-- The result's half on ring `r`. -/
def lastV (r : Fin 2) (c : Dev nD) : FVec F S128x1024 .f32 := sumOf (prod I r 0 c) (sent I r 6 (src r c))
/-- The result. -/
def outV (c : Dev nD) : FVec F S1x256x1024 .f32 := outOf (lastV I 0 c) (lastV I 1 c)

/-! ## The algebra, the cells -/

/-- The users' algebra: the staging copies', the exchange's, the window copies'. -/
abbrev UU : Type := UR sig nD τ × (URounds (GSem nD τ sig) (Fin 2) × Counters)
abbrev MM (F : FTy → Type) : Type := MT nD τ sig Unit (Elt F) ℕ UU ℕ

abbrev EP : Emb (UR sig nD τ) (MM F) := embL
def ER : Emb (URounds (GSem nD τ sig) (Fin 2)) (MM F) := (Emb.inl : Emb _ (URounds (GSem nD τ sig) (Fin 2) × Counters)).trans embR
abbrev EC : UEmb Counters (MM F) := countersEmb
instance ER_landsIn : (ER : Emb _ (MM F)).LandsIn (upEmb : UEmb _ (MM F)) := by unfold ER; infer_instance
instance EC_landsIn : (EC : UEmb Counters (MM F)).LandsIn (upEmb : UEmb _ (MM F)) := by infer_instance

/-- The barrier's semaphore. -/
abbrev barS : Sem sig := (SemArray.scalar (sig.barrier 0 rfl) : Sems sig S_).sem
abbrev bar (c : Dev nD) : GSem nD τ sig := ((c : Thread nD τ), .reg barS)
abbrev cell (c : Dev nD) (r : Fin 2) (k : Fin 4) (i : Fin 7) : GSem nD τ sig := ((c : Thread nD τ), .dma (rsem r k i))

theorem rsem_val : ∀ (r : Fin 2) (k : Fin 4) (i : Fin 7), (rsem r k i).val = 4 + 28 * r.val + 7 * k.val + i.val := by decide +kernel
theorem wsem_val : ∀ (r kv i : Fin 2), (wsem r kv i).val = 60 + 4 * r.val + 2 * kv.val + i.val := by decide +kernel

/-- The ring, the array and the index a remote-copy semaphore stands at. -/
def decR (d : DmaSem sig) : Fin 2 := ⟨(d.val - 4) / 28 % 2, Nat.mod_lt _ (by decide)⟩
def decK (d : DmaSem sig) : Fin 4 := ⟨(d.val - 4) % 28 / 7 % 4, Nat.mod_lt _ (by decide)⟩
def decI (d : DmaSem sig) : Fin 7 := ⟨(d.val - 4) % 7, Nat.mod_lt _ (by decide)⟩
/-- The semaphores of the exchange. -/
def isR (d : DmaSem sig) : Bool := decide (4 ≤ d.val ∧ d.val < 60)

theorem decR_rsem : ∀ (r : Fin 2) (k : Fin 4) (i : Fin 7), decR (rsem r k i) = r := by decide +kernel
theorem decK_rsem : ∀ (r : Fin 2) (k : Fin 4) (i : Fin 7), decK (rsem r k i) = k := by decide +kernel
theorem decI_rsem : ∀ (r : Fin 2) (k : Fin 4) (i : Fin 7), decI (rsem r k i) = i := by decide +kernel
theorem isR_rsem : ∀ (r : Fin 2) (k : Fin 4) (i : Fin 7), isR (rsem r k i) = true := by decide +kernel
theorem isR_wsem : ∀ (r kv i : Fin 2), isR (wsem r kv i) = false := by decide +kernel

/-- The units a block's copy moves. -/
def N : ℕ := (rrB 0 0).view.dmaCredit
theorem N_pos : 0 < N := View.dmaCredit_pos _ (by decide)

/-! ## Holdings -/

/-- Device `c` holds `M`'s rectangle `R` at share `q`, at contents `Y`. -/
def hold {sp : Space} {s : Shape} {e : EltTy} (c : Dev nD) (M : Memref sig .tc sp s e) (R : Rect s) (q : PosShare TreeShare)
    (Y : R.shape.Idx → Elt F e) : sProp (MM F) :=
  (M.access R).loc (c : Thread nD τ) ↦[(M.access R).set]{q} (M.access R).rep Y
/-- Device `c` holds `M`'s rectangle `R`, at whatever contents. -/
def holdAny {sp : Space} {s : Shape} {e : EltTy} (c : Dev nD) (M : Memref sig .tc sp s e) (R : Rect s) : sProp (MM F) :=
  iprop(∃ f, (M.access R).loc (c : Thread nD τ) ↦[(M.access R).set]{fullShare} f)

/-- Block at distance `h` of gathered x, held at share `q`. -/
def xH (c : Dev nD) (r : Fin 2) (h : ℕ) (q : PosShare TreeShare) : sProp (MM F) := hold c (xf r) (bR (blk r h c)) q (xV I r (blk r h c))
/-- Block at distance `h` of the products, held at contents `Y`. -/
def pH (c : Dev nD) (r : Fin 2) (h : ℕ) (Y : Vec F S1x128x1024 .bf16) : sProp (MM F) := hold c (pa r) (bR (blk r h c)) fullShare Y
/-- Receive block `s`, landed. -/
def rH (c : Dev nD) (r : Fin 2) (s : Fin 7) : sProp (MM F) := hold c (rr r) (rrR s) fullShare (sent I r s (src r c))
/-- The neighbour's block a gather's send writes, and the receive block a scatter's send writes. -/
def xD (c : Dev nD) (r : Fin 2) (i : Fin 7) : sProp (MM F) := holdAny (F := F) (tgt r c) (xf r) (bR (blk r i.val c))
def rD (c : Dev nD) (r : Fin 2) (i : Fin 7) : sProp (MM F) := holdAny (F := F) (tgt r c) (rr r) (rrR i)

/-- Half of a share: the part a send takes, and the part that stays. -/
abbrev qSend : PosShare TreeShare := fullShare.left
abbrev qStay : PosShare TreeShare := fullShare.right

/-! ## The schedule -/

/-- The neighbour on ring `r` lends what `c` writes there, and that its receive cells are open. -/
def barPay (c : Dev nD) (r : Fin 2) : sProp (MM F) :=
  bigSep Finset.univ fun i : Fin 7 => iprop((xD c r i ∗ rD c r i) ∗ reached ER (cell (tgt r c) r 1 i) 0 ∗ reached ER (cell (tgt r c) r 3 i) 0)

/-- What a copy's cell hands its owner. -/
def copyPay (c : Dev nD) (r : Fin 2) (i : Fin 7) : Fin 4 → sProp (MM F)
  | 0 => xH I c r i.val qSend
  | 1 => xH I c r (i.val + 1) fullShare
  | 2 => pH c r (i.val + 1) (sent I r i c)
  | 3 => rH I c r i

/-- One round: each barrier cell is paid once by each neighbour, each cell of the exchange once by its copy. -/
def sched : Rounds.Schedule (GSem nD τ sig) (Fin 2) (MM F) where
  duties g r := if r = 0 ∧ g.1.2 = .tc then (match g.2 with
    | .reg _ => Finset.univ
    | .dma d => if isR d then {0} else ∅) else ∅
  unitless _ := False
  amount g _ _ := match g.2 with
    | .reg _ => 1
    | .dma _ => N
  payload g _ d := match g.2 with
    | .reg _ => barPay g.1.1 d
    | .dma s => copyPay I g.1.1 (decR s) (decI s) (decK s)
  amount_pos g _ _ _ := by
    rcases g with ⟨_, _ | _⟩
    · exact Nat.one_pos
    · exact N_pos

instance hold_storable {sp : Space} {s : Shape} {e : EltTy} (c : Dev nD) (M : Memref sig .tc sp s e) (R : Rect s) (q : PosShare TreeShare)
    (Y : R.shape.Idx → Elt F e) : BI.Storable (upEmb : UEmb _ (MM F)) (hold c M R q Y) := by unfold hold; infer_instance
instance holdAny_storable {sp : Space} {s : Shape} {e : EltTy} (c : Dev nD) (M : Memref sig .tc sp s e) (R : Rect s) :
    BI.Storable (upEmb : UEmb _ (MM F)) (holdAny (F := F) c M R) := by unfold holdAny; infer_instance

instance copyPay_storable (c : Dev nD) (r : Fin 2) (i : Fin 7) (k : Fin 4) : BI.Storable (upEmb : UEmb _ (MM F)) (copyPay I c r i k) := by
  unfold copyPay xH pH rH
  split <;> infer_instance
instance barPay_storable (c : Dev nD) (r : Fin 2) : BI.Storable (upEmb : UEmb _ (MM F)) (barPay (F := F) c r) := by
  unfold barPay xD rD; infer_instance
instance sched_storable (g : GSem nD τ sig) (r : ℕ) (d : Fin 2) : BI.Storable (upEmb : UEmb _ (MM F)) ((sched I).payload g r d) := by
  rcases g with ⟨g, _ | s⟩
  · exact barPay_storable g.1 d
  · exact copyPay_storable I g.1 _ _ _

theorem duties_bar (c : Dev nD) : (sched I).duties (bar c) 0 = Finset.univ :=
  show ite ((0 : ℕ) = 0 ∧ (c : Thread nD τ).2 = .tc) (Finset.univ : Finset (Fin 2)) ∅ = _ from if_pos ⟨rfl, rfl⟩
theorem duties_cell (c : Dev nD) (r : Fin 2) (k : Fin 4) (i : Fin 7) : (sched I).duties (cell c r k i) 0 = {0} :=
  show ite ((0 : ℕ) = 0 ∧ (c : Thread nD τ).2 = .tc) (ite (isR (rsem r k i) = true) ({0} : Finset (Fin 2)) ∅) ∅ = _ from
    (if_pos ⟨rfl, rfl⟩).trans (if_pos (isR_rsem r k i))
theorem duties_later (g : GSem nD τ sig) : ∀ r, 1 ≤ r → (sched I).duties g r = ∅ := fun r hr => if_neg (fun h => by omega)
theorem amount_bar (c : Dev nD) (u : Fin 2) : (sched I).amount (bar c) 0 u = 1 := rfl
theorem amount_cell (c : Dev nD) (r : Fin 2) (k : Fin 4) (i : Fin 7) (u : Fin 2) : (sched I).amount (cell c r k i) 0 u = N := rfl
theorem payload_bar (c : Dev nD) (u : Fin 2) : (sched I).payload (bar c) 0 u = barPay c u := rfl
theorem payload_cell (c : Dev nD) (r : Fin 2) (k : Fin 4) (i : Fin 7) (u : Fin 2) : (sched I).payload (cell c r k i) 0 u = copyPay I c r i k := by
  show copyPay I c (decR (rsem r k i)) (decI (rsem r k i)) (decK (rsem r k i)) = _
  rw [decR_rsem, decI_rsem, decK_rsem]
theorem expect_bar (c : Dev nD) : (sched I).expect (bar c) 0 = 2 := by
  unfold Schedule.expect Schedule.amountOf; rw [duties_bar]; simp only [amount_bar]; rfl
theorem expect_cell (c : Dev nD) (r : Fin 2) (k : Fin 4) (i : Fin 7) : (sched I).expect (cell c r k i) 0 = N := by
  unfold Schedule.expect Schedule.amountOf; rw [duties_cell, Finset.sum_singleton, amount_cell]
theorem rest_bar (c : Dev nD) : bigSep ((sched I).duties (bar c) 0 \ ∅) (fun u => (sched I).payload (bar c) 0 u) = iprop(barPay c 0 ∗ barPay c 1) := by
  rw [Finset.sdiff_empty, duties_bar, BI.bigSep_fin_two]; rfl
theorem rest_cell (c : Dev nD) (r : Fin 2) (k : Fin 4) (i : Fin 7) :
    bigSep ((sched I).duties (cell c r k i) 0 \ ∅) (fun u => (sched I).payload (cell c r k i) 0 u) = copyPay I c r i k := by
  rw [Finset.sdiff_empty, duties_cell, bigSep_singleton, payload_cell]

/-! ## Levels, and what a device owes -/

def L (g : GSem nD τ sig) : Finset Unit := if g.1.2 = .tc then {()} else ∅
/-- Waits come in this order: send cells and window copies first, then the barrier, then the two rings' receives as they
    alternate. -/
def lvS : SemLoc sig → ℕ
  | .reg _ => 1
  | .dma d => if isR d then (match decK d with
    | 0 => 0
    | 1 => 2 * (decI d).val + 2
    | 2 => 0
    | 3 => 2 * (decI d).val + 7) else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_rsem : ∀ (r : Fin 2) (i : Fin 7), lvS (.dma (rsem r 0 i)) = 0 ∧ lvS (.dma (rsem r 1 i)) = 2 * i.val + 2
    ∧ lvS (.dma (rsem r 2 i)) = 0 ∧ lvS (.dma (rsem r 3 i)) = 2 * i.val + 7 := by decide +kernel
theorem lvS_wsem : ∀ (r kv i : Fin 2), lvS (.dma (wsem r kv i)) = 0 := by decide +kernel

/-- What device `c` still owes: `b` of the two barrier signals, the gather's sends from `g` on and the scatter's from `s` on,
    per ring. -/
def dueB (c : Dev nD) (b : ℕ) : CellTallies nD τ sig Unit :=
  (if b < 2 then tallyAt (bar (tgt 0 c)) () 1 else 0) + (if b < 1 then tallyAt (bar (tgt 1 c)) () 1 else 0)
def dueK (c : Dev nD) (k : Fin 4) (g : Fin 2 → ℕ) : CellTallies nD τ sig Unit :=
  ∑ ri ∈ (Finset.univ : Finset (Fin 2 × Fin 7)).filter (fun ri => g ri.1 ≤ ri.2.val), tallyAt (cell (tgt ri.1 c) ri.1 k ri.2) () N
def due (c : Dev nD) (b : ℕ) (g s : Fin 2 → ℕ) : CellTallies nD τ sig Unit := dueB c b + (dueK c 1 g + dueK c 3 s)

theorem dueK_step (c : Dev nD) (k : Fin 4) (g g' : Fin 2 → ℕ) (r : Fin 2) (i : Fin 7) (h : g r = i.val)
    (h' : ∀ r', g' r' = if r' = r then i.val + 1 else g r') : dueK c k g = dueK c k g' + tallyAt (cell (tgt r c) r k i) () N := by
  unfold dueK
  rw [show (Finset.univ : Finset (Fin 2 × Fin 7)).filter (fun ri => g ri.1 ≤ ri.2.val)
      = insert (r, i) ((Finset.univ : Finset (Fin 2 × Fin 7)).filter (fun ri => g' ri.1 ≤ ri.2.val)) from ?_, Finset.sum_insert ?_, add_comm]
  · simp [h']
  · ext ⟨r', j⟩
    simp only [Finset.mem_filter, Finset.mem_univ, true_and, Finset.mem_insert, Prod.mk.injEq, h']
    by_cases e : r' = r
    · subst e; simp only [if_true, h, true_and, Fin.ext_iff]; omega
    · simp only [e, false_and, false_or, if_false]

/-- Owing only that, `c` may wait on any of its cells below the levels of what it owes. -/
theorem mayWait (c : Dev nD) (sm : SemLoc sig) (b : ℕ) (g s : Fin 2 → ℕ) (hb : 2 ≤ b ∨ lvS sm = 0)
    (hg : ∀ r, ∀ i : Fin 7, g r ≤ i.val → lvS sm < 2 * i.val + 2) (hs : ∀ r, ∀ i : Fin 7, s r ≤ i.val → lvS sm < 2 * i.val + 7) :
    (levAts L lv : sProp (MM F)) ⊢ MayWait (c : Thread nD τ) sm () (due c b g s) := by
  have key : ∀ g' u, 0 < due c b g s g' u → u ∈ L g' ∧ lvS sm < lv g' u := by
    intro g' u h
    unfold due dueB dueK at h
    rw [Pi.add_apply, Finsupp.add_apply, Pi.add_apply, Finsupp.add_apply, Pi.add_apply, Finsupp.add_apply] at h
    have sumcase : ∀ (k : Fin 4) (g : Fin 2 → ℕ), 0 < (∑ ri ∈ (Finset.univ : Finset (Fin 2 × Fin 7)).filter (fun ri => g ri.1 ≤ ri.2.val),
        (tallyAt (cell (tgt ri.1 c) ri.1 k ri.2) () N : CellTallies nD τ sig Unit)) g' u →
        ∃ (r : Fin 2) (i : Fin 7), g r ≤ i.val ∧ g' = cell (tgt r c) r k i := by
      intro k g hp
      rw [Finset.sum_apply, Finsupp.finsetSum_apply] at hp
      obtain ⟨⟨r, i⟩, hm, hne⟩ := Finset.exists_ne_zero_of_sum_ne_zero hp.ne'
      rw [tallyAt_apply] at hne
      by_cases e : g' = cell (tgt r c) r k i ∧ u = ()
      · exact ⟨r, i, (Finset.mem_filter.mp hm).2, e.1⟩
      · exact absurd (if_neg e) hne
    have barcase : ∀ (p : Prop) [Decidable p] (d : Dev nD), (p → b < 2) → 0 < (if p then (tallyAt (bar d) () 1 : CellTallies nD τ sig Unit) else 0) g' u →
        u ∈ L g' ∧ lvS sm < lv g' u := by
      intro p _ d hp2 hp
      by_cases hpp : p
      · rw [if_pos hpp, tallyAt_apply] at hp
        by_cases e : g' = bar d ∧ u = ()
        · rw [e.1]
          refine ⟨by rw [L_tc]; exact Finset.mem_singleton_self _, ?_⟩
          have h1 : lvS sm = 0 := by rcases hb with hb | hb; · exact absurd (hp2 hpp) (by omega)
                                     exact hb
          show lvS sm < 1; omega
        · rw [if_neg e] at hp; exact absurd hp (Nat.lt_irrefl 0)
      · rw [if_neg hpp] at hp; exact absurd hp (Nat.lt_irrefl 0)
    rcases Nat.add_pos_iff_pos_or_pos.mp h with h | h
    · rcases Nat.add_pos_iff_pos_or_pos.mp h with h | h
      · exact barcase _ _ (fun h => h) h
      · exact barcase _ _ (fun h => by omega) h
    · rcases Nat.add_pos_iff_pos_or_pos.mp h with h | h
      · obtain ⟨r, i, hi, rfl⟩ := sumcase 1 g h
        refine ⟨by rw [L_tc]; exact Finset.mem_singleton_self _, ?_⟩
        show lvS sm < lvS _; rw [(lvS_rsem r i).2.1]; exact hg r i hi
      · obtain ⟨r, i, hi, rfl⟩ := sumcase 3 s h
        refine ⟨by rw [L_tc]; exact Finset.mem_singleton_self _, ?_⟩
        show lvS sm < lvS _; rw [(lvS_rsem r i).2.2.2]; exact hs r i hi
  exact MayOwe.of_cut (L := L) (lev := lv) (lvS sm)
    (fun p hp => by rw [Finset.mem_singleton.mp hp, L_tc]; exact Finset.mem_singleton_self _)
    (fun g' u h => (key g' u h).1)
    (fun p hp => by rw [Finset.mem_singleton.mp hp]; exact le_refl _)
    (fun g' u h => (key g' u h).2)

end Cert.KernelIdeal.Run

end
-- ==== Proof.Ops.lean ====
/- The body's operations on what a device holds: loads and stores of a held block, the copies' operands as held blocks, and
   how triples compose. -/
module

public import proofs.«01_k».proof.Proof.Sched
public import Idealize.ShloMosaic.Lib.Pipeline.TableIdle
public import Idealize.ShloMosaic.Lib.ValueLayout

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts

variable {F : FTy → Type} [FloatOps F] [Named F]

abbrev 𝒱₀ : Variants := Variants.none

/-- The body's triples: from `A`, device `c` runs `p` to `B`. -/
abbrev Wp {α : Type} (c : Dev nD) (p : P F α) (B : α → sProp (MM F)) : sProp (MM F) :=
  wp Idealize.ShloMosaic.frame (wpE (defs₀ (F := F)) 𝒱₀ (c : Thread nD τ) none) Set.univ p B
def Tr (c : Dev nD) (A : sProp (MM F)) (p : P F PUnit) (B : sProp (MM F)) : Prop := A ⊢ Wp c p fun _ => B

theorem Tr.seq {c : Dev nD} {A B C : sProp (MM F)} {p q : P F PUnit} (h : Tr c A p B) (h' : Tr c B q C) :
    Tr c A (p >>= fun _ => q) C := by
  unfold Tr Wp at *
  rw [wp_bind]
  exact h.trans (wp_mono _ _ _ fun _ => h')
theorem Tr.frame {c : Dev nD} {A B : sProp (MM F)} {p : P F PUnit} (h : Tr c A p B) (R : sProp (MM F)) :
    Tr c iprop(A ∗ R) p iprop(B ∗ R) := by
  unfold Tr Wp at *
  exact (sep_mono_left h).trans (wp_frame_r _ _ _)
theorem Tr.conseq {c : Dev nD} {A A' B B' : sProp (MM F)} {p : P F PUnit} (h : Tr c A p B) (hA : A' ⊢ A) (hB : B ⊢ B') :
    Tr c A' p B' := by
  unfold Tr Wp at *
  exact hA.trans (h.trans (wp_mono _ _ _ fun _ => hB))

/-- Using a triple in the middle of a proof. -/
theorem Tr.use {c : Dev nD} {A B : sProp (MM F)} {p : P F PUnit} (h : Tr c A p B) {Q : PUnit → sProp (MM F)} :
    A ⊢ iprop((B -∗ Q ⟨⟩) -∗ Wp c p Q) := by
  unfold Tr at h
  refine BI.wand_intro ?_
  refine (sep_mono_left h).trans ((wp_frame_r _ _ _).trans (wp_mono _ _ _ fun _ => ?_))
  iintro ⟨H, Hk⟩
  iapply Hk $$ H

/-! ## One member of a family -/

/-- Two families that differ at one index only. -/
theorem bigSep_swap {I : Type} [Fintype I] [DecidableEq I] {Φ Ψ : I → sProp (MM F)} (j : I) (h : ∀ i, i ≠ j → Φ i = Ψ i) :
    ∃ R : sProp (MM F), bigSep Finset.univ Φ = iprop(Φ j ∗ R) ∧ bigSep Finset.univ Ψ = iprop(Ψ j ∗ R) := by
  refine ⟨bigSep (Finset.univ.erase j) Φ, bigSep_univ_at Φ j, ?_⟩
  rw [bigSep_univ_at Ψ j, bigSep_congr fun i hi => h i (Finset.ne_of_mem_erase hi)]

theorem bigAt {J : Type} [DecidableEq J] {s : Finset J} {Φ : J → sProp (MM F)} {i : J} (h : i ∈ s) : (bigSep s Φ : sProp (MM F)) ⊢ Φ i := bigSep_elim h

/-! ## Loads and stores of held blocks -/

theorem ret_wp {α : Type} {c : Dev nD} {a : α} {Q : α → sProp (MM F)} : Q a ⊢ Wp c (Prog.ret a) Q :=
  pure_le_wp_ret _ _ _ a Q

theorem load_hold {sp : CoreSpace} {s : Shape} {e : EltTy} (c : Dev nD) (M : Memref sig .tc (Space.core sp) s e) (R : Rect s) (q : PosShare TreeShare)
    (Y : R.shape.Idx → Elt F e) (hl : M.view.LoadsAt R.toLoadRect) {Q : (R.shape.Idx → Elt F e) → sProp (MM F)} :
    hold c M R q Y ⊢ iprop((hold c M R q Y -∗ Q Y) -∗ Wp c (Prog.lift (.load M R.toLoadRect hl)) Q) := by
  have h : hold c M R q Y ⊢ iprop((hold c M R q Y -∗ Wp c (Prog.ret ((M.access R).read (Elt F) ((M.access R).rep Y))) Q)
      -∗ Wp c (Prog.lift (.load M R.toLoadRect hl)) Q) := wp_load_rect 𝒱₀ (c : Thread nD τ) none Set.univ (subset_refl (M.access R).set)
  rw [View.read_rep] at h
  iintro H Hk
  iapply h $$ H
  iintro H
  iapply ret_wp
  iapply Hk $$ H

theorem load_any {sp : CoreSpace} {s : Shape} {e : EltTy} (c : Dev nD) (M : Memref sig .tc (Space.core sp) s e) (R : Rect s)
    (hl : M.view.LoadsAt R.toLoadRect) {Q : (R.shape.Idx → Elt F e) → sProp (MM F)} :
    holdAny c M R ⊢ iprop((∀ Y, holdAny c M R -∗ Q Y) -∗ Wp c (Prog.lift (.load M R.toLoadRect hl)) Q) := by
  unfold holdAny
  iintro ⟨%f, H⟩ Hk
  iapply (wp_load_rect (defs := defs₀ (F := F)) 𝒱₀ (c : Thread nD τ) none Set.univ (m := M) (r := R) (hl := hl) (k := Prog.ret) (Q := Q)
    (f := f) (subset_refl (M.access R).set)) $$ H
  iintro H
  iapply ret_wp
  iapply Hk
  iexists f; iexact H

theorem hold_any {sp : Space} {s : Shape} {e : EltTy} (c : Dev nD) (M : Memref sig .tc sp s e) (R : Rect s) (Y : R.shape.Idx → Elt F e) :
    hold c M R fullShare Y ⊢ holdAny (F := F) c M R := by
  unfold hold holdAny
  iintro H; iexists _; iexact H

/-- What a points-to of a block holds, as read through it. -/
theorem hold_of {sp : Space} {s : Shape} {e : EltTy} (c : Dev nD) (M : Memref sig .tc sp s e) (R : Rect s) (q : PosShare TreeShare)
    (g : Buf (Elt F) ((M.access R).loc (c : Thread nD τ))) :
    ((M.access R).loc (c : Thread nD τ) ↦[(M.access R).set]{q} g : sProp (MM F)) = hold c M R q ((M.access R).read (Elt F) g) :=
  pointsTo_congr fun i hi => by
    obtain ⟨x, -, rfl⟩ := Finset.mem_map.mp hi
    rw [View.rep_emb, View.read_apply, cast_cast, cast_eq]

theorem store_any {sp : CoreSpace} {s : Shape} {e : EltTy} (c : Dev nD) (M : Memref sig .tc (Space.core sp) s e) (R : Rect s) (w : R.shape.Idx → Elt F e)
    (hx : (M.access R).Stores Finset.univ) (hm : (Finset.univ : Finset R.shape.Idx) = Finset.univ ∨ ∀ a, R.stride a = 1)
    {Q : PUnit → sProp (MM F)} :
    holdAny c M R ⊢ iprop((hold c M R fullShare w -∗ Q ⟨⟩) -∗ Wp c (Prog.lift (.store M R w Finset.univ hx hm)) Q) := by
  have h (f : Buf (Elt F) ((M.access R).loc (c : Thread nD τ))) : ((M.access R).loc (c : Thread nD τ) ↦[(M.access R).set]{fullShare} f)
      ⊢ iprop((((M.access R).loc (c : Thread nD τ) ↦[(M.access R).set]{fullShare} ((M.access R).write (Elt F) f w Finset.univ)) -∗ Wp c (Prog.ret ⟨⟩) Q)
        -∗ Wp c (Prog.lift (.store M R w Finset.univ hx hm)) Q) :=
    wp_store 𝒱₀ (c : Thread nD τ) none Set.univ (subset_refl (M.access R).set)
  unfold holdAny
  iintro ⟨%f, H⟩ Hk
  iapply (h f) $$ H
  iintro H
  iapply ret_wp
  iapply Hk
  iapply (Entails.of_eq ((hold_of c M R fullShare _).trans (by rw [View.read_write_univ]))) $$ H

/-! ## Copies' operands -/

/-- A slice with a unit axis dropped stands on the elements of the slice. -/
theorem sq_pts {sp : Space} {s s' : Shape} {e : EltTy} (c : Dev nD) (M : Memref sig .tc sp s e) (R : Rect s) (hR : ∀ a, R.stride a = 1)
    (hs : R.shape.Squeezes s') (q : PosShare TreeShare) (g : Buf (Elt F) ((M.access R).loc (c : Thread nD τ))) :
    ((((M.slice R hR).squeeze s' hs).view.loc (c : Thread nD τ)) ↦[((M.slice R hR).squeeze s' hs).view.set]{q} g : sProp (MM F))
      = ((M.access R).loc (c : Thread nD τ) ↦[(M.access R).set]{q} g) := by
  have h : ((M.slice R hR).squeeze s' hs).view.set = (M.access R).set := Memref.set_view_squeeze ..
  show ((M.access R).loc (c : Thread nD τ) ↦[_]{q} g : sProp (MM F)) = _
  rw [h]

theorem sq_read {sp : Space} {s s' : Shape} {e : EltTy} (M : Memref sig .tc sp s e) (R : Rect s) (hR : ∀ a, R.stride a = 1)
    (hs : R.shape.Squeezes s') (g : (M.access R).ty.Contents (Elt F)) (j : s'.Idx) :
    ((M.slice R hR).squeeze s' hs).view.read (Elt F) g j = (M.access R).read (Elt F) g (Shape.reshapeEquiv hs.numel_eq j) := rfl

/-- The block a remote copy of a squeezed block lands: the source's contents, as a block. -/
theorem sq_land {sp sp' : Space} {d d' sz : Fin 3 → ℕ} {s' : Shape} {e : EltTy} (c' : Dev nD) (M : Memref sig .tc sp ⟨3, d⟩ e)
    (M' : Memref sig .tc sp' ⟨3, d'⟩ e) (o o' : Fin 3 → ℕ) (ho : ∀ a, o a + sz a ≤ d a) (ho' : ∀ a, o' a + sz a ≤ d' a)
    (hs : (Rect.unit (s := ⟨3, d⟩) o sz ho).shape.Squeezes s') (Y : (⟨3, sz⟩ : Shape).Idx → Elt F e)
    (fd : Buf (Elt F) ((M'.access (Rect.unit (s := ⟨3, d'⟩) o' sz ho')).loc (c' : Thread nD τ))) :
    ((((M'.slice (Rect.unit (s := ⟨3, d'⟩) o' sz ho') (fun _ => rfl)).squeeze s' hs).view.loc (c' : Thread nD τ))
        ↦[((M'.slice (Rect.unit (s := ⟨3, d'⟩) o' sz ho') (fun _ => rfl)).squeeze s' hs).view.set]{fullShare}
        ((M'.slice (Rect.unit (s := ⟨3, d'⟩) o' sz ho') (fun _ => rfl)).squeeze s' hs).view.write (Elt F) fd
          (((M.slice (Rect.unit (s := ⟨3, d⟩) o sz ho) (fun _ => rfl)).squeeze s' hs).view.read (Elt F)
            ((M.access (Rect.unit (s := ⟨3, d⟩) o sz ho)).rep Y)) Finset.univ : sProp (MM F))
      = hold c' M' (Rect.unit (s := ⟨3, d'⟩) o' sz ho') fullShare Y := by
  rw [sq_pts c' M' _ _ hs, hold_of c' M']
  congr 1
  funext y
  have h := sq_read M' (Rect.unit (s := ⟨3, d'⟩) o' sz ho') (fun _ => rfl) hs
    (((M'.slice (Rect.unit (s := ⟨3, d'⟩) o' sz ho') (fun _ => rfl)).squeeze s' hs).view.write (Elt F) fd
          (((M.slice (Rect.unit (s := ⟨3, d⟩) o sz ho) (fun _ => rfl)).squeeze s' hs).view.read (Elt F)
            ((M.access (Rect.unit (s := ⟨3, d⟩) o sz ho)).rep Y)) Finset.univ) ((Shape.reshapeEquiv hs.numel_eq).symm y)
  rw [Equiv.apply_symm_apply] at h
  rw [← h, View.read_write_univ, sq_read M, View.read_rep, Equiv.apply_symm_apply]

/-- Block `b` at another spelling of its offsets. -/
theorem hold_at (c : Dev nD) (M : Memref sig .tc .vmem S8x128x1024 .bf16) (b : Fin 8) (o : Fin 3 → ℕ) (ho : o = ![b.val, 0, 0])
    (inb : ∀ a, o a + S1x128x1024.size a ≤ S8x128x1024.size a) (q : PosShare TreeShare) (Y : Vec F S1x128x1024 .bf16) :
    hold c M (bR b) q Y = hold c M (Rect.unit (s := S8x128x1024) o S1x128x1024.size inb) q Y := by subst ho; rfl
theorem holdAny_at (c : Dev nD) (M : Memref sig .tc .vmem S8x128x1024 .bf16) (b : Fin 8) (o : Fin 3 → ℕ) (ho : o = ![b.val, 0, 0])
    (inb : ∀ a, o a + S1x128x1024.size a ≤ S8x128x1024.size a) :
    holdAny (F := F) c M (bR b) = holdAny c M (Rect.unit (s := S8x128x1024) o S1x128x1024.size inb) := by subst ho; rfl

/-- The elements of a copy's operand, spelled as the block. -/
theorem blk_pts (c : Dev nD) (M : Memref sig .tc .vmem S8x128x1024 .bf16) (b : Fin 8) (o : Fin 3 → ℕ) (ho : o = ![b.val, 0, 0])
    (inb : ∀ a, o a + S1x128x1024.size a ≤ S8x128x1024.size a) (q : PosShare TreeShare) (g : Buf (Elt F) ((M.access (bR b)).loc (c : Thread nD τ))) :
    ((((M.slice (Rect.unit (s := S8x128x1024) o S1x128x1024.size inb) (fun _ => rfl)).squeeze S128x1024 squeezes_S1x128x1024_S128x1024).view.loc (c : Thread nD τ))
      ↦[((M.slice (Rect.unit (s := S8x128x1024) o S1x128x1024.size inb) (fun _ => rfl)).squeeze S128x1024 squeezes_S1x128x1024_S128x1024).view.set]{q} g : sProp (MM F))
      = ((M.access (bR b)).loc (c : Thread nD τ) ↦[(M.access (bR b)).set]{q} g) := by
  subst ho; exact sq_pts c M _ _ _ q g

end Cert.KernelIdeal.Run

end
-- ==== Proof.Ring.lean ====
/- The remote copies and their waits, each on the blocks and tokens it moves. -/
module

public import proofs.«01_k».proof.Proof.Ops

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts

variable {F : FTy → Type} [FloatOps F] [Named F] (I : Ins F)

/-! ## What every device knows -/

/-- Every cell's invariant, at the names the launch dealt. -/
def invs (K : GSem nD τ sig → ℕ) : sProp (MM F) :=
  iprop((bigSep Finset.univ fun d : Dev nD => cellInv ER (sched I) (K (bar d)) (bar d))
    ∗ bigSep Finset.univ fun p : Dev nD × Fin 2 × Fin 4 × Fin 7 =>
      cellInv ER (sched I) (K (cell p.1 p.2.1 p.2.2.1 p.2.2.2)) (cell p.1 p.2.1 p.2.2.1 p.2.2.2))
instance invs_persistent (K : GSem nD τ sig → ℕ) : BI.Persistent (invs I K) := by unfold invs; infer_instance
theorem invs_bar (K : GSem nD τ sig → ℕ) (d : Dev nD) : invs I K ⊢ cellInv ER (sched I) (K (bar d)) (bar d) := by
  unfold invs
  iintro ⟨H, -⟩
  iapply (bigAt (Finset.mem_univ d)) $$ H
theorem invs_cell (K : GSem nD τ sig → ℕ) (d : Dev nD) (r : Fin 2) (k : Fin 4) (i : Fin 7) :
    invs I K ⊢ cellInv ER (sched I) (K (cell d r k i)) (cell d r k i) := by
  unfold invs
  iintro ⟨-, H⟩
  iapply (bigAt (Finset.mem_univ (d, r, k, i))) $$ H

/-- The device's own cells are at round 0 or later; its neighbours' receive cells too. -/
def mine (c : Dev nD) : sProp (MM F) := bigSep Finset.univ fun p : Fin 2 × Fin 4 × Fin 7 => reached ER (cell c p.1 p.2.1 p.2.2) 0
def theirs (c : Dev nD) : sProp (MM F) := bigSep Finset.univ fun p : Fin 2 × Fin 7 =>
  iprop(reached ER (cell (tgt p.1 c) p.1 1 p.2) 0 ∗ reached ER (cell (tgt p.1 c) p.1 3 p.2) 0)
instance mine_persistent (c : Dev nD) : BI.Persistent (mine (F := F) c) := by unfold mine; infer_instance
instance theirs_persistent (c : Dev nD) : BI.Persistent (theirs (F := F) c) := by unfold theirs; infer_instance
theorem mine_at (c : Dev nD) (r : Fin 2) (k : Fin 4) (i : Fin 7) : mine (F := F) c ⊢ reached ER (cell c r k i) 0 := by
  unfold mine; iintro H; iapply (bigAt (Finset.mem_univ (r, k, i))) $$ H
theorem theirs_at (c : Dev nD) (r : Fin 2) (i : Fin 7) :
    theirs (F := F) c ⊢ iprop(reached ER (cell (tgt r c) r 1 i) 0 ∗ reached ER (cell (tgt r c) r 3 i) 0) := by
  unfold theirs; iintro H; iapply (bigAt (Finset.mem_univ (r, i))) $$ H

/-- What the body knows throughout. -/
def Ctx (K : GSem nD τ sig → ℕ) (c : Dev nD) : sProp (MM F) := iprop(invs I K ∗ levAts L lv ∗ mine c ∗ theirs c)
instance Ctx_persistent (K : GSem nD τ sig → ℕ) (c : Dev nD) : BI.Persistent (Ctx I K c) := by unfold Ctx; infer_instance

/-! ## Credits -/

theorem off3_succ (c : Dev nD) (r : Fin 2) (s : Fin 7) : k0_off3 c (dist r s.succ.val) = ![(blk r (s.val + 1) c).val, 0, 0] := by
  rw [off3_eq, Fin.val_succ]

theorem xfB_N (c : Dev nD) (r : Fin 2) (h : Fin 8) : (xfB c r h).view.dmaCredit = N := match r with | 0 => rfl | 1 => rfl
theorem paB_N (c : Dev nD) (r : Fin 2) (h : Fin 8) : (paB c r h).view.dmaCredit = N := match r with | 0 => rfl | 1 => rfl
theorem rrB_N (r : Fin 2) (s : Fin 7) : (rrB r s).view.dmaCredit = N := match r with | 0 => rfl | 1 => rfl

theorem land_blk {d' : Fin 3 → ℕ} (c' : Dev nD) (M : Memref sig .tc .vmem S8x128x1024 .bf16) (M' : Memref sig .tc .vmem ⟨3, d'⟩ .bf16)
    (b : Fin 8) (o : Fin 3 → ℕ) (ho : o = ![b.val, 0, 0]) (inb : ∀ a, o a + S1x128x1024.size a ≤ S8x128x1024.size a)
    (o' : Fin 3 → ℕ) (inb' : ∀ a, o' a + S1x128x1024.size a ≤ d' a) (Y : Vec F S1x128x1024 .bf16)
    (fd : Buf (Elt F) ((M'.access (Rect.unit (s := ⟨3, d'⟩) o' S1x128x1024.size inb')).loc (c' : Thread nD τ))) :
    ((((M'.slice (Rect.unit (s := ⟨3, d'⟩) o' S1x128x1024.size inb') (fun _ => rfl)).squeeze S128x1024 squeezes_S1x128x1024_S128x1024).view.loc (c' : Thread nD τ))
        ↦[((M'.slice (Rect.unit (s := ⟨3, d'⟩) o' S1x128x1024.size inb') (fun _ => rfl)).squeeze S128x1024 squeezes_S1x128x1024_S128x1024).view.set]{fullShare}
        ((M'.slice (Rect.unit (s := ⟨3, d'⟩) o' S1x128x1024.size inb') (fun _ => rfl)).squeeze S128x1024 squeezes_S1x128x1024_S128x1024).view.write (Elt F) fd
          (((M.slice (Rect.unit (s := S8x128x1024) o S1x128x1024.size inb) (fun _ => rfl)).squeeze S128x1024 squeezes_S1x128x1024_S128x1024).view.read (Elt F)
            ((M.access (bR b)).rep Y)) Finset.univ : sProp (MM F))
      = hold c' M' (Rect.unit (s := ⟨3, d'⟩) o' S1x128x1024.size inb') fullShare Y := by
  subst ho
  exact sq_land c' M M' _ o' inb inb' squeezes_S1x128x1024_S128x1024 Y fd

variable (K : GSem nD τ sig → ℕ)

/-- A copy of block `b` to a neighbour's block: the two cells it counts on are paid with the two ends. -/
theorem send_blk {d' : Fin 3 → ℕ} (c : Dev nD) (r : Fin 2) (k k' : Fin 4) (i : Fin 7) (M : Memref sig .tc .vmem S8x128x1024 .bf16)
    (M' : Memref sig .tc .vmem ⟨3, d'⟩ .bf16) (b : Fin 8) (o : Fin 3 → ℕ) (ho : o = ![b.val, 0, 0])
    (inb : ∀ a, o a + S1x128x1024.size a ≤ S8x128x1024.size a) (o' : Fin 3 → ℕ) (inb' : ∀ a, o' a + S1x128x1024.size a ≤ d' a)
    (Y : Vec F S1x128x1024 .bf16) (q : PosShare TreeShare)
    (hsrc : ((M.slice (Rect.unit (s := S8x128x1024) o S1x128x1024.size inb) (fun _ => rfl)).squeeze S128x1024 squeezes_S1x128x1024_S128x1024).view.WordExact)
    (hdst : ((M'.slice (Rect.unit (s := ⟨3, d'⟩) o' S1x128x1024.size inb') (fun _ => rfl)).squeeze S128x1024 squeezes_S1x128x1024_S128x1024).view.WordExact)
    (hsc : ((M'.slice (Rect.unit (s := ⟨3, d'⟩) o' S1x128x1024.size inb') (fun _ => rfl)).squeeze S128x1024 squeezes_S1x128x1024_S128x1024).view.ref.isScScratch = false)
    (hsem : DmaTarget.Typed .vmem (.dma (rsem r k' i)) (.remote (Dev.tc (tgt r c))
      ((M'.slice (Rect.unit (s := ⟨3, d'⟩) o' S1x128x1024.size inb') (fun _ => rfl)).squeeze S128x1024 squeezes_S1x128x1024_S128x1024)
      (.dma (rsem r k i)) hsc))
    (hN : ((M'.slice (Rect.unit (s := ⟨3, d'⟩) o' S1x128x1024.size inb') (fun _ => rfl)).squeeze S128x1024 squeezes_S1x128x1024_S128x1024).view.dmaCredit = N)
    (h₁ : hold c M (bR b) q Y ⊢ copyPay I c r i k)
    (h₂ : hold (tgt r c) M' (Rect.unit (s := ⟨3, d'⟩) o' S1x128x1024.size inb') fullShare Y ⊢ copyPay I (tgt r c) r i k')
    {W : Waits sig Unit} {O : CellTallies nD τ sig Unit} {Q : PUnit → sProp (MM F)} :
    iprop(Ctx I K c ∗ reached ER (cell (tgt r c) r k' i) 0 ∗ hold c M (bR b) q Y
        ∗ holdAny (tgt r c) M' (Rect.unit (s := ⟨3, d'⟩) o' S1x128x1024.size inb')
        ∗ dutyTok ER (cell c r k i) 0 0 ∗ dutyTok ER (cell (tgt r c) r k' i) 0 0
        ∗ owes (c : Thread nD τ) (O + tallyAt (cell (tgt r c) r k' i) () N) W)
      ⊢ iprop(((cred (tallyAt (cell c r k i) () N) ∗ owes (c : Thread nD τ) O W) -∗ Q ⟨⟩)
        -∗ Wp c (Prog.lift (.enqueueDma ((M.slice (Rect.unit (s := S8x128x1024) o S1x128x1024.size inb) (fun _ => rfl)).squeeze S128x1024 squeezes_S1x128x1024_S128x1024)
          (.remote (Dev.tc (tgt r c)) ((M'.slice (Rect.unit (s := ⟨3, d'⟩) o' S1x128x1024.size inb') (fun _ => rfl)).squeeze S128x1024 squeezes_S1x128x1024_S128x1024)
            (.dma (rsem r k i)) hsc) (.dma (rsem r k' i)) hsrc hdst hsem)) Q) := by
  unfold Ctx holdAny
  iintro ⟨⟨#HI, #Hlev, #Hm, #Ht⟩, #Hr, Hx, ⟨%fd, Hd⟩, T1, T2, HO⟩ Hk
  iapply (Rounds.wp_send_pointsTo (defs := defs₀ (F := F)) 𝒱₀ ER (sched I) (c : Thread nD τ) none (c' := (tgt r c : Thread nD τ))
      (src := ((M.slice (Rect.unit (s := S8x128x1024) o S1x128x1024.size inb) (fun _ => rfl)).squeeze S128x1024 squeezes_S1x128x1024_S128x1024))
      (dst := ((M'.slice (Rect.unit (s := ⟨3, d'⟩) o' S1x128x1024.size inb') (fun _ => rfl)).squeeze S128x1024 squeezes_S1x128x1024_S128x1024))
      (sS := .dma (rsem r k i)) (sem := .dma (rsem r k' i)) (q := q) (fs := (M.access (bR b)).rep Y)
      (κ₁ := K (cell c r k i)) (κ₂ := K (cell (tgt r c) r k' i)) (r₁ := 0) (r₂ := 0) (d₁ := 0) (d₂ := 0) (fd := fd) (k := Prog.ret) (Q := Q)
      (by rw [duties_cell]; exact Finset.mem_singleton_self _) (by rw [duties_cell]; exact Finset.mem_singleton_self _)
      () () N hN (amount_cell I c r k i 0) (amount_cell I (tgt r c) r k' i 0) O rfl (W := W)
      (by rw [payload_cell]; exact (Entails.of_eq (blk_pts c M b o ho inb q _)).trans h₁)
      (by rw [payload_cell]; exact (Entails.of_eq (land_blk (tgt r c) M M' b o ho inb o' inb' Y fd)).trans h₂)) $$ [Hx Hd HO T1 T2]
  · isplitr; · iapply (invs_cell I K c r k i) $$ HI
    isplitr; · iapply (invs_cell I K (tgt r c) r k' i) $$ HI
    isplitl [Hx]; · iapply (Entails.of_eq (show hold c M (bR b) q Y = _ from (blk_pts c M b o ho inb q _).symm)) $$ Hx
    isplitl [Hd]; · iapply (Entails.of_eq (sq_pts (tgt r c) M' _ (fun _ => rfl) squeezes_S1x128x1024_S128x1024 _ fd).symm) $$ Hd
    isplitl [HO]; · iexact HO
    isplitl [T1]; · iexact T1
    isplitr; · iapply (mine_at (F := F) c r k i) $$ Hm
    isplitl [T2]; · iexact T2
    iexact Hr
  iintro ⟨Hc, HO⟩
  iapply ret_wp
  iapply Hk
  isplitl [Hc]; · iexact Hc
  iexact HO

/-- Pass the block at distance `h` on: half of it stays readable. -/
theorem gSend_op (c : Dev nD) (r : Fin 2) (h : Fin 7) {W : Waits sig Unit} {O : CellTallies nD τ sig Unit} {Q : PUnit → sProp (MM F)} :
    iprop(Ctx I K c ∗ xH I c r h.val fullShare ∗ xD c r h ∗ dutyTok ER (cell c r 0 h) 0 0 ∗ dutyTok ER (cell (tgt r c) r 1 h) 0 0
        ∗ owes (c : Thread nD τ) (O + tallyAt (cell (tgt r c) r 1 h) () N) W)
      ⊢ iprop(((xH I c r h.val qStay ∗ cred (tallyAt (cell c r 0 h) () N) ∗ owes (c : Thread nD τ) O W) -∗ Q ⟨⟩) -∗ Wp c (gSend c r h) Q) := by
  iintro ⟨#HC, Hx, Hd, T1, T2, HO⟩ Hk
  ihave Hs := (show xH I c r h.val fullShare ⊢ iprop(xH I c r h.val qSend ∗ xH I c r h.val qStay) from
    (pointsTo_share (PosShare.mem_left_op_right fullShare)).1) $$ Hx
  icases Hs with ⟨Hx1, Hx2⟩
  unfold Ctx
  icases HC with ⟨#HI, #Hlev, #Hm, #Ht⟩
  ihave Ht' := (theirs_at (F := F) c r h) $$ Ht
  icases Ht' with ⟨#Hr, -⟩
  iapply (send_blk I K c r 0 1 h (xf r) (xf r) (blk r h.val c) (k0_off3 c (dist r h.castSucc.val)) (off3_eq c r h.castSucc) (off3_inb c r h.castSucc)
    (k0_off3 c (dist r h.castSucc.val)) (off3_inb c r h.castSucc) (xV I r (blk r h.val c)) qSend (xfB_word c r h.castSucc) (xfB_word c r h.castSucc) rfl
    ⟨⟨rfl, Or.inl rfl⟩, trivial⟩ (xfB_N c r _) (Entails.of_eq rfl)
    (Entails.of_eq ((hold_at _ _ _ _ (off3_eq c r h.castSucc) _ _ _).symm.trans (by
      show _ = hold _ _ _ _ _
      rw [blk_tgt]; rfl)))) $$ [Hx1 Hd T1 T2 HO]
  · unfold Ctx
    isplitr
    · isplitr; · iexact HI
      isplitr; · iexact Hlev
      isplitr; · iexact Hm
      iexact Ht
    isplitr; · iexact Hr
    isplitl [Hx1]; · unfold xH; iexact Hx1
    isplitl [Hd]
    · unfold xD; iapply (Entails.of_eq (holdAny_at (tgt r c) (xf r) (blk r h.val c) _ (off3_eq c r h.castSucc) _)) $$ Hd
    isplitl [T1]; · iexact T1
    isplitl [T2]; · iexact T2
    iexact HO
  iintro ⟨Hc, HO⟩
  iapply Hk
  isplitl [Hx2]; · iexact Hx2
  isplitl [Hc]; · iexact Hc
  iexact HO

/-- Send the products at distance `s + 1`. -/
theorem sSend_op (c : Dev nD) (r : Fin 2) (s : Fin 7) {W : Waits sig Unit} {O : CellTallies nD τ sig Unit} {Q : PUnit → sProp (MM F)} :
    iprop(Ctx I K c ∗ pH c r (s.val + 1) (sent I r s c) ∗ rD c r s ∗ dutyTok ER (cell c r 2 s) 0 0 ∗ dutyTok ER (cell (tgt r c) r 3 s) 0 0
        ∗ owes (c : Thread nD τ) (O + tallyAt (cell (tgt r c) r 3 s) () N) W)
      ⊢ iprop(((cred (tallyAt (cell c r 2 s) () N) ∗ owes (c : Thread nD τ) O W) -∗ Q ⟨⟩) -∗ Wp c (sSend c r s) Q) := by
  iintro ⟨#HC, Hx, Hd, T1, T2, HO⟩ Hk
  unfold Ctx
  icases HC with ⟨#HI, #Hlev, #Hm, #Ht⟩
  ihave Ht' := (theirs_at (F := F) c r s) $$ Ht
  icases Ht' with ⟨-, #Hr⟩
  iapply (send_blk I K c r 2 3 s (pa r) (rr r) (blk r (s.val + 1) c) (k0_off3 c (dist r s.succ.val)) (off3_succ c r s) (off3_inb c r s.succ)
    ![s.val, 0, 0] (rr_inb s) (sent I r s c) fullShare (paB_word c r s.succ) (rrB_word r s) rfl
    ⟨⟨rfl, Or.inl rfl⟩, trivial⟩ (rrB_N r _) (Entails.of_eq rfl)
    (Entails.of_eq (by show _ = hold _ _ _ _ _; rw [src_tgt]))) $$ [Hx Hd T1 T2 HO]
  · unfold Ctx
    isplitr
    · isplitr; · iexact HI
      isplitr; · iexact Hlev
      isplitr; · iexact Hm
      iexact Ht
    isplitr; · iexact Hr
    isplitl [Hx]; · unfold pH; iexact Hx
    isplitl [Hd]; · unfold rD; iexact Hd
    isplitl [T1]; · iexact T1
    isplitl [T2]; · iexact T2
    iexact HO
  iexact Hk

/-- Wait for the one copy a cell of the exchange counts: what it hands over. -/
theorem wait_op {s' t : Shape} {e' : EltTy} {sp' sp : Space} (c : Dev nD) (r : Fin 2) (k : Fin 4) (i : Fin 7) (A : Memref sig .tc sp' s' e')
    (B : Memref sig .tc sp t e') (hA : A.view.WordExact) (hB : B.view.WordExact) (hN : B.view.dmaCredit = N)
    {W : Waits sig Unit} (b : ℕ) (g s : Fin 2 → ℕ) (hb : 2 ≤ b ∨ lvS (.dma (rsem r k i)) = 0)
    (hg : ∀ r', ∀ i' : Fin 7, g r' ≤ i'.val → lvS (.dma (rsem r k i)) < 2 * i'.val + 2)
    (hs : ∀ r', ∀ i' : Fin 7, s r' ≤ i'.val → lvS (.dma (rsem r k i)) < 2 * i'.val + 7) {Q : PUnit → sProp (MM F)} :
    iprop(Ctx I K c ∗ atPos ER (cell c r k i) 0 ∅ 0 ∗ cred (tallyAt (cell c r k i) () N) ∗ owes (c : Thread nD τ) (due c b g s) W)
      ⊢ iprop(((atPos ER (cell c r k i) 1 ∅ 0 ∗ copyPay I c r i k ∗ ∃ W, owes (c : Thread nD τ) (due c b g s) W) -∗ Q ⟨⟩)
        -∗ Wp c (Prog.lift (.waitDma2 (rsem r k i) A B hA hB)) Q) := by
  unfold Ctx
  iintro ⟨⟨#HI, #Hlev, #Hm, #Ht⟩, Ha, Hc, HO⟩ Hk
  iapply (Rounds.wp_wait_rest_token (defs := defs₀ (F := F)) 𝒱₀ ER (sched I) (c : Thread nD τ) none (κ := K (cell c r k i)) (k := Prog.ret) (Q := Q)
      (wpE_waitDma2_eq 𝒱₀ (c : Thread nD τ) none Set.univ) (Set.mem_univ _) () (O := due c b g s) (W := W) (R := 0) (m := 0) (T := ∅)
      (by rw [Nat.zero_add]; exact hN.trans (expect_cell I c r k i).symm)) $$ [Hc HO Ha]
  · isplitr; · iapply (invs_cell I K c r k i) $$ HI
    isplitl [Hc]; · rw [hN]; iexact Hc
    isplitl [HO]; · iexact HO
    isplitr; · iapply (mayWait (F := F) c _ b g s hb hg hs) $$ Hlev
    iexact Ha
  iintro ⟨HO, Ha, -, Hp⟩
  ihave Hp' := (Entails.of_eq (rest_cell I c r k i)) $$ Hp
  iapply ret_wp
  iapply Hk
  isplitl [Ha]; · iexact Ha
  isplitl [Hp']; · iexact Hp'
  iexists _; iexact HO

end Cert.KernelIdeal.Run

end
-- ==== Proof.Windows.lean ====
/- The windows of keys and values: a slot of a window buffer is filled by eight copies, one per head, on one semaphore. -/
module

public import proofs.«01_k».proof.Proof.Ring
public import Idealize.ShloMosaic.Lib.ShareLeaves

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts

variable {F : FTy → Type} [FloatOps F] [Named F] (I : Ins F)

/-! ## A slot as its heads' columns -/

/-- The element of a window that head `g`'s copy lands its element `j` on. -/
def colIx (g : Fin 8) (j : S384x128.Idx) : S1x384x1024.Idx := fun
  | 0 => ⟨0, Nat.one_pos⟩
  | 1 => j 0
  | 2 => ⟨g.val * 128 + (j 1).val, by have : (j 1).val < 128 := (j 1).isLt; have := g.isLt; show _ < 1024; omega⟩

theorem wb_emb (r kv i : Fin 2) (g : Fin 8) (j : S384x128.Idx) :
    (wbB r kv i g).view.emb j = ((wb r kv).access (wbR i)).emb (colIx g j) := by
  have h : (Rect.unit (s := S2x384x1024) ![i.val, 0, g.val * 128] S1x384x128.size (wb_inb i g)).idx (Shape.reshapeEquiv squeezes_S1x384x128_S384x128.numel_eq j)
      = (wbR i).idx (colIx g j) := by
    rw [show Shape.reshapeEquiv squeezes_S1x384x128_S384x128.numel_eq j = Fin.cons ⟨0, Nat.one_pos⟩ j from Shape.reshapeEquiv_cons_one (n := 2) (d := ![384, 128]) _ j]
    funext a
    refine Fin.ext ?_
    match a with
    | 0 => rfl
    | 1 => rfl
    | 2 => show g.val * 128 + 1 * (j 1).val = 0 + 1 * (g.val * 128 + (j 1).val); omega
  exact congrArg (wb r kv).view.emb h

theorem colIx_surj (y : S1x384x1024.Idx) : ∃ g j, colIx g j = y := by
  refine ⟨⟨(y 2).val / 128, Nat.div_lt_of_lt_mul (y 2).isLt⟩, ix2 (y 1) ⟨(y 2).val % 128, Nat.mod_lt _ (by decide)⟩, ?_⟩
  funext a
  refine Fin.ext ?_
  match a with
  | 0 =>
    have : (y 0).val < 1 := (y 0).isLt
    show 0 = (y 0).val; omega
  | 1 => rfl
  | 2 => show (y 2).val / 128 * 128 + (y 2).val % 128 = (y 2).val; omega
theorem colIx_head {g g' : Fin 8} {j j' : S384x128.Idx} (h : colIx g j = colIx g' j') : g = g' := by
  have h2 : g.val * 128 + (j 1).val = g'.val * 128 + (j' 1).val := congrArg (fun y : S1x384x1024.Idx => (y 2).val) h
  have a : (j 1).val < 128 := (j 1).isLt
  have b : (j' 1).val < 128 := (j' 1).isLt
  exact Fin.ext (by omega)

theorem colIx_inj (g : Fin 8) : Function.Injective (colIx g) := fun j j' h => by
  have h2 : g.val * 128 + (j 1).val = g.val * 128 + (j' 1).val := congrArg (fun y : S1x384x1024.Idx => (y 2).val) h
  have h1 : (j 0).val = (j' 0).val := congrArg (fun y : S1x384x1024.Idx => (y 1).val) h
  funext a
  refine Fin.ext ?_
  match a with
  | 0 => exact h1
  | 1 => show (j 1).val = (j' 1).val; omega

/-- The elements of a slot head `g`'s copy writes. -/
def colSet (r kv i : Fin 2) (g : Fin 8) : Finset ((wb r kv).access (wbR i)).ty.Idx :=
  (Finset.univ : Finset S384x128.Idx).map ((⟨colIx g, colIx_inj g⟩ : S384x128.Idx ↪ S1x384x1024.Idx).trans ((wb r kv).access (wbR i)).emb)
theorem wbB_set (r kv i : Fin 2) (g : Fin 8) : (wbB r kv i g).view.set = colSet r kv i g := by
  have h : (wbB r kv i g).view.emb = (⟨colIx g, colIx_inj g⟩ : S384x128.Idx ↪ S1x384x1024.Idx).trans ((wb r kv).access (wbR i)).emb :=
    DFunLike.ext _ _ fun j => wb_emb r kv i g j
  exact congrArg (fun e => (Finset.univ : Finset S384x128.Idx).map e) h

theorem wb_disj (r kv i : Fin 2) (g g' : Fin 8) (h : g ≠ g') : Disjoint (colSet r kv i g) (colSet r kv i g') := by
  rw [Finset.disjoint_left]
  intro x hx hx'
  obtain ⟨j, -, rfl⟩ := Finset.mem_map.mp hx
  obtain ⟨j', -, e⟩ := Finset.mem_map.mp hx'
  exact h (colIx_head (((wb r kv).access (wbR i)).emb.injective e)).symm
theorem wb_cover (r kv i : Fin 2) : ((wb r kv).access (wbR i)).set = (Finset.univ : Finset (Fin 8)).biUnion fun g => colSet r kv i g := by
  ext x
  rw [Finset.mem_biUnion]
  constructor
  · intro hx
    obtain ⟨y, -, rfl⟩ := Finset.mem_map.mp hx
    obtain ⟨g, j, rfl⟩ := colIx_surj y
    exact ⟨g, Finset.mem_univ g, Finset.mem_map.mpr ⟨j, Finset.mem_univ j, rfl⟩⟩
  · rintro ⟨g, -, hx⟩
    obtain ⟨j, -, rfl⟩ := Finset.mem_map.mp hx
    exact Finset.mem_map_of_mem _ (Finset.mem_univ _)

/-- Head `g`'s columns of a slot. -/
def col (c : Dev nD) (r kv i : Fin 2) (g : Fin 8) (f : Buf (Elt F) (((wb r kv).access (wbR i)).loc (c : Thread nD τ))) : sProp (MM F) :=
  ((wb r kv).access (wbR i)).loc (c : Thread nD τ) ↦[colSet r kv i g]{fullShare} f
theorem slot_cols (c : Dev nD) (r kv i : Fin 2) (f : Buf (Elt F) (((wb r kv).access (wbR i)).loc (c : Thread nD τ))) :
    (((wb r kv).access (wbR i)).loc (c : Thread nD τ) ↦[((wb r kv).access (wbR i)).set]{fullShare} f : sProp (MM F))
      = bigSep Finset.univ fun g => col c r kv i g f := by
  rw [wb_cover]
  exact pointsTo_biUnion _ _ fun g _ g' _ h => wb_disj r kv i g g' h
theorem col_pts (c : Dev nD) (r kv i : Fin 2) (g : Fin 8) (f : Buf (Elt F) (((wb r kv).access (wbR i)).loc (c : Thread nD τ))) :
    col c r kv i g f = (((wbB r kv i g).view.loc (c : Thread nD τ)) ↦[(wbB r kv i g).view.set]{fullShare} f : sProp (MM F)) := by
  have h := wbB_set r kv i g
  show _ = (((wb r kv).access (wbR i)).loc (c : Thread nD τ) ↦[_]{fullShare} f : sProp (MM F))
  rw [h]; rfl

/-- A copy landed through one slice, read through another that holds the same elements. -/
theorem land_at {sp : Space} {s s' : Shape} {e : EltTy} (c : Dev nD) (M : Memref sig .tc sp s e) (R R' : Rect s) (hR' : ∀ a, R'.stride a = 1)
    (hs : R'.shape.Squeezes s') (k : s'.Idx → R.shape.Idx)
    (hk : ∀ j, ((M.slice R' hR').squeeze s' hs).view.emb j = (M.access R).emb (k j)) (w : s'.Idx → Elt F e) (Y : R.shape.Idx → Elt F e)
    (hY : ∀ j, Y (k j) = w j) (f : Buf (Elt F) ((M.access R).loc (c : Thread nD τ))) (S : Finset (M.access R).ty.Idx)
    (hS : ((M.slice R' hR').squeeze s' hs).view.set = S) :
    ((((M.slice R' hR').squeeze s' hs).view.loc (c : Thread nD τ)) ↦[((M.slice R' hR').squeeze s' hs).view.set]{fullShare}
        (((M.slice R' hR').squeeze s' hs).view.write (Elt F) f w Finset.univ) : sProp (MM F))
      = ((M.access R).loc (c : Thread nD τ) ↦[S]{fullShare} (M.access R).rep Y) := by
  subst hS
  refine pointsTo_congr fun x hx => ?_
  obtain ⟨j, -, rfl⟩ := Finset.mem_map.mp hx
  refine (View.write_emb_of_mem (v := ((M.slice R' hR').squeeze s' hs).view) f w (Finset.mem_univ j)).trans ?_
  have h1 := hk j
  rw [h1]
  refine Eq.trans ?_ (View.rep_emb (M.access R) Y (k j)).symm
  rw [hY]

theorem win_col (c : Dev nD) (r kv : Fin 2) (h g : Fin 8) (j : S384x128.Idx) :
    winV I r kv h c (colIx g j) = (hbB c r kv h g).view.read (Elt F) (kvC I kv c) j := by
  have hg : (⟨((colIx g j) 2).val / 128, Nat.div_lt_of_lt_mul ((colIx g j) 2).isLt⟩ : Fin 8) = g := by
    refine Fin.ext ?_
    have : (j 1).val < 128 := (j 1).isLt
    show (g.val * 128 + (j 1).val) / 128 = g.val; omega
  have hj : ix2 ((colIx g j) 1) ⟨((colIx g j) 2).val % 128, Nat.mod_lt _ (by decide)⟩ = j := by
    funext a
    refine Fin.ext ?_
    match a with
    | 0 => rfl
    | 1 =>
      have : (j 1).val < 128 := (j 1).isLt
      show (g.val * 128 + (j 1).val) % 128 = (j 1).val; omega
  unfold winV
  rw [hg, hj]
/-- What head `g`'s copy lands is the window's columns. -/
theorem col_land (c : Dev nD) (r kv : Fin 2) (h g : Fin 8) (f : Buf (Elt F) (((wb r kv).access (wbR (slot h))).loc (c : Thread nD τ))) :
    (((wbB r kv (slot h) g).view.loc (c : Thread nD τ)) ↦[(wbB r kv (slot h) g).view.set]{fullShare}
        ((wbB r kv (slot h) g).view.write (Elt F) f ((hbB c r kv h g).view.read (Elt F) (kvC I kv c)) Finset.univ) : sProp (MM F))
      = col c r kv (slot h) g (((wb r kv).access (wbR (slot h))).rep (winV I r kv h c)) := by
  exact land_at c (wb r kv) (wbR (slot h)) _ _ squeezes_S1x384x128_S384x128 (colIx g) (wb_emb r kv (slot h) g) _ _
    (win_col I c r kv h g) f _ (wbB_set r kv (slot h) g)

/-! ## The copies -/

variable (K : GSem nD τ sig → ℕ)

/-- The share of the keys or values that the copy of ring `r`, slot `i`, head `g` reads with. -/
def leafAt (r i : Fin 2) (g : Fin 8) : PosShare TreeShare :=
  ShareLeaves.leaf 5 fullShare ⟨r.val * 16 + i.val * 8 + g.val, by have := r.isLt; have := i.isLt; have := g.isLt; show _ < 32; omega⟩
def lent (c : Dev nD) (r kv i : Fin 2) (g : Fin 8) : sProp (MM F) :=
  (hb kv).view.loc (c : Thread nD τ) ↦[Finset.univ]{leafAt r i g} (kvC I kv c : Buf (Elt F) ((hb kv).view.loc (c : Thread nD τ)))
/-- What stays of it while the copy of step `h` runs. -/
def rest (c : Dev nD) (r kv : Fin 2) (h : Fin 8) (g : Fin 8) : sProp (MM F) :=
  (hb kv).view.loc (c : Thread nD τ) ↦[Finset.univ \ (hbB c r kv h g).view.set]{leafAt r (slot h) g}
    (kvC I kv c : Buf (Elt F) ((hb kv).view.loc (c : Thread nD τ)))
def away (c : Dev nD) (r kv : Fin 2) (h : Fin 8) (g : Fin 8) : sProp (MM F) :=
  (hbB c r kv h g).view.loc (c : Thread nD τ) ↦[(hbB c r kv h g).view.set]{leafAt r (slot h) g}
    (kvC I kv c : Buf (Elt F) ((hb kv).view.loc (c : Thread nD τ)))
theorem lent_split (c : Dev nD) (r kv : Fin 2) (h g : Fin 8) :
    lent I c r kv (slot h) g = iprop(away I c r kv h g ∗ rest I c r kv h g) :=
  BI.Entails.antisymm (pointsTo_split_subset (Finset.subset_univ _)).1 (pointsTo_split_subset (Finset.subset_univ _)).2

/-- The units one head's copy moves. -/
def NW : ℕ := (wbB 0 0 0 0).view.dmaCredit
theorem wbB_N (r kv i : Fin 2) (g : Fin 8) : (wbB r kv i g).view.dmaCredit = NW := match r, kv with
  | 0, 0 => rfl | 0, 1 => rfl | 1, 0 => rfl | 1, 1 => rfl

/-- What head `g`'s copy delivers. -/
def deliv (c : Dev nD) (r kv : Fin 2) (h g : Fin 8) : sProp (MM F) :=
  iprop(col c r kv (slot h) g (((wb r kv).access (wbR (slot h))).rep (winV I r kv h c)) ∗ away I c r kv h g)
theorem pts_storable {sp : Space} {s : Shape} {e : EltTy} (c : Dev nD) (M : Memref sig .tc sp s e) (q : PosShare TreeShare)
    (f : Buf (Elt F) (M.view.loc (c : Thread nD τ))) :
    BI.Storable (upEmb : UEmb _ (MM F)) (M.view.loc (c : Thread nD τ) ↦[M.view.set]{q} f) := by infer_instance
instance deliv_storable (c : Dev nD) (r kv : Fin 2) (h g : Fin 8) : BI.Storable (upEmb : UEmb _ (MM F)) (deliv I c r kv h g) := by
  haveI h1 : BI.Storable (upEmb : UEmb _ (MM F)) (col c r kv (slot h) g (((wb r kv).access (wbR (slot h))).rep (winV I r kv h c))) := by
    unfold col; infer_instance
  haveI h2 : BI.Storable (upEmb : UEmb _ (MM F)) (away I c r kv h g) := pts_storable c (hbB c r kv h g) _ (kvC I kv c)
  unfold deliv; infer_instance
/-- The eight copies of step `h`, of which `j` are issued and `u` units waited for. -/
abbrev Bat (c : Dev nD) (r kv : Fin 2) (h : Fin 8) (j u : ℕ) : sProp (MM F) :=
  Batch EC (c : Thread nD τ) (.dma (wsem r kv (slot h))) () NW (deliv I c r kv h) j u

/-- A slot at rest, in flight, and landed. -/
def Idle (c : Dev nD) (r kv i : Fin 2) : sProp (MM F) :=
  iprop(holdAny c (wb r kv) (wbR i) ∗ semVal ((c : Thread nD τ), .dma (wsem r kv i)) 0 ∗ bigSep Finset.univ fun g => lent I c r kv i g)
def Fly (c : Dev nD) (r kv : Fin 2) (h : Fin 8) : sProp (MM F) :=
  iprop(Bat I c r kv h 8 0 ∗ bigSep Finset.univ fun g => rest I c r kv h g)
def Landed (c : Dev nD) (r kv : Fin 2) (h : Fin 8) : sProp (MM F) :=
  iprop(hold c (wb r kv) (wbR (slot h)) fullShare (winV I r kv h c) ∗ semVal ((c : Thread nD τ), .dma (wsem r kv (slot h))) 0
    ∗ bigSep Finset.univ fun g => lent I c r kv (slot h) g)

/-- Starting the copies, of which `j` are issued. -/
def Start (c : Dev nD) (r kv : Fin 2) (h : Fin 8) (j : ℕ) : sProp (MM F) :=
  iprop(∃ f, Bat I c r kv h j 0 ∗ bigSep Finset.univ fun g : Fin 8 =>
    if g.val < j then rest I c r kv h g else iprop(col c r kv (slot h) g f ∗ lent I c r kv (slot h) g))

/-- A local copy issued into a batch. -/
theorem copy_op {sp sp' : Space} {s : Shape} {e : EltTy} (c : Dev nD) (src : Memref sig .tc sp s e) (dst : Memref sig .tc sp' s e) (sm : DmaSem sig)
    (hs : src.view.WordExact) (hd : dst.view.WordExact) (ht : DmaTarget.Typed (nD := nD) (τ := τ) (p := Proc.tc) sp (.dma sm) (.here dst)) {n : ℕ} {D : Fin n → sProp (MM F)}
    (M j : ℕ) (hN : dst.view.dmaCredit = M) (hj : j < n) (q : PosShare TreeShare) (fs : Buf (Elt F) (src.view.loc (c : Thread nD τ)))
    (fd : Buf (Elt F) (dst.view.loc (c : Thread nD τ)))
    (hD : iprop((dst.view.loc (c : Thread nD τ) ↦[dst.view.set]{fullShare} (dst.view.write (Elt F) fd (src.view.read (Elt F) fs) Finset.univ))
              ∗ (src.view.loc (c : Thread nD τ) ↦[src.view.set]{q} fs)) ⊢ D ⟨j, hj⟩) {Q : PUnit → sProp (MM F)} :
    iprop((src.view.loc (c : Thread nD τ) ↦[src.view.set]{q} fs) ∗ (dst.view.loc (c : Thread nD τ) ↦[dst.view.set]{fullShare} fd)
        ∗ Batch EC (c : Thread nD τ) (.dma sm) () M D j 0)
      ⊢ iprop((Batch EC (c : Thread nD τ) (.dma sm) () M D (j + 1) 0 -∗ Q ⟨⟩)
          -∗ Wp c (Prog.lift (.enqueueDma src (.here dst) (.dma sm) hs hd ht)) Q) := by
  have h := wp_dmaBatch (defs := defs₀ (F := F)) EC 𝒱₀ (c : Thread nD τ) none (src := src) (dst := dst) (sm := .dma sm) (hsrc := hs) (hdst := hd) (hsem := ht)
    (q := q) (fs := fs) (fd := fd) (Sd := dst.view.set) (D := D) (j := j) (u := 0) (via := .same) (k := Prog.ret) (Q := Q) () M hN (subset_refl _) hj (Nat.zero_le _) hD
  refine h.trans (wand_mono_left ?_)
  iintro Hk HB
  iapply ret_wp
  iapply Hk $$ HB

theorem winCopy_op (c : Dev nD) (r kv : Fin 2) (h g : Fin 8) :
    Tr c (Start I c r kv h g.val) (winCopy c r h g kv) (Start I c r kv h (g.val + 1)) := by
  unfold Tr Start
  iintro ⟨%f, HB, Hg⟩
  obtain ⟨R, e1, e2⟩ := bigSep_swap (F := F)
    (Φ := fun g' : Fin 8 => if g'.val < g.val then rest I c r kv h g' else iprop(col c r kv (slot h) g' f ∗ lent I c r kv (slot h) g'))
    (Ψ := fun g' : Fin 8 => if g'.val < g.val + 1 then rest I c r kv h g' else iprop(col c r kv (slot h) g' f ∗ lent I c r kv (slot h) g'))
    g (fun i hi => by
      have hne : i.val ≠ g.val := fun e => hi (Fin.ext e)
      by_cases hl : i.val < g.val
      · simp only [if_pos hl, if_pos (Nat.lt_succ_of_lt hl)]
      · simp only [if_neg hl, if_neg (show ¬ i.val < g.val + 1 by omega)])
  simp only [lt_irrefl, if_false] at e1
  simp only [Nat.lt_succ_self, if_true] at e2
  ihave Hg' := (Entails.of_eq e1) $$ Hg
  icases Hg' with ⟨⟨Hc, Hl⟩, HR⟩
  ihave Hl' := (Entails.of_eq (lent_split I c r kv h g)) $$ Hl
  icases Hl' with ⟨Ha, Hr⟩
  iapply (copy_op c (hbB c r kv h g) (wbB r kv (slot h) g) (wsem r kv (slot h)) (hbB_word c r kv h g) (wbB_word r kv (slot h) g) ⟨Or.inl rfl, trivial⟩
    NW g.val (wbB_N r kv (slot h) g) g.isLt (leafAt r (slot h) g) (kvC I kv c) f
    (D := deliv I c r kv h) (sep_mono_left (Entails.of_eq (col_land I c r kv h g f)))) $$ [Ha Hc HB]
  · isplitl [Ha]; · unfold away; iexact Ha
    isplitl [Hc]; · iapply (Entails.of_eq (col_pts c r kv (slot h) g f)) $$ Hc
    iexact HB
  iintro HB
  iexists f
  isplitl [HB]; · iexact HB
  iapply (Entails.of_eq e2.symm)
  isplitl [Hr]; · iexact Hr
  iexact HR

/-- Sixteen operations, two families of states moving on in turn. -/
theorem heads_op (c : Dev nD) (f : Fin 8 → Fin 2 → P F PUnit) (A B : ℕ → sProp (MM F)) (Z : sProp (MM F))
    (hA : ∀ g : Fin 8, Tr c iprop(A g.val ∗ Z) (f g 0) iprop(A (g.val + 1) ∗ Z))
    (hB : ∀ g : Fin 8, Tr c iprop(B g.val ∗ Z) (f g 1) iprop(B (g.val + 1) ∗ Z)) :
    Tr c iprop(A 0 ∗ B 0 ∗ Z) (heads f) iprop(A 8 ∗ B 8 ∗ Z) := by
  have ha : ∀ g : Fin 8, Tr c iprop(A g.val ∗ B g.val ∗ Z) (f g 0) iprop(A (g.val + 1) ∗ B g.val ∗ Z) := fun g =>
    ((hA g).frame (B g.val)).conseq (by iintro ⟨H1, H2, H3⟩; isplitr [H2] <;> [(isplitl [H1] <;> iassumption); iassumption])
      (by iintro ⟨⟨H1, H3⟩, H2⟩; isplitl [H1]; · iassumption
          isplitl [H2] <;> iassumption)
  have hb : ∀ g : Fin 8, Tr c iprop(A (g.val + 1) ∗ B g.val ∗ Z) (f g 1) iprop(A (g.val + 1) ∗ B (g.val + 1) ∗ Z) := fun g =>
    ((hB g).frame (A (g.val + 1))).conseq (by iintro ⟨H1, H2, H3⟩; isplitr [H1] <;> [(isplitl [H2] <;> iassumption); iassumption])
      (by iintro ⟨⟨H2, H3⟩, H1⟩; isplitl [H1]; · iassumption
          isplitl [H2] <;> iassumption)
  unfold heads
  exact (ha 0).seq <| (hb 0).seq <| (ha 1).seq <| (hb 1).seq <| (ha 2).seq <| (hb 2).seq <| (ha 3).seq <| (hb 3).seq <|
    (ha 4).seq <| (hb 4).seq <| (ha 5).seq <| (hb 5).seq <| (ha 6).seq <| (hb 6).seq <| (ha 7).seq (hb 7)

end Cert.KernelIdeal.Run

end
-- ==== Proof.Copies.lean ====
/- The window copies of one step, started and waited for. -/
module

public import proofs.«01_k».proof.Proof.Windows

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts

variable {F : FTy → Type} [FloatOps F] [Named F] (I : Ins F)

variable (K : GSem nD τ sig → ℕ)

/-- Device `c` owes what is due. -/
def Owing (c : Dev nD) (b : ℕ) (g s : Fin 2 → ℕ) : sProp (MM F) := iprop(∃ W, owes (c : Thread nD τ) (due c b g s) W)

theorem NW_pos : 0 < NW := View.dmaCredit_pos _ (by decide)

/-- A wait for one copy's amount: nothing comes back yet. -/
theorem winWait_op (c : Dev nD) (r kv : Fin 2) (h g : Fin 8) (b : ℕ) (x y : Fin 2 → ℕ) :
    Tr c iprop(Bat I c r kv h 8 (g.val * NW) ∗ levAts L lv ∗ Owing c b x y) (winWait c r h g kv)
      iprop(Bat I c r kv h 8 ((g.val + 1) * NW) ∗ levAts L lv ∗ Owing c b x y) := by
  unfold Tr Owing
  iintro ⟨HB, #Hlev, ⟨%W, HO⟩⟩
  have hu : g.val * NW + 1 * NW ≤ NW * 8 := by have := g.isLt; rw [← add_mul, Nat.mul_comm NW]; exact Nat.mul_le_mul_right _ (by omega)
  unfold winWait
  iapply (wp_waitBatchMulO (defs := defs₀ (F := F)) EC 𝒱₀ (c : Thread nD τ) none (sem := wsem r kv (slot h)) (srcw := hbB c r kv h g)
    (dstw := wbB r kv (slot h) g) (hsrc := hbB_word c r kv h g) (hdst := wbB_word r kv (slot h) g) (k := Prog.ret) (D := deliv I c r kv h)
    (j := 8) (u := g.val * NW) (O := due c b x y) (W := W) () 1 ((wbB_N r kv (slot h) g).trans (Nat.one_mul _).symm) hu) $$ [HB HO]
  · isplitl [HB]; · iexact HB
    isplitl [HO]; · iexact HO
    iapply (mayWait (F := F) c _ b x y (Or.inr (lvS_wsem r kv (slot h))) (fun _ i _ => by rw [lvS_wsem]; omega) (fun _ i _ => by rw [lvS_wsem]; omega)) $$ Hlev
  rw [show (g.val + 1) * NW = g.val * NW + 1 * NW from add_mul _ _ _]
  iintro ⟨HB, HO⟩
  iapply ret_wp
  isplitl [HB]; · iexact HB
  isplitr; · iexact Hlev
  iexists _; iexact HO

/-- A slot at rest can start its copies. -/
theorem idle_start (c : Dev nD) (r kv : Fin 2) (h : Fin 8) : Idle I c r kv (slot h) ⊢ (|={Set.univ}=> Start I c r kv h 0 : sProp (MM F)) := by
  unfold Idle Start holdAny
  iintro ⟨⟨%f, Hs⟩, Hv, Hl⟩
  imod (batch_alloc' EC (c := (c : Thread nD τ)) (sm := .dma (wsem r kv (slot h))) () NW (deliv I c r kv h) (E := Set.univ)) $$ Hv with HB
  imodintro
  iexists f
  isplitl [HB]; · iexact HB
  iapply (Entails.of_eq (bigSep_congr (s := Finset.univ) (Φ := fun g : Fin 8 => iprop(col c r kv (slot h) g f ∗ lent I c r kv (slot h) g))
    fun g _ => (if_neg (Nat.not_lt_zero g.val)).symm))
  iapply (Entails.of_eq (bigSep_sep' (s := Finset.univ) (Φ := fun g : Fin 8 => col c r kv (slot h) g f) (Ψ := fun g : Fin 8 => lent I c r kv (slot h) g)).symm)
  isplitl [Hs]; · iapply (Entails.of_eq (slot_cols c r kv (slot h) f)) $$ Hs
  iexact Hl
theorem start_fly (c : Dev nD) (r kv : Fin 2) (h : Fin 8) : Start I c r kv h 8 ⊢ Fly I c r kv h := by
  unfold Start Fly
  iintro ⟨%f, HB, Hg⟩
  isplitl [HB]; · iexact HB
  iapply (Entails.of_eq (bigSep_congr (s := Finset.univ) (Ψ := fun g : Fin 8 => rest I c r kv h g) fun g _ => if_pos g.isLt)) $$ Hg

/-- The windows of step `h` start. -/
theorem winStart_op (c : Dev nD) (r : Fin 2) (h : Fin 8) :
    Tr c iprop(Idle I c r 0 (slot h) ∗ Idle I c r 1 (slot h)) (winStart c r h) iprop(Fly I c r 0 h ∗ Fly I c r 1 h) := by
  have key : Tr c iprop(Start I c r 0 h 0 ∗ Start I c r 1 h 0 ∗ emp) (winStart c r h) iprop(Start I c r 0 h 8 ∗ Start I c r 1 h 8 ∗ emp) :=
    heads_op c _ (Start I c r 0 h) (Start I c r 1 h) iprop(emp) (fun g => (winCopy_op I c r 0 h g).frame _) (fun g => (winCopy_op I c r 1 h g).frame _)
  unfold Tr at key ⊢
  iintro ⟨H0, H1⟩
  iapply fupd_wp
  imod (idle_start I c r 0 h) $$ H0 with H0
  imod (idle_start I c r 1 h) $$ H1 with H1
  imodintro
  iapply (Tr.use key) $$ [H0 H1]
  · isplitl [H0]; · iexact H0
    isplitl [H1]; · iexact H1
    iempintro
  iintro ⟨H0, H1, -⟩
  isplitl [H0]; · iapply (start_fly I c r 0 h) $$ H0
  iapply (start_fly I c r 1 h) $$ H1

/-- All eight copies waited for: the slot has landed. -/
theorem bat_land (c : Dev nD) (r kv : Fin 2) (h : Fin 8) :
    iprop(Bat I c r kv h 8 (8 * NW) ∗ bigSep Finset.univ fun g => rest I c r kv h g) ⊢ (|={Set.univ}=> Landed I c r kv h : sProp (MM F)) := by
  unfold Landed hold
  iintro ⟨HB, Hr⟩
  imod (batch_collect' EC (n := 8) (c := (c : Thread nD τ)) (sm := .dma (wsem r kv (slot h))) (ι := ()) NW_pos (D := deliv I c r kv h)) $$ [HB] with ⟨HD, Hv⟩
  · rw [Nat.mul_comm NW 8]; iexact HB
  imodintro
  ihave HD' := (show bigSep Finset.univ (deliv I c r kv h) ⊢ _ from Entails.of_eq (bigSep_sep' (s := Finset.univ) (Φ := fun g : Fin 8 => col c r kv (slot h) g (((wb r kv).access (wbR (slot h))).rep (winV I r kv h c)))
    (Ψ := fun g : Fin 8 => away I c r kv h g))) $$ HD
  icases HD' with ⟨Hc, Ha⟩
  isplitl [Hc]; · iapply (Entails.of_eq (slot_cols c r kv (slot h) _).symm) $$ Hc
  isplitl [Hv]; · iexact Hv
  iapply (Entails.of_eq (bigSep_congr (s := Finset.univ) (Φ := fun g : Fin 8 => iprop(away I c r kv h g ∗ rest I c r kv h g))
    fun g _ => (lent_split I c r kv h g).symm))
  iapply (Entails.of_eq (bigSep_sep' (s := Finset.univ) (Φ := fun g : Fin 8 => away I c r kv h g) (Ψ := fun g : Fin 8 => rest I c r kv h g)).symm)
  isplitl [Ha]; · iexact Ha
  iexact Hr

/-- The windows of step `h` are waited for. -/
theorem winDone_op (c : Dev nD) (r : Fin 2) (h : Fin 8) (b : ℕ) (x y : Fin 2 → ℕ) :
    Tr c iprop((Fly I c r 0 h ∗ Fly I c r 1 h) ∗ levAts L lv ∗ Owing c b x y) (winDone c r h)
      iprop((Landed I c r 0 h ∗ Landed I c r 1 h) ∗ Owing c b x y) := by
  have key : Tr c iprop(Bat I c r 0 h 8 (0 * NW) ∗ Bat I c r 1 h 8 (0 * NW) ∗ levAts L lv ∗ Owing c b x y) (winDone c r h)
      iprop(Bat I c r 0 h 8 (8 * NW) ∗ Bat I c r 1 h 8 (8 * NW) ∗ levAts L lv ∗ Owing c b x y) :=
    heads_op c _ (fun u => Bat I c r 0 h 8 (u * NW)) (fun u => Bat I c r 1 h 8 (u * NW)) _ (fun g => winWait_op I c r 0 h g b x y) (fun g => winWait_op I c r 1 h g b x y)
  rw [Nat.zero_mul] at key
  unfold Fly
  unfold Tr at key ⊢
  iintro ⟨⟨⟨B0, R0⟩, B1, R1⟩, #Hlev, HO⟩
  iapply wp_fupd
  iapply (Tr.use key) $$ [B0 B1 HO]
  · isplitl [B0]; · iexact B0
    isplitl [B1]; · iexact B1
    isplitr; · iexact Hlev
    iexact HO
  iintro ⟨B0, B1, -, HO⟩
  imod (bat_land I c r 0 h) $$ [B0 R0] with L0
  · isplitl [B0]; · iexact B0
    iexact R0
  imod (bat_land I c r 1 h) $$ [B1 R1] with L1
  · isplitl [B1]; · iexact B1
    iexact R1
  imodintro
  isplitl [L0 L1]
  · isplitl [L0]; · iexact L0
    iexact L1
  iexact HO

end Cert.KernelIdeal.Run

end
-- ==== Proof.Steps.lean ====
/- What a device holds between the body's operations, ring by ring, and how each operation moves it on. -/
module

public import proofs.«01_k».proof.Proof.Copies

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts

variable {F : FTy → Type} [FloatOps F] [Named F] (I : Ins F)

/-! ## The state of a ring -/

/-- How far a ring is: gather sends, gather receives, scatter sends, scatter receives and blocks computed; of the sends, those
    waited for; and the step whose windows each slot is being filled with. -/
structure At where
  g : ℕ
  n : ℕ
  s : ℕ
  q : ℕ
  m : ℕ
  dg : ℕ
  ds : ℕ
  w : Fin 2 → Option (Fin 8)

/-- Send `i` of the gather. -/
def GS (c : Dev nD) (r : Fin 2) (g dg : ℕ) (i : Fin 7) : sProp (MM F) :=
  if i.val < dg then atPos ER (cell c r 0 i) 1 ∅ 0
  else if i.val < g then iprop(atPos ER (cell c r 0 i) 0 ∅ 0 ∗ cred (tallyAt (cell c r 0 i) () N))
  else iprop(atPos ER (cell c r 0 i) 0 ∅ 0 ∗ dutyTok ER (cell c r 0 i) 0 0 ∗ dutyTok ER (cell (tgt r c) r 1 i) 0 0 ∗ xD c r i)
/-- Receive `i` of the gather. -/
def GR (c : Dev nD) (r : Fin 2) (n : ℕ) (i : Fin 7) : sProp (MM F) :=
  if i.val < n then atPos ER (cell c r 1 i) 1 ∅ 0 else iprop(atPos ER (cell c r 1 i) 0 ∅ 0 ∗ cred (tallyAt (cell c r 1 i) () N))
/-- Block `d` of x. -/
def XB (c : Dev nD) (r : Fin 2) (g n dg : ℕ) (d : Fin 8) : sProp (MM F) :=
  if d.val < dg then xH I c r d.val fullShare else if d.val < g then xH I c r d.val qStay
  else if d.val ≤ n then xH I c r d.val fullShare else iprop(emp)
/-- Send `i` of the scatter. -/
def SS (c : Dev nD) (r : Fin 2) (s ds : ℕ) (i : Fin 7) : sProp (MM F) :=
  if i.val < ds then atPos ER (cell c r 2 i) 1 ∅ 0
  else if i.val < s then iprop(atPos ER (cell c r 2 i) 0 ∅ 0 ∗ cred (tallyAt (cell c r 2 i) () N))
  else iprop(atPos ER (cell c r 2 i) 0 ∅ 0 ∗ dutyTok ER (cell c r 2 i) 0 0 ∗ dutyTok ER (cell (tgt r c) r 3 i) 0 0 ∗ rD c r i)
/-- Receive `i` of the scatter. -/
def SR (c : Dev nD) (r : Fin 2) (q : ℕ) (i : Fin 7) : sProp (MM F) :=
  if i.val < q then iprop(atPos ER (cell c r 3 i) 1 ∅ 0 ∗ rH I c r i)
  else iprop(atPos ER (cell c r 3 i) 0 ∅ 0 ∗ cred (tallyAt (cell c r 3 i) () N))
/-- Block `d` of the products. -/
def PB (c : Dev nD) (r : Fin 2) (m s q ds : ℕ) (d : Fin 8) : sProp (MM F) :=
  if m ≤ d.val then holdAny c (pa r) (bR (blk r d.val c))
  else if d.val = 0 then pH c r d.val (prod I r 0 c)
  else if d.val ≤ ds then pH c r d.val (sentN I r (d.val - 1) c)
  else if d.val ≤ s then iprop(emp)
  else if d.val ≤ q + 1 then pH c r d.val (sentN I r (d.val - 1) c)
  else pH c r d.val (prod I r d c)
/-- Slot `i` of the windows. -/
def WS (c : Dev nD) (r : Fin 2) (w : Fin 2 → Option (Fin 8)) (i : Fin 2) : sProp (MM F) := match w i with
  | none => iprop(Idle I c r 0 i ∗ Idle I c r 1 i)
  | some h => iprop(Fly I c r 0 h ∗ Fly I c r 1 h)

/-- A ring's holdings. -/
def Ring (c : Dev nD) (r : Fin 2) (σ : At) : sProp (MM F) :=
  iprop(bigSep Finset.univ (GS c r σ.g σ.dg) ∗ bigSep Finset.univ (GR c r σ.n) ∗ bigSep Finset.univ (XB I c r σ.g σ.n σ.dg)
    ∗ bigSep Finset.univ (SS c r σ.s σ.ds) ∗ bigSep Finset.univ (SR I c r σ.q) ∗ bigSep Finset.univ (PB I c r σ.m σ.s σ.q σ.ds)
    ∗ bigSep Finset.univ (WS I c r σ.w))

/-- One member of a family taken out, to be given back changed. -/
theorem take {J : Type} [Fintype J] [DecidableEq J] {Φ Ψ : J → sProp (MM F)} (j : J) {A B : sProp (MM F)} (hA : Φ j = A) (hB : Ψ j = B)
    (h : ∀ i, i ≠ j → Φ i = Ψ i) : bigSep Finset.univ Φ ⊢ iprop(A ∗ (B -∗ bigSep Finset.univ Ψ)) := by
  obtain ⟨R, e1, e2⟩ := bigSep_swap j h
  rw [e1, e2, hA, hB]
  iintro ⟨HA, HR⟩
  isplitl [HA]; · iexact HA
  iintro HB
  isplitl [HB]; · iexact HB
  iexact HR

variable (K : GSem nD τ sig → ℕ) (Z : sProp (MM F))

/-- An operation of ring `r` moves its state from `σ` to `τ`, and what is owed from `g`, `s` to `g'`, `s'`. -/
def Step (c : Dev nD) (r : Fin 2) (p : P F PUnit) (σ : At) (g s : Fin 2 → ℕ) (σ' : At) (g' s' : Fin 2 → ℕ) : Prop :=
  Tr c iprop(Ctx I K c ∗ Owing c 2 g s ∗ Z ∗ Ring I c r σ) p iprop(Owing c 2 g' s' ∗ Z ∗ Ring I c r σ')

theorem upd_if (g : Fin 2 → ℕ) (r : Fin 2) (v : ℕ) (r' : Fin 2) : Function.update g r v r' = if r' = r then v else g r' :=
  Function.update_apply g r v r'

theorem due_g (c : Dev nD) (r : Fin 2) (h : Fin 7) (g s : Fin 2 → ℕ) (hg : g r = h.val) :
    due c 2 g s = due c 2 (Function.update g r (h.val + 1)) s + tallyAt (cell (tgt r c) r 1 h) () N := by
  unfold due
  rw [dueK_step c 1 g _ r h hg (upd_if g r _)]
  ac_rfl
theorem due_s (c : Dev nD) (r : Fin 2) (h : Fin 7) (g s : Fin 2 → ℕ) (hs : s r = h.val) :
    due c 2 g s = due c 2 g (Function.update s r (h.val + 1)) + tallyAt (cell (tgt r c) r 3 h) () N := by
  unfold due
  rw [dueK_step c 3 s _ r h hs (upd_if s r _)]
  ac_rfl

/-! ## The gather -/

theorem gSend_step (c : Dev nD) (r : Fin 2) (h : Fin 7) (σ : At) (g s : Fin 2 → ℕ) (hg : g r = h.val) (h1 : σ.g = h.val) (h2 : h.val ≤ σ.n)
    (h3 : σ.dg ≤ h.val) :
    Step I K Z c r (gSend c r h) σ g s { σ with g := h.val + 1 } (Function.update g r (h.val + 1)) s := by
  unfold Step Ring Tr Owing
  iintro ⟨#HC, ⟨%W, HO⟩, HZ, H1, H2, H3, H4⟩
  ihave H1' := (take (Ψ := GS c r (h.val + 1) σ.dg) h
    (A := iprop(atPos ER (cell c r 0 h) 0 ∅ 0 ∗ dutyTok ER (cell c r 0 h) 0 0 ∗ dutyTok ER (cell (tgt r c) r 1 h) 0 0 ∗ xD c r h))
    (B := iprop(atPos ER (cell c r 0 h) 0 ∅ 0 ∗ cred (tallyAt (cell c r 0 h) () N)))
    (by unfold GS; rw [if_neg (by omega), if_neg (by omega)]) (by unfold GS; rw [if_neg (by omega), if_pos (by omega)])
    (fun i hi => by
      have hne : i.val ≠ h.val := fun e => hi (Fin.ext e)
      unfold GS
      by_cases hl : i.val < σ.g
      · simp only [if_pos hl, if_pos (show i.val < h.val + 1 by omega)]
      · simp only [if_neg hl, if_neg (show ¬ i.val < h.val + 1 by omega)])) $$ H1
  icases H1' with ⟨⟨Ha, T1, T2, Hd⟩, H1⟩
  ihave H3' := (take (Ψ := XB I c r (h.val + 1) σ.n σ.dg) h.castSucc (A := xH I c r h.val fullShare) (B := xH I c r h.val qStay)
    (by unfold XB; rw [if_neg (by simp; omega), if_neg (by simp; omega), if_pos (by simpa using h2)]; rfl)
    (by unfold XB; rw [if_neg (by simp; omega), if_pos (by simp)]; rfl)
    (fun i hi => by
      have hne : i.val ≠ h.val := fun e => hi (Fin.ext e)
      unfold XB
      by_cases hl : i.val < σ.g
      · simp only [if_pos hl, if_pos (show i.val < h.val + 1 by omega)]
      · simp only [if_neg hl, if_neg (show ¬ i.val < h.val + 1 by omega)])) $$ H3
  icases H3' with ⟨Hx, H3⟩
  rw [due_g c r h g s hg]
  iapply (gSend_op I K c r h) $$ [Hx Hd T1 T2 HO]
  · isplitr; · iexact HC
    isplitl [Hx]; · iexact Hx
    isplitl [Hd]; · iexact Hd
    isplitl [T1]; · iexact T1
    isplitl [T2]; · iexact T2
    iexact HO
  iintro ⟨Hx, Hc, HO⟩
  isplitl [HO]; · iexists W; iexact HO
  isplitl [HZ]; · iexact HZ
  isplitl [H1 Ha Hc]
  · iapply H1
    isplitl [Ha]; · iexact Ha
    iexact Hc
  isplitl [H2]; · iexact H2
  isplitl [H3 Hx]; · iapply H3 $$ Hx
  iexact H4

theorem gRecv_step (c : Dev nD) (r : Fin 2) (h : Fin 7) (σ : At) (g s : Fin 2 → ℕ) (h1 : σ.n = h.val) (h2 : σ.g ≤ h.val + 1) (h3 : σ.dg ≤ h.val + 1)
    (hg : ∀ r, h.val + 1 ≤ g r) (hs : ∀ r, h.val ≤ s r + 2) :
    Step I K Z c r (gRecv c r h) σ g s { σ with n := h.val + 1 } g s := by
  unfold Step Ring Tr
  iintro ⟨#HC, HO, HZ, H1, H2, H3, H4⟩
  unfold Owing
  icases HO with ⟨%W, HO⟩
  ihave H2' := (take (Ψ := GR c r (h.val + 1)) h
    (A := iprop(atPos ER (cell c r 1 h) 0 ∅ 0 ∗ cred (tallyAt (cell c r 1 h) () N))) (B := atPos ER (cell c r 1 h) 1 ∅ 0)
    (by unfold GR; rw [if_neg (by omega)]) (by unfold GR; rw [if_pos (by omega)])
    (fun i hi => by
      have hne : i.val ≠ h.val := fun e => hi (Fin.ext e)
      unfold GR
      by_cases hl : i.val < σ.n
      · simp only [if_pos hl, if_pos (show i.val < h.val + 1 by omega)]
      · simp only [if_neg hl, if_neg (show ¬ i.val < h.val + 1 by omega)])) $$ H2
  icases H2' with ⟨⟨Ha, Hc⟩, H2⟩
  ihave H3' := (take (Ψ := XB I c r σ.g (h.val + 1) σ.dg) h.succ (A := iprop(emp)) (B := xH I c r (h.val + 1) fullShare)
    (by unfold XB; rw [if_neg (by simp; omega), if_neg (by simp; omega), if_neg (by simp; omega)])
    (by unfold XB; rw [if_neg (by simp; omega), if_neg (by simp; omega), if_pos (by simp)]; rfl)
    (fun i hi => by
      have hne : i.val ≠ h.val + 1 := fun e => hi (Fin.ext e)
      unfold XB
      by_cases hl : i.val ≤ σ.n
      · simp only [if_pos hl, if_pos (show i.val ≤ h.val + 1 by omega)]
      · simp only [if_neg hl, if_neg (show ¬ i.val ≤ h.val + 1 by omega)])) $$ H3
  icases H3' with ⟨-, H3⟩
  iapply (wait_op I K c r 1 h (xfB c r h.succ) (xfB c r h.succ) (xfB_word c r h.succ) (xfB_word c r h.succ) (xfB_N c r h.succ) 2 g s
    (Or.inl (le_refl 2)) (fun r' i' hi => by rw [(lvS_rsem r h).2.1]; have := hg r'; omega)
    (fun r' i' hi => by rw [(lvS_rsem r h).2.1]; have := hs r'; omega)) $$ [Ha Hc HO]
  · isplitr; · iexact HC
    isplitl [Ha]; · iexact Ha
    isplitl [Hc]; · iexact Hc
    iexact HO
  iintro ⟨Ha, Hx, HO⟩
  isplitl [HO]; · iexact HO
  isplitl [HZ]; · iexact HZ
  isplitl [H1]; · iexact H1
  isplitl [H2 Ha]; · iapply H2 $$ Ha
  isplitl [H3 Hx]; · iapply H3; unfold copyPay; iexact Hx
  iexact H4

theorem gSent_step (c : Dev nD) (r : Fin 2) (h : Fin 7) (σ : At) (g s : Fin 2 → ℕ) (h1 : σ.dg = h.val) (h2 : h.val < σ.g) :
    Step I K Z c r (gSent c r h) σ g s { σ with dg := h.val + 1 } g s := by
  unfold Step Ring Tr
  iintro ⟨#HC, HO, HZ, H1, H2, H3, H4⟩
  unfold Owing
  icases HO with ⟨%W, HO⟩
  ihave H1' := (take (Ψ := GS c r σ.g (h.val + 1)) h
    (A := iprop(atPos ER (cell c r 0 h) 0 ∅ 0 ∗ cred (tallyAt (cell c r 0 h) () N))) (B := atPos ER (cell c r 0 h) 1 ∅ 0)
    (by unfold GS; rw [if_neg (by omega), if_pos (by omega)]) (by unfold GS; rw [if_pos (by omega)])
    (fun i hi => by
      have hne : i.val ≠ h.val := fun e => hi (Fin.ext e)
      unfold GS
      by_cases hl : i.val < σ.dg
      · simp only [if_pos hl, if_pos (show i.val < h.val + 1 by omega)]
      · simp only [if_neg hl, if_neg (show ¬ i.val < h.val + 1 by omega)])) $$ H1
  icases H1' with ⟨⟨Ha, Hc⟩, H1⟩
  ihave H3' := (take (Ψ := XB I c r σ.g σ.n (h.val + 1)) h.castSucc (A := xH I c r h.val qStay) (B := xH I c r h.val fullShare)
    (by unfold XB; rw [if_neg (by simp; omega), if_pos (by simpa using h2)]; rfl)
    (by unfold XB; rw [if_pos (by simp)]; rfl)
    (fun i hi => by
      have hne : i.val ≠ h.val := fun e => hi (Fin.ext e)
      unfold XB
      by_cases hl : i.val < σ.dg
      · simp only [if_pos hl, if_pos (show i.val < h.val + 1 by omega)]
      · simp only [if_neg hl, if_neg (show ¬ i.val < h.val + 1 by omega)])) $$ H3
  icases H3' with ⟨Hx, H3⟩
  iapply (wait_op I K c r 0 h (xfB c r h.castSucc) (xfB c r h.castSucc) (xfB_word c r h.castSucc) (xfB_word c r h.castSucc) (xfB_N c r h.castSucc) 2 g s
    (Or.inl (le_refl 2)) (fun r' i' hi => by rw [(lvS_rsem r h).1]; omega)
    (fun r' i' hi => by rw [(lvS_rsem r h).1]; omega)) $$ [Ha Hc HO]
  · isplitr; · iexact HC
    isplitl [Ha]; · iexact Ha
    isplitl [Hc]; · iexact Hc
    iexact HO
  iintro ⟨Ha, Hp, HO⟩
  isplitl [HO]; · iexact HO
  isplitl [HZ]; · iexact HZ
  isplitl [H1 Ha]; · iapply H1 $$ Ha
  isplitl [H2]; · iexact H2
  isplitl [H3 Hx Hp]
  · iapply H3
    iapply (show iprop(xH I c r h.val qSend ∗ xH I c r h.val qStay) ⊢ xH I c r h.val fullShare from
      (pointsTo_share (PosShare.mem_left_op_right fullShare)).2)
    isplitl [Hp]; · unfold copyPay; iexact Hp
    iexact Hx
  iexact H4

/-! ## The scatter -/

theorem sSend_step (c : Dev nD) (r : Fin 2) (h : Fin 7) (σ : At) (g s : Fin 2 → ℕ) (hs : s r = h.val) (h1 : σ.s = h.val) (h2 : h.val ≤ σ.q)
    (h3 : σ.ds ≤ h.val) (h4 : h.val + 1 < σ.m) :
    Step I K Z c r (sSend c r h) σ g s { σ with s := h.val + 1 } g (Function.update s r (h.val + 1)) := by
  unfold Step Ring Tr Owing
  iintro ⟨#HC, ⟨%W, HO⟩, HZ, H1, H2, H3, H4, H5, H6, H7⟩
  ihave H4' := (take (Ψ := SS c r (h.val + 1) σ.ds) h
    (A := iprop(atPos ER (cell c r 2 h) 0 ∅ 0 ∗ dutyTok ER (cell c r 2 h) 0 0 ∗ dutyTok ER (cell (tgt r c) r 3 h) 0 0 ∗ rD c r h))
    (B := iprop(atPos ER (cell c r 2 h) 0 ∅ 0 ∗ cred (tallyAt (cell c r 2 h) () N)))
    (by unfold SS; rw [if_neg (by omega), if_neg (by omega)]) (by unfold SS; rw [if_neg (by omega), if_pos (by omega)])
    (fun i hi => by
      have hne : i.val ≠ h.val := fun e => hi (Fin.ext e)
      unfold SS
      by_cases hl : i.val < σ.s
      · simp only [if_pos hl, if_pos (show i.val < h.val + 1 by omega)]
      · simp only [if_neg hl, if_neg (show ¬ i.val < h.val + 1 by omega)])) $$ H4
  icases H4' with ⟨⟨Ha, T1, T2, Hd⟩, H4⟩
  ihave H6' := (take (Ψ := PB I c r σ.m (h.val + 1) σ.q σ.ds) h.succ (A := pH c r (h.val + 1) (sent I r h c)) (B := iprop(emp))
    (by unfold PB
        rw [if_neg (by simp; omega), if_neg (by simp), if_neg (by simp; omega), if_neg (by simp; omega), if_pos (by simpa using h2)]; rfl)
    (by unfold PB; rw [if_neg (by simp; omega), if_neg (by simp), if_neg (by simp; omega), if_pos (by simp)])
    (fun i hi => by
      have hne : i.val ≠ h.val + 1 := fun e => hi (Fin.ext e)
      unfold PB
      by_cases hl : i.val ≤ σ.s
      · simp only [if_pos hl, if_pos (show i.val ≤ h.val + 1 by omega)]
      · simp only [if_neg hl, if_neg (show ¬ i.val ≤ h.val + 1 by omega)])) $$ H6
  icases H6' with ⟨Hx, H6⟩
  rw [due_s c r h g s hs]
  iapply (sSend_op I K c r h) $$ [Hx Hd T1 T2 HO]
  · isplitr; · iexact HC
    isplitl [Hx]; · iexact Hx
    isplitl [Hd]; · iexact Hd
    isplitl [T1]; · iexact T1
    isplitl [T2]; · iexact T2
    iexact HO
  iintro ⟨Hc, HO⟩
  isplitl [HO]; · iexists W; iexact HO
  isplitl [HZ]; · iexact HZ
  isplitl [H1]; · iexact H1
  isplitl [H2]; · iexact H2
  isplitl [H3]; · iexact H3
  isplitl [H4 Ha Hc]
  · iapply H4
    isplitl [Ha]; · iexact Ha
    iexact Hc
  isplitl [H5]; · iexact H5
  isplitl [H6]; · iapply H6; iempintro
  iexact H7

theorem sSent_step (c : Dev nD) (r : Fin 2) (h : Fin 7) (σ : At) (g s : Fin 2 → ℕ) (h1 : σ.ds = h.val) (h2 : h.val < σ.s) (h4 : h.val + 1 < σ.m) :
    Step I K Z c r (sSent c r h) σ g s { σ with ds := h.val + 1 } g s := by
  unfold Step Ring Tr
  iintro ⟨#HC, HO, HZ, H1, H2, H3, H4, H5, H6, H7⟩
  unfold Owing
  icases HO with ⟨%W, HO⟩
  ihave H4' := (take (Ψ := SS c r σ.s (h.val + 1)) h
    (A := iprop(atPos ER (cell c r 2 h) 0 ∅ 0 ∗ cred (tallyAt (cell c r 2 h) () N))) (B := atPos ER (cell c r 2 h) 1 ∅ 0)
    (by unfold SS; rw [if_neg (by omega), if_pos (by omega)]) (by unfold SS; rw [if_pos (by omega)])
    (fun i hi => by
      have hne : i.val ≠ h.val := fun e => hi (Fin.ext e)
      unfold SS
      by_cases hl : i.val < σ.ds
      · simp only [if_pos hl, if_pos (show i.val < h.val + 1 by omega)]
      · simp only [if_neg hl, if_neg (show ¬ i.val < h.val + 1 by omega)])) $$ H4
  icases H4' with ⟨⟨Ha, Hc⟩, H4⟩
  ihave H6' := (take (Ψ := PB I c r σ.m σ.s σ.q (h.val + 1)) h.succ (A := iprop(emp)) (B := pH c r (h.val + 1) (sent I r h c))
    (by unfold PB; rw [if_neg (by simp; omega), if_neg (by simp), if_neg (by simp; omega), if_pos (by simp; omega)])
    (by unfold PB; rw [if_neg (by simp; omega), if_neg (by simp), if_pos (by simp)]; rfl)
    (fun i hi => by
      have hne : i.val ≠ h.val + 1 := fun e => hi (Fin.ext e)
      unfold PB
      by_cases hl : i.val ≤ σ.ds
      · simp only [if_pos hl, if_pos (show i.val ≤ h.val + 1 by omega)]
      · simp only [if_neg hl, if_neg (show ¬ i.val ≤ h.val + 1 by omega)])) $$ H6
  icases H6' with ⟨-, H6⟩
  iapply (wait_op I K c r 2 h (rrB r h) (paB c r h.succ) (rrB_word r h) (paB_word c r h.succ) (paB_N c r h.succ) 2 g s
    (Or.inl (le_refl 2)) (fun r' i' hi => by rw [(lvS_rsem r h).2.2.1]; omega)
    (fun r' i' hi => by rw [(lvS_rsem r h).2.2.1]; omega)) $$ [Ha Hc HO]
  · isplitr; · iexact HC
    isplitl [Ha]; · iexact Ha
    isplitl [Hc]; · iexact Hc
    iexact HO
  iintro ⟨Ha, Hp, HO⟩
  isplitl [HO]; · iexact HO
  isplitl [HZ]; · iexact HZ
  isplitl [H1]; · iexact H1
  isplitl [H2]; · iexact H2
  isplitl [H3]; · iexact H3
  isplitl [H4 Ha]; · iapply H4 $$ Ha
  isplitl [H5]; · iexact H5
  isplitl [H6 Hp]; · iapply H6; unfold copyPay; iexact Hp
  iexact H7

/-- A receive of the scatter, before what it brought is used. -/
theorem sRecv_use (c : Dev nD) (r : Fin 2) (h : Fin 7) (g s : Fin 2 → ℕ) (hg : ∀ r, h.val + 3 ≤ g r ∨ 7 ≤ g r) (hs : ∀ r, h.val + 1 ≤ s r)
    {Q : PUnit → sProp (MM F)} :
    iprop(Ctx I K c ∗ Owing c 2 g s ∗ bigSep Finset.univ (SR I c r h.val))
      ⊢ iprop(((Owing c 2 g s ∗ rH I c r h ∗ (rH I c r h -∗ bigSep Finset.univ (SR I c r (h.val + 1)))) -∗ Q ⟨⟩) -∗ Wp c (sRecv r h) Q) := by
  unfold Owing
  iintro ⟨#HC, ⟨%W, HO⟩, H5⟩ Hk
  ihave H5' := (take (Ψ := SR I c r (h.val + 1)) h
    (A := iprop(atPos ER (cell c r 3 h) 0 ∅ 0 ∗ cred (tallyAt (cell c r 3 h) () N))) (B := iprop(atPos ER (cell c r 3 h) 1 ∅ 0 ∗ rH I c r h))
    (by unfold SR; rw [if_neg (by omega)]) (by unfold SR; rw [if_pos (by omega)])
    (fun i hi => by
      have hne : i.val ≠ h.val := fun e => hi (Fin.ext e)
      unfold SR
      by_cases hl : i.val < h.val
      · simp only [if_pos hl, if_pos (show i.val < h.val + 1 by omega)]
      · simp only [if_neg hl, if_neg (show ¬ i.val < h.val + 1 by omega)])) $$ H5
  icases H5' with ⟨⟨Ha, Hc⟩, H5⟩
  iapply (wait_op I K c r 3 h (rrB r h) (rrB r h) (rrB_word r h) (rrB_word r h) (rrB_N r h) 2 g s
    (Or.inl (le_refl 2)) (fun r' i' hi => by rw [(lvS_rsem r h).2.2.2]; have := hg r'; have := i'.isLt; omega)
    (fun r' i' hi => by rw [(lvS_rsem r h).2.2.2]; have := hs r'; omega)) $$ [Ha Hc HO]
  · isplitr; · iexact HC
    isplitl [Ha]; · iexact Ha
    isplitl [Hc]; · iexact Hc
    iexact HO
  iintro ⟨Ha, Hx, HO⟩
  iapply Hk
  isplitl [HO]; · iexact HO
  isplitl [Hx]; · unfold copyPay; iexact Hx
  iintro Hx
  iapply H5
  isplitl [Ha]; · iexact Ha
  iexact Hx

end Cert.KernelIdeal.Run

end
-- ==== Proof.Work.lean ====
/- The steps that compute, and the steps of the windows. -/
module

public import proofs.«01_k».proof.Proof.Steps

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts

variable {F : FTy → Type} [FloatOps F] [Named F] (I : Ins F)

variable (K : GSem nD τ sig → ℕ) (Z : sProp (MM F))

theorem bind_wp {α β : Type} {c : Dev nD} {p : P F α} {k : α → P F β} {Q : β → sProp (MM F)} :
    Wp c p (fun a => Wp c (k a) Q) ⊢ Wp c (p >>= k) Q := by
  unfold Wp; rw [wp_bind]

/-- An operand of the body, whole, at contents `X`. -/
def Opnd {s : Shape} {e : EltTy} (c : Dev nD) (M : Memref sig .tc .vmem s e) (X : s.Idx → Elt F e) : sProp (MM F) :=
  M.view.loc (c : Thread nD τ) ↦[M.view.set]{fullShare} M.view.rep X
theorem load_opnd {s : Shape} {e : EltTy} (c : Dev nD) (M : Memref sig .tc .vmem s e) (X : s.Idx → Elt F e) (R : Rect s)
    (hl : M.view.LoadsAt R.toLoadRect) {Q : (R.shape.Idx → Elt F e) → sProp (MM F)} :
    Opnd c M X ⊢ iprop((Opnd c M X -∗ Q (fun y => X (R.toLoadRect.idx y))) -∗ Wp c (Prog.lift (.load M R.toLoadRect hl)) Q) := by
  have h : Opnd c M X ⊢ iprop((Opnd c M X -∗ Wp c (Prog.ret (M.view.readAt (Elt F) R.toLoadRect (M.view.rep X))) Q)
      -∗ Wp c (Prog.lift (.load M R.toLoadRect hl)) Q) := wp_load (cs := .vmem) 𝒱₀ (c : Thread nD τ) none Set.univ (View.setOn_subset_set _ _)
  rw [View.readAt_rep] at h
  iintro H Hk
  iapply h $$ H
  iintro H
  iapply ret_wp
  iapply Hk $$ H

/-! ## The scatter's additions -/

theorem sent_succ (c : Dev nD) (r : Fin 2) (s : Fin 6) :
    sentN I r (s.val + 1) c = accOf (prod I r s.succ.succ c) (sent I r s.castSucc (src r c)) := by
  have h : (Fin.ofNat 8 (s.val + 2) : Fin 8) = s.succ.succ := by
    refine Fin.ext ?_
    have := s.isLt
    show (s.val + 2) % 8 = s.val + 1 + 1; omega
  show accOf (prod I r (Fin.ofNat 8 (s.val + 2)) c) (sentN I r s.val (src r c)) = _
  rw [h]; rfl

theorem sAdd_step (c : Dev nD) (r : Fin 2) (h : Fin 6) (σ : At) (g s : Fin 2 → ℕ) (h1 : σ.q = h.val) (h2 : h.val + 2 < σ.m) (h3 : σ.s ≤ h.val + 1)
    (h4 : σ.ds ≤ h.val + 1) (hg : ∀ r, h.val + 3 ≤ g r ∨ 7 ≤ g r) (hs : ∀ r, h.val + 1 ≤ s r) :
    Step I K Z c r (sAdd c r h.castSucc h.succ.succ) σ g s { σ with q := h.val + 1 } g s := by
  unfold Step Ring Tr
  iintro ⟨#HC, HO, HZ, H1, H2, H3, H4, H5, H6, H7⟩
  ihave H6' := (take (Ψ := PB I c r σ.m σ.s (h.val + 1) σ.ds) h.succ.succ
    (A := hold c (pa r) (blkR c r h.succ.succ) fullShare (prod I r h.succ.succ c))
    (B := hold c (pa r) (blkR c r h.succ.succ) fullShare (accOf (prod I r h.succ.succ c) (sent I r h.castSucc (src r c))))
    (by unfold PB
        rw [if_neg (by simp; omega), if_neg (by simp), if_neg (by simp; omega), if_neg (by simp; omega), if_neg (by simp; omega)]
        exact hold_at c (pa r) _ _ (off4_eq c r h.succ.succ) _ _ _)
    (by unfold PB
        rw [if_neg (by simp; omega), if_neg (by simp), if_neg (by simp; omega), if_neg (by simp; omega), if_pos (by simp)]
        rw [← sent_succ]
        exact hold_at c (pa r) _ _ (off4_eq c r h.succ.succ) _ _ _)
    (fun i hi => by
      have hne : i.val ≠ h.val + 2 := fun e => hi (Fin.ext e)
      unfold PB
      by_cases hl : i.val ≤ σ.q + 1
      · simp only [if_pos hl, if_pos (show i.val ≤ h.val + 1 + 1 by omega)]
      · simp only [if_neg hl, if_neg (show ¬ i.val ≤ h.val + 1 + 1 by omega)])) $$ H6
  icases H6' with ⟨Hp, H6⟩
  unfold sAdd
  iapply bind_wp
  rw [h1]
  iapply (sRecv_use I K c r h.castSucc g s hg hs) $$ [HO H5]
  · isplitr; · iexact HC
    isplitl [HO]; · iexact HO
    iexact H5
  iintro ⟨HO, Hr, H5⟩
  iapply bind_wp
  iapply (load_hold c (pa r) (blkR c r h.succ.succ) fullShare _ _) $$ Hp
  iintro Hp
  iapply bind_wp
  unfold rH
  iapply (load_hold c (rr r) (rrR h.castSucc) fullShare _ _) $$ Hr
  iintro Hr
  iapply bind_wp
  iapply (load_hold c (pa r) (blkR c r h.succ.succ) fullShare _ _) $$ Hp
  iintro Hp
  iapply (store_any c (pa r) (blkR c r h.succ.succ) (accOf (prod I r h.succ.succ c) (sent I r h.castSucc (src r c))) _ _) $$ [Hp]
  · iapply (hold_any c (pa r) (blkR c r h.succ.succ) _) $$ Hp
  iintro Hp
  isplitl [HO]; · iexact HO
  isplitl [HZ]; · iexact HZ
  isplitl [H1]; · iexact H1
  isplitl [H2]; · iexact H2
  isplitl [H3]; · iexact H3
  isplitl [H4]; · iexact H4
  isplitl [H5 Hr]; · iapply H5 $$ Hr
  isplitl [H6 Hp]; · iapply H6 $$ Hp
  iexact H7

/-- The last addition: its value. -/
theorem sLast_op (c : Dev nD) (r : Fin 2) (σ : At) (g s : Fin 2 → ℕ) (h1 : σ.q = 6) (h2 : σ.m = 8) (h3 : σ.s = 7) (h4 : σ.ds = 0)
    (hg : ∀ r, 7 ≤ g r) (hs : ∀ r, 7 ≤ s r) {Q : ULift (FVec F S128x1024 .f32) → sProp (MM F)} :
    iprop(Ctx I K c ∗ Owing c 2 g s ∗ Ring I c r σ)
      ⊢ iprop(((Owing c 2 g s ∗ Ring I c r { σ with q := 7 }) -∗ Q ⟨lastV I r c⟩) -∗ Wp c (sLast c r) Q) := by
  unfold Ring
  iintro ⟨#HC, HO, H1, H2, H3, H4, H5, H6, H7⟩ Hk
  ihave H6' := (take (Ψ := PB I c r σ.m σ.s 7 σ.ds) 0
    (A := hold c (pa r) (ownR c) fullShare (prod I r 0 c)) (B := hold c (pa r) (ownR c) fullShare (prod I r 0 c))
    (by unfold PB; rw [if_neg (by simp; omega), if_pos (by simp)]
        exact hold_at c (pa r) _ _ (off1_eq c r) _ _ _)
    (by unfold PB; rw [if_neg (by simp; omega), if_pos (by simp)]
        exact hold_at c (pa r) _ _ (off1_eq c r) _ _ _)
    (fun i hi => by
      have := i.isLt
      unfold PB
      simp only [h3, if_pos (show i.val ≤ 7 by omega)])) $$ H6
  icases H6' with ⟨Hp, H6⟩
  unfold sLast
  iapply bind_wp
  rw [h1]
  iapply (sRecv_use I K c r 6 g s (fun r => Or.inr (hg r)) hs) $$ [HO H5]
  · isplitr; · iexact HC
    isplitl [HO]; · iexact HO
    iexact H5
  iintro ⟨HO, Hr, H5⟩
  iapply bind_wp
  iapply (load_hold c (pa r) (ownR c) fullShare _ _) $$ Hp
  iintro Hp
  iapply bind_wp
  unfold rH
  iapply (load_hold c (rr r) (rrR 6) fullShare _ _) $$ Hr
  iintro Hr
  iapply ret_wp
  unfold lastV
  iapply Hk
  isplitl [HO]; · iexact HO
  isplitl [H1]; · iexact H1
  isplitl [H2]; · iexact H2
  isplitl [H3]; · iexact H3
  isplitl [H4]; · iexact H4
  isplitl [H5 Hr]; · iapply H5 $$ Hr
  isplitl [H6 Hp]; · iapply H6 $$ Hp
  iexact H7

/-! ## The windows, and the blocks computed -/

theorem winStart_step (c : Dev nD) (r : Fin 2) (h : Fin 8) (σ : At) (g s : Fin 2 → ℕ) (hw : σ.w (slot h) = none) :
    Step I K Z c r (winStart c r h) σ g s { σ with w := Function.update σ.w (slot h) (some h) } g s := by
  unfold Step Ring
  have hB : WS I c r (Function.update σ.w (slot h) (some h)) (slot h) = iprop(Fly I c r 0 h ∗ Fly I c r 1 h) := by
    unfold WS; rw [Function.update_self]
  have hA : WS I c r σ.w (slot h) = iprop(Idle I c r 0 (slot h) ∗ Idle I c r 1 (slot h)) := by unfold WS; rw [hw]
  have ht := take (Φ := WS I c r σ.w) (Ψ := WS I c r (Function.update σ.w (slot h) (some h))) (slot h) hA hB
    (fun i hi => by unfold WS; rw [Function.update_of_ne hi])
  unfold Tr
  iintro ⟨#HC, HO, HZ, H1, H2, H3, H4, H5, H6, H7⟩
  ihave H7' := ht $$ H7
  icases H7' with ⟨Hi, H7⟩
  iapply (Tr.use (winStart_op I c r h)) $$ Hi
  iintro Hf
  isplitl [HO]; · iexact HO
  isplitl [HZ]; · iexact HZ
  isplitl [H1]; · iexact H1
  isplitl [H2]; · iexact H2
  isplitl [H3]; · iexact H3
  isplitl [H4]; · iexact H4
  isplitl [H5]; · iexact H5
  isplitl [H6]; · iexact H6
  iapply H7 $$ Hf

theorem xb_hold (c : Dev nD) (r : Fin 2) (h : Fin 8) (σ : At) (hx : h.val < σ.g ∨ h.val ≤ σ.n) (hd : σ.dg = 0) :
    ∃ q, XB I c r σ.g σ.n σ.dg h = hold c (xf r) (blkR c r h) q (xV I r (blk r h.val c)) := by
  have e (q) : xH I c r h.val q = hold c (xf r) (blkR c r h) q (xV I r (blk r h.val c)) := hold_at c (xf r) _ _ (off4_eq c r h) _ _ _
  unfold XB
  rw [hd, if_neg (Nat.not_lt_zero _)]
  by_cases hl : h.val < σ.g
  · exact ⟨qStay, by rw [if_pos hl, e]⟩
  · exact ⟨fullShare, by rw [if_neg hl, if_pos (hx.resolve_left hl), e]⟩

theorem work_step (c : Dev nD) (r : Fin 2) (h : Fin 8) (σ : At) (g s : Fin 2 → ℕ) (Wq Wo : Memref sig .tc .vmem S1024x1024 .bf16)
    (hw : σ.w (slot h) = some h) (hm : σ.m = h.val) (hx : h.val < σ.g ∨ h.val ≤ σ.n) (hd : σ.dg = 0) (h3 : σ.q + 1 < h.val ∨ h.val ≤ 1 ∧ σ.q = 0) (h4 : σ.s < h.val ∨ h.val = 0) (h5 : σ.ds = 0) :
    Step I K iprop(Opnd c Wq (I.wq c) ∗ Opnd c Wo (I.wo c) ∗ Z) c r (work Wq Wo c r h) σ g s
      { σ with m := h.val + 1, w := Function.update σ.w (slot h) none } g s := by
  unfold Step Ring
  have hB : WS I c r (Function.update σ.w (slot h) none) (slot h) = iprop(Idle I c r 0 (slot h) ∗ Idle I c r 1 (slot h)) := by
    unfold WS; rw [Function.update_self]
  have hA : WS I c r σ.w (slot h) = iprop(Fly I c r 0 h ∗ Fly I c r 1 h) := by unfold WS; rw [hw]
  have ht := take (Φ := WS I c r σ.w) (Ψ := WS I c r (Function.update σ.w (slot h) none)) (slot h) hA hB
    (fun i hi => by unfold WS; rw [Function.update_of_ne hi])
  obtain ⟨q, hq⟩ := xb_hold I c r h σ hx hd
  have hX := take (Φ := XB I c r σ.g σ.n σ.dg) (Ψ := XB I c r σ.g σ.n σ.dg) h hq hq (fun i hi => rfl)
  have hP := take (Φ := PB I c r σ.m σ.s σ.q σ.ds) (Ψ := PB I c r (h.val + 1) σ.s σ.q σ.ds) h
    (A := holdAny c (pa r) (blkR c r h)) (B := hold c (pa r) (blkR c r h) fullShare (prod I r h c))
    (by unfold PB; rw [if_pos (by omega)]; exact holdAny_at c (pa r) _ _ (off4_eq c r h) _)
    (by
      have e : pH c r h.val (prod I r h c) = hold c (pa r) (blkR c r h) fullShare (prod I r h c) := hold_at c (pa r) _ _ (off4_eq c r h) _ _ _
      rw [← e]
      unfold PB
      rw [if_neg (by omega)]
      by_cases h0 : h.val = 0
      · rw [if_pos h0, show h = 0 from Fin.ext h0]
      · rw [if_neg h0, if_neg (by omega), if_neg (by omega)]
        by_cases hl : h.val ≤ σ.q + 1
        · have h1 : h = 1 := Fin.ext (show h.val = 1 by omega)
          rw [if_pos hl, h1]; rfl
        · rw [if_neg hl])
    (fun i hi => by
      have hne : i.val ≠ h.val := fun e => hi (Fin.ext e)
      unfold PB
      by_cases hl : σ.m ≤ i.val
      · simp only [if_pos hl, if_pos (show h.val + 1 ≤ i.val by omega)]
      · simp only [if_neg hl, if_neg (show ¬ h.val + 1 ≤ i.val by omega)])
  unfold Tr
  iintro ⟨#HC, HO, ⟨HWq, HWo, HZ⟩, H1, H2, H3, H4, H5, H6, H7⟩
  ihave H7' := ht $$ H7
  icases H7' with ⟨Hi, H7⟩
  ihave H3' := hX $$ H3
  icases H3' with ⟨Hx, H3⟩
  ihave H6' := hP $$ H6
  icases H6' with ⟨Hp, H6⟩
  unfold work
  iapply bind_wp
  unfold Ctx
  icases HC with ⟨-, #Hlev, -, -⟩
  iapply (Tr.use (winDone_op I c r h 2 g s)) $$ [Hi HO]
  · isplitl [Hi]; · iexact Hi
    isplitr; · iexact Hlev
    iexact HO
  iintro ⟨⟨L0, L1⟩, HO⟩
  unfold Landed
  icases L0 with ⟨K0, V0, L0⟩
  icases L1 with ⟨K1, V1, L1⟩
  unfold compute
  iapply bind_wp
  iapply (load_hold c (wb r 0) (wbR (slot h)) fullShare _ _) $$ K0
  iintro K0
  iapply bind_wp
  iapply (load_hold c (wb r 1) (wbR (slot h)) fullShare _ _) $$ K1
  iintro K1
  iapply bind_wp
  iapply (load_hold c (xf r) (blkR c r h) q _ _) $$ Hx
  iintro Hx
  iapply bind_wp
  iapply (load_opnd c Wq (I.wq c) wR _) $$ HWq
  iintro HWq
  iapply bind_wp
  iapply (load_opnd c Wo (I.wo c) wR _) $$ HWo
  iintro HWo
  iapply bind_wp
  iapply (load_any c (pa r) (blkR c r h) _) $$ Hp
  iintro %Y Hp
  iapply (store_any c (pa r) (blkR c r h) (prod I r h c) _ _) $$ Hp
  iintro Hp
  isplitl [HO]; · iexact HO
  isplitl [HWq HWo HZ]
  · isplitl [HWq]; · iexact HWq
    isplitl [HWo]; · iexact HWo
    iexact HZ
  isplitl [H1]; · iexact H1
  isplitl [H2]; · iexact H2
  isplitl [H3 Hx]; · iapply H3 $$ Hx
  isplitl [H4]; · iexact H4
  isplitl [H5]; · iexact H5
  isplitl [H6 Hp]; · iapply H6 $$ Hp
  iapply H7
  unfold Idle
  isplitl [K0 V0 L0]
  · isplitl [K0]; · iapply (hold_any c (wb r 0) (wbR (slot h)) _) $$ K0
    isplitl [V0]; · iexact V0
    iexact L0
  isplitl [K1]; · iapply (hold_any c (wb r 1) (wbR (slot h)) _) $$ K1
  isplitl [V1]; · iexact V1
  iexact L1

end Cert.KernelIdeal.Run

end
-- ==== Proof.Chain.lean ====
/- The body's operations one after another, both rings together. -/
module

public import proofs.«01_k».proof.Proof.Work

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts

variable {F : FTy → Type} [FloatOps F] [Named F] (I : Ins F)

variable (K : GSem nD τ sig → ℕ) (Z : sProp (MM F)) (Wq Wo : Memref sig .tc .vmem S1024x1024 .bf16)

/-! ## Both rings -/

/-- What the device holds with its rings at `Σ`. -/
def St (c : Dev nD) (S : Fin 2 → At) : sProp (MM F) :=
  iprop(Owing c 2 (fun r => (S r).g) (fun r => (S r).s) ∗ (Opnd c Wq (I.wq c) ∗ Opnd c Wo (I.wo c) ∗ Z) ∗ Ring I c 0 (S 0) ∗ Ring I c 1 (S 1))

theorem keep {v : ℕ} (f : Fin 2 → ℕ) (r : Fin 2) (h : v = f r) : f = Function.update f r v := by subst h; exact (Function.update_eq_self r f).symm
theorem upd_of (S : Fin 2 → At) (r : Fin 2) (t : At) (f : At → ℕ) :
    Function.update (fun r => f (S r)) r (f t) = fun r' => f (Function.update S r t r') := by
  funext r'
  by_cases h : r' = r
  · subst h; rw [Function.update_self, Function.update_self]
  · rw [Function.update_of_ne h, Function.update_of_ne h]

/-- An operation there is for each ring moves either ring from `σ` to `t` while both stand at states `C` allows. -/
def Go (c : Dev nD) (p : Fin 2 → P F PUnit) (σ t : At) (C : At → Prop) : Prop := ∀ (r : Fin 2) (S : Fin 2 → At), S r = σ → (∀ r', C (S r')) →
  Tr c iprop(Ctx I K c ∗ St I Z Wq Wo c S) (p r) iprop(Ctx I K c ∗ St I Z Wq Wo c (Function.update S r t))

theorem go {c : Dev nD} {p : Fin 2 → P F PUnit} {σ t : At} {C : At → Prop}
    (h : ∀ (r : Fin 2) (g s : Fin 2 → ℕ) (Z' : sProp (MM F)), g r = σ.g → s r = σ.s → (∀ r', ∃ x, C x ∧ x.g = g r' ∧ x.s = s r') →
      ∃ g' s', Step I K iprop(Opnd c Wq (I.wq c) ∗ Opnd c Wo (I.wo c) ∗ Z') c r (p r) σ g s t g' s' ∧ g' = Function.update g r t.g ∧ s' = Function.update s r t.s) :
    Go I K Z Wq Wo c p σ t C := by
  intro r S e hS
  have key : ∀ Z', ∃ g' s', Step I K iprop(Opnd c Wq (I.wq c) ∗ Opnd c Wo (I.wo c) ∗ Z') c r (p r) σ (fun r => (S r).g) (fun r => (S r).s) t g' s'
      ∧ g' = (fun r' => (Function.update S r t r').g) ∧ s' = (fun r' => (Function.update S r t r').s) := fun Z' => by
    obtain ⟨g', s', h1, h2, h3⟩ := h r (fun r => (S r).g) (fun r => (S r).s) Z' (by rw [e]) (by rw [e]) (fun r' => ⟨S r', hS r', rfl, rfl⟩)
    exact ⟨g', s', h1, h2.trans (upd_of S r t At.g), h3.trans (upd_of S r t At.s)⟩
  match r, e, key with
  | 0, e, key =>
    obtain ⟨g', s', k, rfl, rfl⟩ := key iprop(Z ∗ Ring I c 1 (S 1))
    unfold Step at k
    refine (k.frame (Ctx I K c)).conseq ?_ ?_
    · unfold St
      rw [← e]
      iintro ⟨#HC, HO, ⟨H1, H2, H3⟩, R0, R1⟩
      isplitl; swap; · iexact HC
      isplitr; · iexact HC
      isplitl [HO]; · iexact HO
      isplitl [H1 H2 H3 R1]
      · isplitl [H1]; · iexact H1
        isplitl [H2]; · iexact H2
        isplitl [H3]; · iexact H3
        iexact R1
      iexact R0
    · unfold St
      rw [show Function.update S 0 t 0 = t from Function.update_self .., show Function.update S 0 t 1 = S 1 from Function.update_of_ne (by decide) ..]
      iintro ⟨⟨HO, ⟨H1, H2, H3, R1⟩, R0⟩, HC⟩
      isplitl [HC]; · iexact HC
      isplitl [HO]; · iexact HO
      isplitl [H1 H2 H3]
      · isplitl [H1]; · iexact H1
        isplitl [H2]; · iexact H2
        iexact H3
      isplitl [R0]; · iexact R0
      iexact R1
  | 1, e, key =>
    obtain ⟨g', s', k, rfl, rfl⟩ := key iprop(Z ∗ Ring I c 0 (S 0))
    unfold Step at k
    refine (k.frame (Ctx I K c)).conseq ?_ ?_
    · unfold St
      rw [← e]
      iintro ⟨#HC, HO, ⟨H1, H2, H3⟩, R0, R1⟩
      isplitl; swap; · iexact HC
      isplitr; · iexact HC
      isplitl [HO]; · iexact HO
      isplitl [H1 H2 H3 R0]
      · isplitl [H1]; · iexact H1
        isplitl [H2]; · iexact H2
        isplitl [H3]; · iexact H3
        iexact R0
      iexact R1
    · unfold St
      rw [show Function.update S 1 t 1 = t from Function.update_self .., show Function.update S 1 t 0 = S 0 from Function.update_of_ne (by decide) ..]
      iintro ⟨⟨HO, ⟨H1, H2, H3, R0⟩, R1⟩, HC⟩
      isplitl [HC]; · iexact HC
      isplitl [HO]; · iexact HO
      isplitl [H1 H2 H3]
      · isplitl [H1]; · iexact H1
        isplitl [H2]; · iexact H2
        iexact H3
      isplitl [R0]; · iexact R0
      iexact R1

section
variable {K Z Wq Wo} {I}
/-- Both rings at the same state. -/
abbrev Both (I : Ins F) (K : GSem nD τ sig → ℕ) (Z : sProp (MM F)) (Wq Wo : Memref sig .tc .vmem S1024x1024 .bf16) (c : Dev nD) (σ : At) : sProp (MM F) :=
  iprop(Ctx I K c ∗ St I Z Wq Wo c fun _ => σ)

theorem two_upd (S : Fin 2 → At) (a b : At) (h : S = fun _ => a) : Function.update (Function.update S 0 b) 1 b = fun _ => b := by
  subst h
  funext r
  match r with
  | 0 => rfl
  | 1 => rfl
theorem upd0 (a b : At) (C : At → Prop) (ha : C a) (hb : C b) : ∀ r, C (Function.update (fun _ : Fin 2 => a) 0 b r) := fun r => match r with
  | 0 => hb
  | 1 => ha

theorem Go.pair {c : Dev nD} {p : Fin 2 → P F PUnit} {σ t : At} {C : At → Prop} (h : Go I K Z Wq Wo c p σ t C) (hσ : C σ) (ht : C t) :
    Tr c (Both I K Z Wq Wo c σ) (p 0 >>= fun _ => p 1) (Both I K Z Wq Wo c t) := by
  have h2 := h 1 (Function.update (fun _ => σ) 0 t) rfl (upd0 σ t C hσ ht)
  rw [two_upd _ σ t rfl] at h2
  exact (h 0 (fun _ => σ) rfl fun _ => hσ).seq h2
theorem Go.cont {c : Dev nD} {p : Fin 2 → P F PUnit} {σ t : At} {C : At → Prop} {q : P F PUnit} {B : sProp (MM F)} (h : Go I K Z Wq Wo c p σ t C)
    (hσ : C σ) (ht : C t) (hq : Tr c (Both I K Z Wq Wo c t) q B) : Tr c (Both I K Z Wq Wo c σ) (p 0 >>= fun _ => p 1 >>= fun _ => q) B := by
  have h2 := h 1 (Function.update (fun _ => σ) 0 t) rfl (upd0 σ t C hσ ht)
  rw [two_upd _ σ t rfl] at h2
  exact (h 0 (fun _ => σ) rfl fun _ => hσ).seq (h2.seq hq)
/-- Two operations on one ring, then the same two on the other. -/
theorem Go.twice {c : Dev nD} {p q : Fin 2 → P F PUnit} {σ t u : At} {C D : At → Prop} (h : Go I K Z Wq Wo c p σ t C) (h' : Go I K Z Wq Wo c q t u D)
    (c1 : C σ) (c2 : C u) (d1 : D σ) (d2 : D t) (d3 : D u) :
    Tr c (Both I K Z Wq Wo c σ) (p 0 >>= fun _ => q 0 >>= fun _ => p 1 >>= fun _ => q 1) (Both I K Z Wq Wo c u) := by
  have e1 : Function.update (Function.update (fun _ : Fin 2 => σ) 0 t) 0 u = Function.update (fun _ => σ) 0 u := Function.update_idem ..
  have a2 := h' 0 (Function.update (fun _ => σ) 0 t) rfl (upd0 σ t D d1 d2)
  rw [e1] at a2
  have a3 := h 1 (Function.update (fun _ => σ) 0 u) rfl (upd0 σ u C c1 c2)
  have a4 := h' 1 (Function.update (Function.update (fun _ => σ) 0 u) 1 t) rfl (fun r => match r with | 0 => d3 | 1 => d2)
  have e2 : Function.update (Function.update (Function.update (fun _ : Fin 2 => σ) 0 u) 1 t) 1 u = fun _ => u := by
    funext r
    match r with
    | 0 => rfl
    | 1 => rfl
  rw [e2] at a4
  exact (h 0 (fun _ => σ) rfl fun _ => c1).seq (a2.seq (a3.seq a4))

/-! ## The operations, either ring -/

variable {c : Dev nD} {σ : At}

theorem go_gSend (h : Fin 7) (h1 : σ.g = h.val) (h2 : h.val ≤ σ.n) (h3 : σ.dg ≤ h.val) :
    Go I K Z Wq Wo c (fun r => gSend c r h) σ { σ with g := h.val + 1 } fun _ => True :=
  go I K Z Wq Wo fun r g s Z' hg hs _ => ⟨_, _, gSend_step I K _ c r h σ g s (hg.trans h1) h1 h2 h3, rfl, keep s r hs.symm⟩
theorem go_gRecv (h : Fin 7) (h1 : σ.n = h.val) (h2 : σ.g ≤ h.val + 1) (h3 : σ.dg ≤ h.val + 1) :
    Go I K Z Wq Wo c (fun r => gRecv c r h) σ { σ with n := h.val + 1 } fun x => h.val + 1 ≤ x.g ∧ h.val ≤ x.s + 2 :=
  go I K Z Wq Wo fun r g s Z' hg hs hC => ⟨_, _, gRecv_step I K _ c r h σ g s h1 h2 h3
    (fun r => by obtain ⟨x, hx, e1, e2⟩ := hC r; rw [← e1]; exact hx.1) (fun r => by obtain ⟨x, hx, e1, e2⟩ := hC r; rw [← e2]; exact hx.2),
    keep g r hg.symm, keep s r hs.symm⟩
theorem go_gSent (h : Fin 7) (h1 : σ.dg = h.val) (h2 : h.val < σ.g) :
    Go I K Z Wq Wo c (fun r => gSent c r h) σ { σ with dg := h.val + 1 } fun _ => True :=
  go I K Z Wq Wo fun r g s Z' hg hs _ => ⟨_, _, gSent_step I K _ c r h σ g s h1 h2, keep g r hg.symm, keep s r hs.symm⟩
theorem go_sSend (h : Fin 7) (h1 : σ.s = h.val) (h2 : h.val ≤ σ.q) (h3 : σ.ds ≤ h.val) (h4 : h.val + 1 < σ.m) :
    Go I K Z Wq Wo c (fun r => sSend c r h) σ { σ with s := h.val + 1 } fun _ => True :=
  go I K Z Wq Wo fun r g s Z' hg hs _ => ⟨_, _, sSend_step I K _ c r h σ g s (hs.trans h1) h1 h2 h3 h4, keep g r hg.symm, rfl⟩
theorem go_sSent (h : Fin 7) (h1 : σ.ds = h.val) (h2 : h.val < σ.s) (h4 : h.val + 1 < σ.m) :
    Go I K Z Wq Wo c (fun r => sSent c r h) σ { σ with ds := h.val + 1 } fun _ => True :=
  go I K Z Wq Wo fun r g s Z' hg hs _ => ⟨_, _, sSent_step I K _ c r h σ g s h1 h2 h4, keep g r hg.symm, keep s r hs.symm⟩
theorem go_sAdd (h : Fin 6) (h1 : σ.q = h.val) (h2 : h.val + 2 < σ.m) (h3 : σ.s ≤ h.val + 1) (h4 : σ.ds ≤ h.val + 1) :
    Go I K Z Wq Wo c (fun r => sAdd c r h.castSucc h.succ.succ) σ { σ with q := h.val + 1 }
      fun x => (h.val + 3 ≤ x.g ∨ 7 ≤ x.g) ∧ h.val + 1 ≤ x.s :=
  go I K Z Wq Wo fun r g s Z' hg hs hC => ⟨_, _, sAdd_step I K _ c r h σ g s h1 h2 h3 h4
    (fun r => by obtain ⟨x, hx, e1, e2⟩ := hC r; rw [← e1]; exact hx.1) (fun r => by obtain ⟨x, hx, e1, e2⟩ := hC r; rw [← e2]; exact hx.2),
    keep g r hg.symm, keep s r hs.symm⟩
theorem go_winStart (h : Fin 8) (hw : σ.w (slot h) = none) :
    Go I K Z Wq Wo c (fun r => winStart c r h) σ { σ with w := Function.update σ.w (slot h) (some h) } fun _ => True :=
  go I K Z Wq Wo fun r g s Z' hg hs _ => ⟨_, _, winStart_step I K _ c r h σ g s hw, keep g r hg.symm, keep s r hs.symm⟩
theorem go_work (h : Fin 8) (hw : σ.w (slot h) = some h) (hm : σ.m = h.val) (hx : h.val < σ.g ∨ h.val ≤ σ.n) (hd : σ.dg = 0)
    (h3 : σ.q + 1 < h.val ∨ h.val ≤ 1 ∧ σ.q = 0) (h4 : σ.s < h.val ∨ h.val = 0) (h5 : σ.ds = 0) :
    Go I K Z Wq Wo c (fun r => work Wq Wo c r h) σ { σ with m := h.val + 1, w := Function.update σ.w (slot h) none } fun _ => True :=
  go I K Z Wq Wo fun r g s Z' hg hs _ => ⟨_, _, work_step I K Z' c r h σ g s Wq Wo hw hm hx hd h3 h4 h5, keep g r hg.symm, keep s r hs.symm⟩
end

/-! ## The steps -/

/-- Windows in flight: step `h`'s. -/
def w1 (h : Fin 8) : Fin 2 → Option (Fin 8) := Function.update (fun _ => none) (slot h) (some h)
/-- Step `h`'s and the next one's. -/
def w2 (h : Fin 7) : Fin 2 → Option (Fin 8) := Function.update (w1 h.castSucc) (slot h.succ) (some h.succ)
/-- Where a ring stands before step `h`, once the step's sends and copies are out, once the scatter has moved on, and once the step's
    block is computed. -/
def atA (h : Fin 8) : At := ⟨h.val, h.val, h.val - 2, h.val - 3, h.val, 0, 0, w1 h⟩
def atB (h : Fin 7) : At := ⟨h.val + 1, h.val, h.val - 2, h.val - 3, h.val, 0, 0, w2 h⟩
def atC (h : Fin 7) : At := ⟨h.val + 1, h.val, h.val - 1, h.val - 2, h.val, 0, 0, w2 h⟩
def atD (h : Fin 7) : At := ⟨h.val + 1, h.val, h.val - 1, h.val - 2, h.val + 1, 0, 0, w1 h.succ⟩
/-- Where it stands at the end: `q` receives of the scatter added, `dg` and `ds` sends waited for. -/
def atE (q dg ds : ℕ) : At := ⟨7, 7, 7, q, 8, dg, ds, fun _ => none⟩

theorem w1_next : ∀ h : Fin 7, w1 h.castSucc (slot h.succ) = none := by decide
theorem w2_this : ∀ h : Fin 7, w2 h (slot h.castSucc) = some h.castSucc := by decide
theorem w2_done : ∀ h : Fin 7, Function.update (w2 h) (slot h.castSucc) none = w1 h.succ := by decide
theorem w1_this : ∀ h : Fin 8, w1 h (slot h) = some h := by decide
theorem w1_done : ∀ h : Fin 8, Function.update (w1 h) (slot h) none = fun _ => none := by decide

theorem ahead_tr (c : Dev nD) (h : Fin 7) : Tr c (Both I K Z Wq Wo c (atA h.castSucc)) (ahead c h) (Both I K Z Wq Wo c (atB h)) :=
  (go_gSend h rfl (le_refl _) (Nat.zero_le _)).cont trivial trivial
    ((go_winStart (σ := { atA h.castSucc with g := h.val + 1 }) h.succ (w1_next h)).pair trivial trivial)
theorem works_tr (c : Dev nD) (h : Fin 7) : Tr c (Both I K Z Wq Wo c (atC h)) (works Wq Wo c h.castSucc) (Both I K Z Wq Wo c (atD h)) := by
  have k := (go_work (I := I) (K := K) (Z := Z) (Wq := Wq) (Wo := Wo) (c := c) (σ := atC h) h.castSucc (w2_this h) rfl (Or.inl (Nat.lt_succ_self _)) rfl
    (by show h.val - 2 + 1 < h.val ∨ h.val ≤ 1 ∧ h.val - 2 = 0; omega) (by show h.val - 1 < h.val ∨ h.val = 0; omega) rfl).pair trivial trivial
  rwa [show ({ atC h with m := h.castSucc.val + 1, w := Function.update (atC h).w (slot h.castSucc) none } : At) = atD h from by
    unfold atC atD; rw [w2_done]; rfl] at k
theorem gRecvs_tr (c : Dev nD) (h : Fin 7) : Tr c (Both I K Z Wq Wo c (atD h)) (gRecvs c h) (Both I K Z Wq Wo c (atA h.succ)) :=
  (go_gRecv (σ := atD h) h rfl (le_refl _) (Nat.zero_le _)).pair ⟨le_refl _, by show h.val ≤ h.val - 1 + 2; omega⟩
    ⟨le_refl _, by show h.val ≤ h.val - 1 + 2; omega⟩
theorem scat_tr (c : Dev nD) (s : Fin 6) (σ : At) (h1 : σ.q = s.val) (h2 : s.val + 2 < σ.m) (h3 : σ.s = s.val + 1) (h4 : σ.ds = 0)
    (h5 : s.val + 3 ≤ σ.g ∨ 7 ≤ σ.g) :
    Tr c (Both I K Z Wq Wo c σ) (scat c s) (Both I K Z Wq Wo c { σ with q := s.val + 1, s := s.val + 2 }) := by
  have a := go_sAdd (I := I) (K := K) (Z := Z) (Wq := Wq) (Wo := Wo) (c := c) s h1 h2 (le_of_eq h3) (by rw [h4]; exact Nat.zero_le _)
  have b := go_sSend (I := I) (K := K) (Z := Z) (Wq := Wq) (Wo := Wo) (c := c) (σ := { σ with q := s.val + 1 }) s.succ (by rw [Fin.val_succ]; exact h3)
    (by rw [Fin.val_succ]) (by show σ.ds ≤ _; rw [h4]; exact Nat.zero_le _) (by rw [Fin.val_succ]; exact h2)
  rw [Fin.val_succ] at b
  unfold scat
  have k := a.twice b ⟨h5, le_of_eq h3.symm⟩ ⟨h5, Nat.le_succ _⟩ trivial trivial trivial
  exact k
theorem scat0_tr (c : Dev nD) : Tr c (Both I K Z Wq Wo c (atB 2)) (scat0 c) (Both I K Z Wq Wo c (atC 2)) :=
  (go_sSend (σ := atB 2) 0 rfl (le_refl _) (le_refl _) (by decide)).pair trivial trivial
theorem scatN_tr (c : Dev nD) (s : Fin 4) (h : Fin 7) (hs : h.val = s.val + 3) :
    Tr c (Both I K Z Wq Wo c (atB h)) (scat c s.castSucc.castSucc) (Both I K Z Wq Wo c (atC h)) := by
  have k := scat_tr I K Z Wq Wo c s.castSucc.castSucc (atB h) (by show h.val - 3 = s.val; omega) (by show s.val + 2 < h.val; omega)
    (by show h.val - 2 = s.val + 1; omega) rfl (Or.inl (by show s.val + 3 ≤ h.val + 1; omega))
  rwa [show ({ atB h with q := s.castSucc.castSucc.val + 1, s := s.castSucc.castSucc.val + 2 } : At) = atC h from by
    unfold atB atC
    simp only [At.mk.injEq, and_true, true_and, Fin.val_castSucc]
    omega] at k

/-- Step 7, before and after its block is computed. -/
def atF : At := ⟨7, 7, 6, 5, 7, 0, 0, w1 7⟩
def atG : At := ⟨7, 7, 6, 5, 8, 0, 0, fun _ => none⟩

theorem steps_tr (c : Dev nD) : Tr c (Both I K Z Wq Wo c (atA 0)) (steps Wq Wo c) (Both I K Z Wq Wo c (atE 6 0 0)) := by
  have a := ahead_tr I K Z Wq Wo c
  have w := works_tr I K Z Wq Wo c
  have n := gRecvs_tr I K Z Wq Wo c
  have t := scatN_tr I K Z Wq Wo c
  have t4 : Tr c (Both I K Z Wq Wo c (atA 7)) (scat c 4) (Both I K Z Wq Wo c atF) :=
    scat_tr I K Z Wq Wo c 4 (atA 7) rfl (by decide) rfl rfl (Or.inr (by decide))
  have w7 : Tr c (Both I K Z Wq Wo c atF) (works Wq Wo c 7) (Both I K Z Wq Wo c atG) := by
    have k := (go_work (I := I) (K := K) (Z := Z) (Wq := Wq) (Wo := Wo) (c := c) (σ := atF) 7 (w1_this 7) rfl (Or.inr (by decide)) rfl
      (Or.inl (by decide)) (Or.inl (by decide)) rfl).pair trivial trivial
    rwa [show ({ atF with m := (7 : Fin 8).val + 1, w := Function.update atF.w (slot 7) none } : At) = atG from by
      unfold atF atG; rw [w1_done]; rfl] at k
  have t5 : Tr c (Both I K Z Wq Wo c atG) (scat c 5) (Both I K Z Wq Wo c (atE 6 0 0)) :=
    scat_tr I K Z Wq Wo c 5 atG rfl (by decide) rfl rfl (Or.inr (by decide))
  unfold steps
  exact (a 0).seq <| (w 0).seq <| (n 0).seq <| (a 1).seq <| (w 1).seq <| (n 1).seq <| (a 2).seq <| (scat0_tr I K Z Wq Wo c).seq <| (w 2).seq <| (n 2).seq <|
    (a 3).seq <| (t 0 3 rfl).seq <| (w 3).seq <| (n 3).seq <| (a 4).seq <| (t 1 4 rfl).seq <| (w 4).seq <| (n 4).seq <|
    (a 5).seq <| (t 2 5 rfl).seq <| (w 5).seq <| (n 5).seq <| (a 6).seq <| (t 3 6 rfl).seq <| (w 6).seq <| (n 6).seq <|
    t4.seq <| w7.seq t5

/-! ## The last sends -/

theorem gSent_go (c : Dev nD) (h : Fin 7) : Go I K Z Wq Wo c (fun r => gSent c r h) (atE 7 h.val 0) (atE 7 (h.val + 1) 0) fun _ => True :=
  go_gSent (σ := atE 7 h.val 0) h rfl h.isLt
theorem sSent_go (c : Dev nD) (h : Fin 7) : Go I K Z Wq Wo c (fun r => sSent c r h) (atE 7 7 h.val) (atE 7 7 (h.val + 1)) fun _ => True :=
  go_sSent (σ := atE 7 7 h.val) h rfl h.isLt (by show h.val + 1 < 8; omega)

theorem drain_tr (c : Dev nD) : Tr c (Both I K Z Wq Wo c (atE 7 0 0)) (drain c) (Both I K Z Wq Wo c (atE 7 7 7)) := by
  have a := gSent_go I K Z Wq Wo c
  have b := sSent_go I K Z Wq Wo c
  unfold drain
  exact (a 0).cont trivial trivial <| (a 1).cont trivial trivial <| (a 2).cont trivial trivial <| (a 3).cont trivial trivial <|
    (a 4).cont trivial trivial <| (a 5).cont trivial trivial <| (a 6).cont trivial trivial <|
    (b 0).cont trivial trivial <| (b 1).cont trivial trivial <| (b 2).cont trivial trivial <| (b 3).cont trivial trivial <|
    (b 4).cont trivial trivial <| (b 5).cont trivial trivial <| (b 6).pair trivial trivial

/-! ## The result -/

/-- An operand of the body, whole, at whatever contents. -/
def OpndAny {s : Shape} {e : EltTy} (c : Dev nD) (M : Memref sig .tc .vmem s e) : sProp (MM F) :=
  iprop(∃ f, M.view.loc (c : Thread nD τ) ↦[M.view.set]{fullShare} f)

theorem access_sub {s : Shape} {e : EltTy} (M : Memref sig .tc .vmem s e) (R : Rect s) : (M.access R).setOn Finset.univ ⊆ M.view.set := by
  intro i hi
  obtain ⟨y, -, rfl⟩ := Finset.mem_map.mp hi
  exact Finset.mem_map.mpr ⟨R.idx y, Finset.mem_univ _, rfl⟩

theorem store_opnd {s : Shape} {e : EltTy} (c : Dev nD) (M : Memref sig .tc .vmem s e) (R : Rect s) (w : R.shape.Idx → Elt F e) (X : s.Idx → Elt F e)
    (hX : ∀ i, ∃ y, R.idx y = i ∧ w y = X i)
    (hx : (M.access R).Stores Finset.univ) (hm : (Finset.univ : Finset R.shape.Idx) = Finset.univ ∨ ∀ a, R.stride a = 1) {Q : PUnit → sProp (MM F)} :
    OpndAny c M ⊢ iprop((Opnd c M X -∗ Q ⟨⟩) -∗ Wp c (Prog.lift (.store M R w Finset.univ hx hm)) Q) := by
  have h (f : Buf (Elt F) (M.view.loc (c : Thread nD τ))) : (M.view.loc (c : Thread nD τ) ↦[M.view.set]{fullShare} f)
      ⊢ iprop(((M.view.loc (c : Thread nD τ) ↦[M.view.set]{fullShare} ((M.access R).write (Elt F) f w Finset.univ)) -∗ Wp c (Prog.ret ⟨⟩) Q)
        -∗ Wp c (Prog.lift (.store M R w Finset.univ hx hm)) Q) :=
    wp_store (cs := .vmem) 𝒱₀ (c : Thread nD τ) none Set.univ (m := M) (r := R) (access_sub M R)
  have e (f : Buf (Elt F) (M.view.loc (c : Thread nD τ))) :
      (M.view.loc (c : Thread nD τ) ↦[M.view.set]{fullShare} ((M.access R).write (Elt F) f w Finset.univ) : sProp (MM F)) = Opnd c M X :=
    pointsTo_congr fun i hi => by
      obtain ⟨x, -, rfl⟩ := Finset.mem_map.mp hi
      obtain ⟨y, rfl, hy⟩ := hX x
      refine (View.write_emb_of_mem (v := M.access R) f w (Finset.mem_univ y)).trans ?_
      rw [hy, View.rep_emb]
  unfold OpndAny
  iintro ⟨%f, H⟩ Hk
  iapply (h f) $$ H
  iintro H
  iapply ret_wp
  iapply Hk
  iapply (Entails.of_eq (e f)) $$ H

theorem load_opndAny {s : Shape} {e : EltTy} (c : Dev nD) (M : Memref sig .tc .vmem s e) (R : Rect s)
    (hl : M.view.LoadsAt R.toLoadRect) {Q : (R.shape.Idx → Elt F e) → sProp (MM F)} :
    OpndAny c M ⊢ iprop((∀ Y, OpndAny c M -∗ Q Y) -∗ Wp c (Prog.lift (.load M R.toLoadRect hl)) Q) := by
  have h (f : Buf (Elt F) (M.view.loc (c : Thread nD τ))) : (M.view.loc (c : Thread nD τ) ↦[M.view.set]{fullShare} f)
      ⊢ iprop(((M.view.loc (c : Thread nD τ) ↦[M.view.set]{fullShare} f) -∗ Wp c (Prog.ret (M.view.readAt (Elt F) R.toLoadRect f)) Q)
      -∗ Wp c (Prog.lift (.load M R.toLoadRect hl)) Q) := wp_load (cs := .vmem) 𝒱₀ (c : Thread nD τ) none Set.univ (View.setOn_subset_set _ _)
  unfold OpndAny
  iintro ⟨%f, H⟩ Hk
  iapply (h f) $$ H
  iintro H
  iapply ret_wp
  iapply Hk
  iexists f; iexact H

theorem oR_all (i : S1x256x1024.Idx) : oR.idx (show oR.shape.Idx from i) = i := by
  funext a
  refine Fin.ext ?_
  show (![0, 0, 0] : Fin 3 → ℕ) a + 1 * (i a).val = (i a).val
  have h0 : (![0, 0, 0] : Fin 3 → ℕ) a = 0 := by revert a; decide
  rw [h0]; omega

theorem finish_tr (c : Dev nD) (O : Memref sig .tc .vmem S1x256x1024 .f32) :
    Tr c (Both I K iprop(OpndAny c O ∗ Z) Wq Wo c (atE 6 0 0)) (finish O c) (Both I K iprop(Opnd c O (outV I c) ∗ Z) Wq Wo c (atE 7 0 0)) := by
  unfold Both St Tr finish
  iintro ⟨#HC, HO, ⟨H1, H2, HX, HZ⟩, R0, R1⟩
  iapply bind_wp
  iapply (sLast_op I K c 0 (atE 6 0 0) _ _ rfl rfl rfl rfl (fun _ => le_refl 7) (fun _ => le_refl 7)) $$ [HO R0]
  · isplitr; · iexact HC
    isplitl [HO]; · iexact HO
    iexact R0
  iintro ⟨HO, R0⟩
  iapply bind_wp
  iapply (sLast_op I K c 1 (atE 6 0 0) _ _ rfl rfl rfl rfl (fun _ => le_refl 7) (fun _ => le_refl 7)) $$ [HO R1]
  · isplitr; · iexact HC
    isplitl [HO]; · iexact HO
    iexact R1
  iintro ⟨HO, R1⟩
  iapply bind_wp
  iapply (load_opndAny c O oR _) $$ HX
  iintro %Y HX
  iapply (store_opnd c O oR (outV I c) (outV I c) (fun i => ⟨i, oR_all i, rfl⟩) _ _) $$ HX
  iintro HX
  isplitr; · iexact HC
  isplitl [HO]; · iexact HO
  isplitl [H1 H2 HX HZ]
  · isplitl [H1]; · iexact H1
    isplitl [H2]; · iexact H2
    isplitl [HX]; · iexact HX
    iexact HZ
  isplitl [R0]; · iexact R0
  iexact R1

end Cert.KernelIdeal.Run

end
-- ==== Proof.Whole.lean ====
/- The whole body: what it starts from, how it meets its neighbours, what it ends with. -/
module

public import proofs.«01_k».proof.Proof.Chain

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts

variable {F : FTy → Type} [FloatOps F] [Named F] (I : Ins F)

variable (K : GSem nD τ sig → ℕ) (X : Memref sig .tc .vmem S256x1024 .bf16) (Wq Wo : Memref sig .tc .vmem S1024x1024 .bf16)
  (O : Memref sig .tc .vmem S1x256x1024 .f32)

/-! ## Before the steps -/

theorem stage_op (c : Dev nD) (r : Fin 2) :
    Tr c iprop(Opnd c X (I.x c) ∗ holdAny c (xf r) (bR (blk r 0 c))) (stage X c r) iprop(Opnd c X (I.x c) ∗ xH I c r 0 fullShare) := by
  have e : holdAny (F := F) c (xf r) (bR (blk r 0 c)) = holdAny c (xf r) (ownR c) := holdAny_at c (xf r) _ _ (off1_eq c r) _
  have e' : hold c (xf r) (ownR c) fullShare (xinOf fun y => I.x c ((xR r).toLoadRect.idx y)) = xH I c r 0 fullShare := by
    have hb : (blk r 0 c : Dev nD) = c := Fin.ext (blk_zero r c)
    have h : xV I r (blk r 0 c) = xinOf fun y => I.x c ((xR r).toLoadRect.idx y) := by unfold xV; rw [hb]
    unfold xH
    rw [h]
    exact (hold_at c (xf r) _ _ (off1_eq c r) _ _ _).symm
  unfold Tr stage
  rw [e, ← e']
  iintro ⟨HX, Hx⟩
  iapply bind_wp
  iapply (load_opnd c X (I.x c) (xR r) _) $$ HX
  iintro HX
  iapply bind_wp
  iapply (load_any c (xf r) (ownR c) _) $$ Hx
  iintro %Y Hx
  iapply (store_any c (xf r) (ownR c) (xinOf fun y => I.x c ((xR r).toLoadRect.idx y)) _ _) $$ Hx
  iintro Hx
  isplitl [HX]; · iexact HX
  iexact Hx

/-- What a device lends the neighbour that sends to it on ring `r`. -/
def Lend (c : Dev nD) (r : Fin 2) : sProp (MM F) :=
  bigSep Finset.univ fun i : Fin 7 => iprop(holdAny c (xf r) (bR (blk r (i.val + 1) c)) ∗ holdAny c (rr r) (rrR i))
/-- What the neighbour it sends to has lent it. -/
def Lent (c : Dev nD) (r : Fin 2) : sProp (MM F) := bigSep Finset.univ fun i : Fin 7 => iprop(xD c r i ∗ rD c r i)

theorem lend (c : Dev nD) (r : Fin 2) : iprop(mine (F := F) c ∗ Lend c r) ⊢ barPay (src r c) r := by
  have h : ∀ i : Fin 7, iprop(mine (F := F) c ∗ holdAny c (xf r) (bR (blk r (i.val + 1) c)) ∗ holdAny c (rr r) (rrR i))
      ⊢ iprop((xD (src r c) r i ∗ rD (src r c) r i) ∗ reached ER (cell (tgt r (src r c)) r 1 i) 0 ∗ reached ER (cell (tgt r (src r c)) r 3 i) 0) := by
    intro i
    unfold xD rD
    rw [← blk_tgt r i (src r c), tgt_src]
    iintro ⟨#Hm, Hx, Hr⟩
    isplitl [Hx Hr]
    · isplitl [Hx]; · iexact Hx
      iexact Hr
    isplitr; · iapply (mine_at (F := F) c r 1 i) $$ Hm
    iapply (mine_at (F := F) c r 3 i) $$ Hm
  unfold Lend barPay
  exact bigSep_with_persistent fun i _ => h i

theorem lent_of (c : Dev nD) : iprop(barPay (F := F) c 0 ∗ barPay c 1) ⊢ iprop(Lent c 0 ∗ Lent c 1 ∗ theirs c) := by
  have h : ∀ r, barPay (F := F) c r ⊢ iprop(Lent c r ∗ bigSep Finset.univ fun i : Fin 7 =>
      iprop(reached ER (cell (tgt r c) r 1 i) 0 ∗ reached ER (cell (tgt r c) r 3 i) 0)) := fun r => by
    unfold barPay Lent; exact Entails.of_eq (bigSep_sep ..)
  have ht : theirs (F := F) c = iprop((bigSep Finset.univ fun i : Fin 7 => iprop(reached ER (cell (tgt 0 c) 0 1 i) 0 ∗ reached ER (cell (tgt 0 c) 0 3 i) 0))
      ∗ bigSep Finset.univ fun i : Fin 7 => iprop(reached ER (cell (tgt 1 c) 1 1 i) 0 ∗ reached ER (cell (tgt 1 c) 1 3 i) 0)) := by
    unfold theirs
    rw [bigSep_univ_prod, BI.bigSep_fin_two]; rfl
  rw [ht]
  iintro ⟨H0, H1⟩
  ihave H0 := (h 0) $$ H0
  ihave H1 := (h 1) $$ H1
  icases H0 with ⟨A0, B0⟩
  icases H1 with ⟨A1, B1⟩
  isplitl [A0]; · iexact A0
  isplitl [A1]; · iexact A1
  isplitl [B0]; · iexact B0
  iexact B1

theorem dev1_eq : ∀ c : Dev nD, (⟨k0_dev1 c, k0_dev1_lt c⟩ : Dev nD) = tgt 1 c := by decide +kernel
theorem dev2_eq : ∀ c : Dev nD, (⟨k0_dev2 c, k0_dev2_lt c⟩ : Dev nD) = tgt 0 c := by decide +kernel
theorem due_0 (c : Dev nD) (g s : Fin 2 → ℕ) : due c 0 g s = due c 1 g s + tallyAt (bar (tgt 1 c)) () 1 := by
  unfold due dueB
  rw [if_pos (by decide), if_pos (by decide), if_pos (by decide), if_neg (by decide), add_zero]
  ac_rfl
theorem due_1 (c : Dev nD) (g s : Fin 2 → ℕ) : due c 1 g s = due c 2 g s + tallyAt (bar (tgt 0 c)) () 1 := by
  unfold due dueB
  rw [if_pos (by decide), if_neg (by decide), if_neg (by decide), if_neg (by decide), add_zero, add_zero, zero_add]
  ac_rfl

/-- Pay the barrier of the neighbour that sends to the device on ring `r`. -/
theorem signal_op (c : Dev nD) (r : Fin 2) (d : Dev nD) (hd : d = src r c) {O₀ O : CellTallies nD τ sig Unit}
    (hO : O₀ = O + tallyAt (bar (src r c)) () 1) {W : Waits sig Unit} {Q : PUnit → sProp (MM F)} :
    iprop(invs I K ∗ mine c ∗ reached ER (bar (src r c)) 0 ∗ dutyTok ER (bar (src r c)) 0 r ∗ Lend c r ∗ owes (c : Thread nD τ) O₀ W)
      ⊢ iprop((owes (c : Thread nD τ) O W -∗ Q ⟨⟩) -∗ Wp c (semSignalWord d barS 1#32) Q) := by
  subst hd
  iintro ⟨#HI, #Hm, #Hr, HT, HL, HO⟩ Hk
  ihave HP := (lend (F := F) c r) $$ [HL]
  · isplitr; · iexact Hm
    iexact HL
  have h : iprop(cellInv ER (sched I) (K (bar (src r c))) (bar (src r c)) ∗ owes (c : Thread nD τ) O₀ W ∗ dutyTok ER (bar (src r c)) 0 r
      ∗ (sched I).payload (bar (src r c)) 0 r ∗ reached ER (bar (src r c)) 0)
      ⊢ iprop((owes (c : Thread nD τ) O W -∗ Wp c (Prog.ret ⟨⟩) Q) -∗ Wp c (semSignalWord (src r c) barS 1#32) Q) := Rounds.wp_signal (defs := defs₀ (F := F)) 𝒱₀ ER (sched I) (c : Thread nD τ) none (dst := (src r c : Thread nD τ)) (sem := barS)
    (r := 0) (d := r) (k' := 1) (κ := K (bar (src r c))) (by rw [duties_bar]; exact Finset.mem_univ _) (amount_bar I (src r c) r) () O hO
    (W := W) (Es := Set.univ) (k := Prog.ret) (Q := Q)
  iapply h $$ [HO HT HP]
  · isplitr; · iapply (invs_bar I K (src r c)) $$ HI
    isplitl [HO]; · iexact HO
    isplitl [HT]; · iexact HT
    isplitl [HP]; · iapply (Entails.of_eq (payload_bar I (src r c) r).symm) $$ HP
    iexact Hr
  iintro HO
  iapply ret_wp
  iapply Hk $$ HO

theorem meet_op (c : Dev nD) (g s : Fin 2 → ℕ) :
    Tr c iprop((invs I K ∗ levAts L lv ∗ mine c ∗ reached ER (bar (src 0 c)) 0 ∗ reached ER (bar (src 1 c)) 0)
        ∗ (atPos ER (bar c) 0 ∅ 0 ∗ cred (tallyAt (bar c) () 2) ∗ dutyTok ER (bar (src 0 c)) 0 0 ∗ dutyTok ER (bar (src 1 c)) 0 1)
        ∗ (Lend c 0 ∗ Lend c 1) ∗ Owing c 0 g s) (meet c)
      iprop(Ctx I K c ∗ atPos ER (bar c) 1 ∅ 0 ∗ (Lent c 0 ∗ Lent c 1) ∗ Owing c 2 g s) := by
  unfold Tr meet Owing
  iintro ⟨⟨#HI, #Hlev, #Hm, #R0, #R1⟩, ⟨Ha, Hc, T0, T1⟩, ⟨L0, L1⟩, ⟨%W, HO⟩⟩
  iapply bind_wp
  iapply (signal_op I K c 0 _ (dev1_eq c) (due_0 c g s)) $$ [T0 L0 HO]
  · isplitr; · iexact HI
    isplitr; · iexact Hm
    isplitr; · iexact R0
    isplitl [T0]; · iexact T0
    isplitl [L0]; · iexact L0
    iexact HO
  iintro HO
  iapply bind_wp
  iapply (signal_op I K c 1 _ (dev2_eq c) (due_1 c g s)) $$ [T1 L1 HO]
  · isplitr; · iexact HI
    isplitr; · iexact Hm
    isplitr; · iexact R1
    isplitl [T1]; · iexact T1
    isplitl [L1]; · iexact L1
    iexact HO
  iintro HO
  have h : iprop(cellInv ER (sched I) (K (bar c)) (bar c) ∗ cred (tallyAt (bar c) () 2) ∗ owes (c : Thread nD τ) (due c 2 g s) W
      ∗ MayWait (c : Thread nD τ) (.reg barS) () (due c 2 g s) ∗ atPos ER (bar c) 0 ∅ 0)
      ⊢ iprop(((owes (c : Thread nD τ) (due c 2 g s) (insert (.reg barS, ()) W) ∗ atPos ER (bar c) 1 ∅ 0 ∗ reached ER (bar c) 1
          ∗ bigSep ((sched I).duties (bar c) 0 \ ∅) fun u => (sched I).payload (bar c) 0 u)
        -∗ Wp c (Prog.ret ⟨⟩) fun _ : PUnit => iprop(Ctx I K c ∗ atPos ER (bar c) 1 ∅ 0 ∗ (Lent c 0 ∗ Lent c 1) ∗ ∃ W, owes (c : Thread nD τ) (due c 2 g s) W))
        -∗ Wp c (semWaitWord barS 2#32) fun _ : PUnit => iprop(Ctx I K c ∗ atPos ER (bar c) 1 ∅ 0 ∗ (Lent c 0 ∗ Lent c 1) ∗ ∃ W, owes (c : Thread nD τ) (due c 2 g s) W)) :=
    Rounds.wp_wait_rest_token (defs := defs₀ (F := F)) 𝒱₀ ER (sched I) (c : Thread nD τ) none (κ := K (bar c)) (k := Prog.ret)
      (Q := fun _ : PUnit => iprop(Ctx I K c ∗ atPos ER (bar c) 1 ∅ 0 ∗ (Lent c 0 ∗ Lent c 1) ∗ ∃ W, owes (c : Thread nD τ) (due c 2 g s) W))
      (wpE_semWait_eq 𝒱₀ (c : Thread nD τ) none Set.univ (sem := barS) (k := 2)) (Set.mem_univ _) () (O := due c 2 g s) (W := W) (R := 0) (m := 0) (T := ∅)
      ((Nat.zero_add _).trans (expect_bar I c).symm)
  iapply h $$ [Ha Hc HO]
  · isplitr; · iapply (invs_bar I K c) $$ HI
    isplitl [Hc]; · iexact Hc
    isplitl [HO]; · iexact HO
    isplitr
    · iapply (mayWait (F := F) c (.reg barS) 2 g s (Or.inl (le_refl 2)) (fun r i _ => by show 1 < _; omega) (fun r i _ => by show 1 < _; omega)) $$ Hlev
    iexact Ha
  iintro ⟨HO, Ha, -, Hp⟩
  ihave Hp := (Entails.of_eq (rest_bar I c)) $$ Hp
  ihave Hp := (lent_of (F := F) c) $$ Hp
  icases Hp with ⟨A0, A1, #Ht⟩
  iapply ret_wp
  isplitr
  · unfold Ctx
    isplitr; · iexact HI
    isplitr; · iexact Hlev
    isplitr; · iexact Hm
    iexact Ht
  isplitl [Ha]; · iexact Ha
  isplitl [A0 A1]
  · isplitl [A0]; · iexact A0
    iexact A1
  iexists _; iexact HO

/-! ## The body -/

/-- Where a ring's cells stand at the start, with what is paid into each: sends of array `k`, paid again at the neighbour's array `k'`. -/
def Toks (c : Dev nD) (r : Fin 2) (k k' : Fin 4) : sProp (MM F) := bigSep Finset.univ fun i : Fin 7 =>
  iprop(atPos ER (cell c r k i) 0 ∅ 0 ∗ dutyTok ER (cell c r k i) 0 0 ∗ dutyTok ER (cell (tgt r c) r k' i) 0 0)
/-- Every window slot idle. -/
def Slots (c : Dev nD) (r : Fin 2) : sProp (MM F) := bigSep Finset.univ fun i : Fin 2 => iprop(Idle I c r 0 i ∗ Idle I c r 1 i)
/-- The blocks of x, of the products and of what is received, at whatever contents. -/
def xAny (c : Dev nD) (r : Fin 2) : sProp (MM F) := bigSep Finset.univ fun d : Fin 8 => holdAny c (xf r) (bR (blk r d.val c))
def pAny (c : Dev nD) (r : Fin 2) : sProp (MM F) := bigSep Finset.univ fun d : Fin 8 => holdAny c (pa r) (bR (blk r d.val c))
def rAny (c : Dev nD) (r : Fin 2) : sProp (MM F) := bigSep Finset.univ fun i : Fin 7 => holdAny c (rr r) (rrR i)
/-- A ring at the start. -/
def Init (c : Dev nD) (r : Fin 2) : sProp (MM F) :=
  iprop(Toks c r 0 1 ∗ bigSep Finset.univ (GR (F := F) c r 0) ∗ xAny c r ∗ Toks c r 2 3 ∗ bigSep Finset.univ (SR I c r 0) ∗ rAny c r ∗ pAny c r ∗ Slots I c r)
/-- A ring at the end. -/
def Fini (c : Dev nD) (r : Fin 2) : sProp (MM F) :=
  iprop((bigSep Finset.univ fun p : Fin 4 × Fin 7 => atPos ER (cell c r p.1 p.2) 1 ∅ 0) ∗ xAny c r ∗ rAny c r ∗ pAny c r ∗ Slots I c r)

theorem fin_split {n : ℕ} (Φ : Fin (n + 1) → sProp (MM F)) : bigSep Finset.univ Φ = iprop(Φ 0 ∗ bigSep Finset.univ fun i : Fin n => Φ i.succ) := by
  rw [Fin.univ_succ, Finset.cons_eq_insert, bigSep_insert (by simp), bigSep_map]; rfl
theorem fam4 (Φ : Fin 4 → sProp (MM F)) : bigSep Finset.univ Φ = iprop(Φ 0 ∗ Φ 1 ∗ Φ 2 ∗ Φ 3) := by
  rw [fin_split, fin_split, BI.bigSep_fin_two]; rfl
theorem fam_pair {J : Type} [Fintype J] {Φ Ψ : J → sProp (MM F)} :
    iprop(bigSep Finset.univ Φ ∗ bigSep Finset.univ Ψ) ⊢ bigSep Finset.univ fun i => iprop(Φ i ∗ Ψ i) := Entails.of_eq (bigSep_sep _ _ _).symm
theorem fam_unpair {J : Type} [Fintype J] {Φ Ψ : J → sProp (MM F)} :
    (bigSep Finset.univ fun i => iprop(Φ i ∗ Ψ i)) ⊢ iprop(bigSep Finset.univ Φ ∗ bigSep Finset.univ Ψ) := Entails.of_eq (bigSep_sep _ _ _)
theorem slots_eq (c : Dev nD) (r : Fin 2) :
    Slots I c r = iprop((Idle I c r 0 0 ∗ Idle I c r 1 0) ∗ Idle I c r 0 1 ∗ Idle I c r 1 1) := by
  unfold Slots; rw [BI.bigSep_fin_two]; rfl

/-- The window slots once the first windows are started. -/
def WinFam (c : Dev nD) (r : Fin 2) : sProp (MM F) := iprop((Fly I c r 0 0 ∗ Fly I c r 1 0) ∗ Idle I c r 0 1 ∗ Idle I c r 1 1)
theorem winFam_eq (c : Dev nD) (r : Fin 2) : WinFam I c r = bigSep Finset.univ (WS I c r (w1 0)) := by
  rw [BI.bigSep_fin_two]; rfl

/-- The ring once its first windows are started, with what was lent. -/
theorem ring_start (c : Dev nD) (r : Fin 2) :
    iprop(Toks c r 0 1 ∗ bigSep Finset.univ (GR (F := F) c r 0) ∗ xH I c r 0 fullShare ∗ Toks c r 2 3 ∗ bigSep Finset.univ (SR I c r 0)
      ∗ pAny c r ∗ WinFam I c r ∗ Lent c r) ⊢ Ring I c r (atA 0) := by
  have h1 : iprop(Toks (F := F) c r 0 1 ∗ bigSep Finset.univ fun i : Fin 7 => xD c r i) ⊢ bigSep Finset.univ (GS c r 0 0) := by
    unfold Toks
    refine fam_pair.trans (bigSep_mono fun i _ => ?_)
    unfold GS
    rw [if_neg (Nat.not_lt_zero _), if_neg (Nat.not_lt_zero _)]
    refine (show iprop((atPos ER (cell c r 0 i) 0 ∅ 0 ∗ dutyTok ER (cell c r 0 i) 0 0 ∗ dutyTok ER (cell (tgt r c) r 1 i) 0 0) ∗ xD c r i) ⊢ _ from ?_)
    iintro ⟨⟨H1, H2, H3⟩, H4⟩
    isplitl [H1]; · iexact H1
    isplitl [H2]; · iexact H2
    isplitl [H3]; · iexact H3
    iexact H4
  have h4 : iprop(Toks (F := F) c r 2 3 ∗ bigSep Finset.univ fun i : Fin 7 => rD c r i) ⊢ bigSep Finset.univ (SS c r 0 0) := by
    unfold Toks
    refine fam_pair.trans (bigSep_mono fun i _ => ?_)
    unfold SS
    rw [if_neg (Nat.not_lt_zero _), if_neg (Nat.not_lt_zero _)]
    refine (show iprop((atPos ER (cell c r 2 i) 0 ∅ 0 ∗ dutyTok ER (cell c r 2 i) 0 0 ∗ dutyTok ER (cell (tgt r c) r 3 i) 0 0) ∗ rD c r i) ⊢ _ from ?_)
    iintro ⟨⟨H1, H2, H3⟩, H4⟩
    isplitl [H1]; · iexact H1
    isplitl [H2]; · iexact H2
    isplitl [H3]; · iexact H3
    iexact H4
  have h3 : xH I c r 0 fullShare ⊢ bigSep Finset.univ (XB I c r 0 0 0) := by
    rw [fin_split]
    have e0 : XB I c r 0 0 0 0 = xH I c r 0 fullShare := by
      unfold XB; rw [if_neg (by decide), if_neg (by decide), if_pos (by decide)]; rfl
    have e1 : (bigSep Finset.univ fun i : Fin 7 => XB I c r 0 0 0 i.succ) = (bigSep Finset.univ fun _ : Fin 7 => iprop(emp) : sProp (MM F)) :=
      bigSep_congr fun i _ => by unfold XB; rw [if_neg (by simp), if_neg (by simp), if_neg (by simp)]
    have e2 : (bigSep Finset.univ fun _ : Fin 7 => iprop(emp) : sProp (MM F)) = iprop(emp) := bigSep_emp_const _
    rw [e0, e1, e2]
    iintro H
    isplitl [H]; · iexact H
    iempintro
  have h6 : pAny (F := F) c r ⊢ bigSep Finset.univ (PB I c r 0 0 0 0) :=
    bigSep_mono fun i _ => by unfold PB; rw [if_pos (Nat.zero_le _)]; exact Idealize.SL.BI.Entails.refl _
  have h0 : Lent (F := F) c r ⊢ iprop((bigSep Finset.univ fun i : Fin 7 => xD c r i) ∗ bigSep Finset.univ fun i : Fin 7 => rD c r i) := fam_unpair
  unfold Ring
  iintro ⟨T1, H2, Hx, T2, H5, H6, H7, HL⟩
  ihave HL := h0 $$ HL
  icases HL with ⟨Lx, Lr⟩
  isplitl [T1 Lx]
  · iapply h1
    isplitl [T1]; · iexact T1
    iexact Lx
  isplitl [H2]; · iexact H2
  isplitl [Hx]; · iapply h3 $$ Hx
  isplitl [T2 Lr]
  · iapply h4
    isplitl [T2]; · iexact T2
    iexact Lr
  isplitl [H5]; · iexact H5
  isplitl [H6]; · iapply h6 $$ H6
  iapply (Entails.of_eq (winFam_eq I c r)) $$ H7

/-- The ring at the end. -/
theorem ring_end (c : Dev nD) (r : Fin 2) : Ring I c r (atE 7 7 7) ⊢ Fini I c r := by
  have hk (k : Fin 4) (Φ : Fin 7 → sProp (MM F)) (h : ∀ i, Φ i ⊢ atPos ER (cell c r k i) 1 ∅ 0) :
      bigSep Finset.univ Φ ⊢ bigSep Finset.univ fun i : Fin 7 => atPos ER (cell c r k i) 1 ∅ 0 := bigSep_mono fun i _ => h i
  have h0 := hk 0 (GS c r 7 7) fun i => by unfold GS; rw [if_pos i.isLt]
  have h1 := hk 1 (GR c r 7) fun i => by unfold GR; rw [if_pos i.isLt]
  have h2 := hk 2 (SS c r 7 7) fun i => by unfold SS; rw [if_pos i.isLt]
  have h3 : bigSep Finset.univ (SR I c r 7) ⊢ iprop((bigSep Finset.univ fun i : Fin 7 => atPos ER (cell c r 3 i) 1 ∅ 0) ∗ rAny c r) := by
    refine (bigSep_mono fun i _ => ?_).trans fam_unpair
    unfold SR rH
    rw [if_pos i.isLt]
    exact sep_mono_right (hold_any c (rr r) (rrR i) _)
  have hx : bigSep Finset.univ (XB I c r 7 7 7) ⊢ xAny c r := bigSep_mono fun i _ => by
    unfold XB
    have k := hold_any c (xf r) (bR (blk r i.val c)) (xV I r (blk r i.val c))
    by_cases hl : i.val < 7
    · rw [if_pos hl]; exact k
    · rw [if_neg hl, if_neg hl, if_pos (by omega)]; exact k
  have hp : bigSep Finset.univ (PB I c r 8 7 7 7) ⊢ pAny c r := bigSep_mono fun i _ => by
    unfold PB pH
    rw [if_neg (by omega)]
    by_cases h : i.val = 0
    · rw [if_pos h]; exact hold_any c (pa r) _ _
    · rw [if_neg h, if_pos (by omega)]; exact hold_any c (pa r) _ _
  have e : (bigSep Finset.univ fun p : Fin 4 × Fin 7 => atPos ER (cell c r p.1 p.2) 1 ∅ 0 : sProp (MM F))
      = iprop((bigSep Finset.univ fun i : Fin 7 => atPos ER (cell c r 0 i) 1 ∅ 0) ∗ (bigSep Finset.univ fun i : Fin 7 => atPos ER (cell c r 1 i) 1 ∅ 0)
        ∗ (bigSep Finset.univ fun i : Fin 7 => atPos ER (cell c r 2 i) 1 ∅ 0) ∗ bigSep Finset.univ fun i : Fin 7 => atPos ER (cell c r 3 i) 1 ∅ 0) := by
    rw [bigSep_univ_prod, fam4]
  unfold Ring Fini
  rw [e]
  refine (show iprop(bigSep Finset.univ (GS (F := F) c r 7 7) ∗ bigSep Finset.univ (GR (F := F) c r 7) ∗ bigSep Finset.univ (XB I c r 7 7 7)
    ∗ bigSep Finset.univ (SS (F := F) c r 7 7) ∗ bigSep Finset.univ (SR I c r 7) ∗ bigSep Finset.univ (PB I c r 8 7 7 7) ∗ Slots I c r) ⊢ _ from ?_)
  iintro ⟨H1, H2, H3, H4, H5, H6, H7⟩
  ihave H5 := h3 $$ H5
  icases H5 with ⟨H5, Hr⟩
  isplitl [H1 H2 H4 H5]
  · isplitl [H1]; · iapply h0 $$ H1
    isplitl [H2]; · iapply h1 $$ H2
    isplitl [H4]; · iapply h2 $$ H4
    iexact H5
  isplitl [H3]; · iapply hx $$ H3
  isplitl [Hr]; · iexact Hr
  isplitl [H6]; · iapply hp $$ H6
  iexact H7

/-- What the body starts from, and what it ends with, beside its operands. -/
def Start0 (c : Dev nD) : sProp (MM F) :=
  iprop((invs I K ∗ levAts L lv ∗ mine c ∗ reached ER (bar (src 0 c)) 0 ∗ reached ER (bar (src 1 c)) 0)
    ∗ (atPos ER (bar c) 0 ∅ 0 ∗ cred (tallyAt (bar c) () 2) ∗ dutyTok ER (bar (src 0 c)) 0 0 ∗ dutyTok ER (bar (src 1 c)) 0 1)
    ∗ Owing c 0 (fun _ => 0) (fun _ => 0) ∗ Init I c 0 ∗ Init I c 1)
def End0 (c : Dev nD) : sProp (MM F) :=
  iprop(invs I K ∗ atPos ER (bar c) 1 ∅ 0 ∗ Owing c 2 (fun _ => 7) (fun _ => 7) ∗ Fini I c 0 ∗ Fini I c 1)

theorem x_split (c : Dev nD) (r : Fin 2) : iprop(xAny (F := F) c r ∗ rAny c r) ⊢ iprop(holdAny c (xf r) (bR (blk r 0 c)) ∗ Lend c r) := by
  unfold xAny rAny Lend
  rw [fin_split]
  iintro ⟨⟨H0, H1⟩, H2⟩
  isplitl [H0]; · iexact H0
  iapply fam_pair
  isplitl [H1]; · iexact H1
  iexact H2

theorem setup_tr (c : Dev nD) (Z : sProp (MM F)) :
    Tr c iprop(Opnd c X (I.x c) ∗ (Opnd c Wq (I.wq c) ∗ Opnd c Wo (I.wo c) ∗ Z) ∗ Start0 I K c) (setup X c)
      iprop(Both I K iprop(Z ∗ Opnd c X (I.x c) ∗ atPos ER (bar c) 1 ∅ 0) Wq Wo c (atA 0)) := by
  have hw (r : Fin 2) : Tr c iprop(Idle I c r 0 0 ∗ Idle I c r 1 0) (winStart c r 0) iprop(Fly I c r 0 0 ∗ Fly I c r 1 0) := winStart_op I c r 0
  unfold Tr setup Start0 Init
  iintro ⟨HX, HZ, HK, HB, HO, ⟨A1, A2, Ax, A3, A4, Ar, Ap, As⟩, ⟨B1, B2, Bx, B3, B4, Br, Bp, Bs⟩⟩
  ihave Ax := (x_split (F := F) c 0) $$ [Ax Ar]
  · isplitl [Ax]; · iexact Ax
    iexact Ar
  ihave Bx := (x_split (F := F) c 1) $$ [Bx Br]
  · isplitl [Bx]; · iexact Bx
    iexact Br
  icases Ax with ⟨Ax, Al⟩
  icases Bx with ⟨Bx, Bl⟩
  iapply bind_wp
  iapply (Tr.use (stage_op I X c 0)) $$ [HX Ax]
  · isplitl [HX]; · iexact HX
    iexact Ax
  iintro ⟨HX, Ax⟩
  iapply bind_wp
  iapply (Tr.use (stage_op I X c 1)) $$ [HX Bx]
  · isplitl [HX]; · iexact HX
    iexact Bx
  iintro ⟨HX, Bx⟩
  iapply bind_wp
  ihave As := (Entails.of_eq (slots_eq I c 0)) $$ As
  ihave Bs := (Entails.of_eq (slots_eq I c 1)) $$ Bs
  icases As with ⟨As, As'⟩
  icases Bs with ⟨Bs, Bs'⟩
  iapply (Tr.use (hw 0)) $$ As
  iintro As
  iapply bind_wp
  iapply (Tr.use (hw 1)) $$ Bs
  iintro Bs
  iapply (Tr.use (meet_op I K c (fun _ => 0) (fun _ => 0))) $$ [HK HB Al Bl HO]
  · isplitl [HK]; · iexact HK
    isplitl [HB]; · iexact HB
    isplitl [Al Bl]
    · isplitl [Al]; · iexact Al
      iexact Bl
    iexact HO
  iintro ⟨HC, Ha, ⟨Al, Bl⟩, HO⟩
  unfold Both St
  isplitl [HC]; · iexact HC
  isplitl [HO]; · iexact HO
  isplitl [HZ HX Ha]
  · icases HZ with ⟨H1, H2, HZ⟩
    isplitl [H1]; · iexact H1
    isplitl [H2]; · iexact H2
    isplitl [HZ]; · iexact HZ
    isplitl [HX]; · iexact HX
    iexact Ha
  isplitl [A1 A2 Ax A3 A4 Ap As As' Al]
  · iapply (ring_start I c 0)
    isplitl [A1]; · iexact A1
    isplitl [A2]; · iexact A2
    isplitl [Ax]; · iexact Ax
    isplitl [A3]; · iexact A3
    isplitl [A4]; · iexact A4
    isplitl [Ap]; · iexact Ap
    isplitl [As As']
    · unfold WinFam
      isplitl [As]; · iexact As
      iexact As'
    iexact Al
  iapply (ring_start I c 1)
  isplitl [B1]; · iexact B1
  isplitl [B2]; · iexact B2
  isplitl [Bx]; · iexact Bx
  isplitl [B3]; · iexact B3
  isplitl [B4]; · iexact B4
  isplitl [Bp]; · iexact Bp
  isplitl [Bs Bs']
  · unfold WinFam
    isplitl [Bs]; · iexact Bs
    iexact Bs'
  iexact Bl

theorem bodyOn_tr (c : Dev nD) :
    Tr c iprop(Opnd c X (I.x c) ∗ (Opnd c Wq (I.wq c) ∗ Opnd c Wo (I.wo c) ∗ OpndAny c O) ∗ Start0 I K c) (bodyOn X Wq Wo O c)
      iprop(Opnd c X (I.x c) ∗ (Opnd c Wq (I.wq c) ∗ Opnd c Wo (I.wo c) ∗ Opnd c O (outV I c)) ∗ End0 I K c) := by
  unfold bodyOn
  refine ((setup_tr I K X Wq Wo c (OpndAny c O)).seq <| (steps_tr I K _ Wq Wo c).seq <| (finish_tr I K _ Wq Wo c O).seq
    (drain_tr I K _ Wq Wo c)).conseq (Entails.rfl) ?_
  unfold Both St End0 Ctx
  iintro ⟨⟨HI, -, -, -⟩, HO, ⟨H1, H2, H3, HX, Ha⟩, R0, R1⟩
  isplitl [HX]; · iexact HX
  isplitl [H1 H2 H3]
  · isplitl [H1]; · iexact H1
    isplitl [H2]; · iexact H2
    iexact H3
  isplitl [HI]; · iexact HI
  isplitl [Ha]; · iexact Ha
  isplitl [HO]; · iexact HO
  isplitl [R0]; · iapply (ring_end I c 0) $$ R0
  iapply (ring_end I c 1) $$ R1

end Cert.KernelIdeal.Run

end
-- ==== Proof.Bufs.lean ====
/- The buffers the launch hands over whole, as the blocks, slots and shares the body works with, and back. -/
module

public import proofs.«01_k».proof.Proof.Whole
public import Idealize.ShloMosaic.Lib.Ring

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts Idealize.ShloMosaic.Ring

variable {F : FTy → Type} [FloatOps F] [Named F] (I : Ins F)

/-- Two families over a pair of indices, in either order. -/
theorem fam_comm {A B : Type} [Fintype A] [Fintype B] (Φ : A → B → sProp (MM F)) :
    (bigSep Finset.univ fun a => bigSep Finset.univ fun b => Φ a b) = bigSep Finset.univ fun b => bigSep Finset.univ fun a => Φ a b := by
  rw [← bigSep_univ_prod (fun p : A × B => Φ p.1 p.2), bigSep_univ_equiv (Equiv.prodComm B A), bigSep_univ_prod]
  rfl

/-! ## Blocks -/

/-- Device `c` holds all of `M`, at whatever contents. -/
def wholeAny {sp : Space} {s : Shape} {e : EltTy} (c : Dev nD) (M : Memref sig .tc sp s e) : sProp (MM F) :=
  iprop(∃ f, M.view.loc (c : Thread nD τ) ↦[Finset.univ]{fullShare} f)

/-- A whole buffer is its blocks, any rectangles that are disjoint and cover it. -/
theorem blocks_any {sp : Space} {s : Shape} {e : EltTy} {J : Type} [Fintype J] [DecidableEq J] (c : Dev nD) (M : Memref sig .tc sp s e)
    (hM : M.view.set = Finset.univ) (R : J → Rect s) (hd : ∀ b b', b ≠ b' → Disjoint (R b).set (R b').set)
    (hc : (Finset.univ : Finset J).biUnion (fun b => (R b).set) = Finset.univ) :
    wholeAny (F := F) c M = bigSep Finset.univ fun b => holdAny c M (R b) := by
  have hd' : ∀ b b', b ≠ b' → Disjoint (M.access (R b)).set (M.access (R b')).set := by
    intro b b' h
    rw [Finset.disjoint_left]
    intro x hx hx'
    obtain ⟨y, -, rfl⟩ := Finset.mem_map.mp hx
    obtain ⟨z, -, ez⟩ := Finset.mem_map.mp hx'
    have e1 : (R b').idx z = (R b).idx y := M.view.emb.injective ez
    exact Finset.disjoint_left.mp (hd b b' h) ((R b).idx_mem y) (e1 ▸ (R b').idx_mem z)
  have hc' : (Finset.univ : Finset J).biUnion (fun b => (M.access (R b)).set) = (Finset.univ : Finset M.view.ty.Idx) := by
    ext i
    simp only [Finset.mem_univ, iff_true]
    obtain ⟨x, -, rfl⟩ := Finset.mem_map.mp (hM.symm ▸ Finset.mem_univ i : i ∈ M.view.set)
    obtain ⟨b, hb, hx⟩ := Finset.mem_biUnion.mp (hc.symm ▸ Finset.mem_univ x : x ∈ (Finset.univ : Finset J).biUnion fun b => (R b).set)
    obtain ⟨y, rfl⟩ := (R b).exists_idx_of_mem hx
    exact Finset.mem_biUnion.mpr ⟨b, Finset.mem_univ _, Finset.mem_map.mpr ⟨y, Finset.mem_univ _, rfl⟩⟩
  refine BI.Entails.antisymm (show wholeAny (F := F) c M ⊢ bigSep Finset.univ fun b => holdAny c M (R b) from ?_) ?_
  · unfold wholeAny
    have h1 (f : Buf (Elt F) (M.view.loc (c : Thread nD τ))) (b : J) :
        (M.view.loc (c : Thread nD τ) ↦[(M.access (R b)).set]{fullShare} f : sProp (MM F)) ⊢ holdAny c M (R b) := by
      unfold holdAny; iintro H; iexists f; iexact H
    iintro ⟨%f, H⟩
    ihave H := (Entails.of_eq (pointsTo_blocks (ℓ := M.view.loc (c : Thread nD τ)) (fun b => (M.access (R b)).set) hd' hc' f)) $$ H
    iapply (show (bigSep Finset.univ fun b => (M.view.loc (c : Thread nD τ) ↦[(M.access (R b)).set]{fullShare} f : sProp (MM F))) ⊢ _ from
      bigSep_mono fun b _ => h1 f b) $$ H
  · exact pointsTo_blocks_join_exists (ℓ := M.view.loc (c : Thread nD τ)) (fun b => (M.access (R b)).set) hd' hc' (M.view.rep fun _ => Classical.arbitrary _)

section Three
variable {s : Shape} {n : ℕ}

/-- Blocks one row deep along the first of three axes are disjoint, and cover. -/
theorem lead3 {A p q : ℕ} (inb : ∀ b : Fin n, ∀ a, (![b.val, 0, 0] : Fin 3 → ℕ) a + (⟨3, ![1, p, q]⟩ : Shape).size a ≤ (⟨3, ![A, p, q]⟩ : Shape).size a) (hn : n = A) :
    (∀ b b' : Fin n, b ≠ b' → Disjoint (Rect.unit (s := ⟨3, ![A, p, q]⟩) ![b.val, 0, 0] (⟨3, ![1, p, q]⟩ : Shape).size (inb b)).set
        (Rect.unit (s := ⟨3, ![A, p, q]⟩) ![b'.val, 0, 0] (⟨3, ![1, p, q]⟩ : Shape).size (inb b')).set)
      ∧ (Finset.univ : Finset (Fin n)).biUnion (fun b => (Rect.unit (s := ⟨3, ![A, p, q]⟩) ![b.val, 0, 0] (⟨3, ![1, p, q]⟩ : Shape).size (inb b)).set) = Finset.univ := by
  have h0 : ∀ b : Fin n, (![b.val, 0, 0] : Fin 3 → ℕ) 0 = 1 * b.val := fun b => (Nat.one_mul _).symm
  have h1 : ∀ (b : Fin n) (a : Fin 3), a ≠ 0 → (![b.val, 0, 0] : Fin 3 → ℕ) a = 0 := fun b a h => by fin_cases a <;> first | exact absurd rfl h | rfl
  have h2 : ∀ a : Fin 3, a ≠ 0 → (⟨3, ![1, p, q]⟩ : Shape).size a = (⟨3, ![A, p, q]⟩ : Shape).size a := fun a h => by
    fin_cases a <;> first | exact absurd rfl h | rfl
  exact ⟨lead_disjoint (s := ⟨3, ![A, p, q]⟩) (0 : Fin 3) 1 (fun b : Fin n => ![b.val, 0, 0]) (⟨3, ![1, p, q]⟩ : Shape).size inb h0 rfl,
    lead_cover (s := ⟨3, ![A, p, q]⟩) (0 : Fin 3) 1 (fun b : Fin n => ![b.val, 0, 0]) (⟨3, ![1, p, q]⟩ : Shape).size inb h0 h1 rfl h2 (by rw [hn]; exact Nat.mul_one _)⟩

end Three

/-- The blocks by distance are all the blocks. -/
theorem blk_inj : ∀ (r : Fin 2) (c : Dev nD) (d d' : Fin 8), blk r d.val c = blk r d'.val c → d = d' := by decide +kernel
def blkE (r : Fin 2) (c : Dev nD) : Fin 8 ≃ Fin 8 :=
  Equiv.ofBijective (fun d => blk r d.val c) (Finite.injective_iff_bijective.mp fun d d' h => blk_inj r c d d' h)

theorem dist_any (c : Dev nD) (r : Fin 2) (M : Memref sig .tc .vmem S8x128x1024 .bf16) (hM : M.view.set = Finset.univ) :
    wholeAny (F := F) c M = bigSep Finset.univ fun d : Fin 8 => holdAny c M (bR (blk r d.val c)) := by
  have h := lead3 (n := 8) (A := 8) (p := 128) (q := 1024) inb8 rfl
  rw [blocks_any c M hM (fun b : Fin 8 => bR b) h.1 h.2]
  exact bigSep_univ_equiv (blkE r c) fun b => holdAny (F := F) c M (bR b)

theorem xAny_eq (c : Dev nD) (r : Fin 2) : wholeAny (F := F) c (xf r) = xAny c r := dist_any c r _ (xf_whole r).set_eq_univ
theorem pAny_eq (c : Dev nD) (r : Fin 2) : wholeAny (F := F) c (pa r) = pAny c r := dist_any c r _ (pa_whole r).set_eq_univ
theorem rAny_eq (c : Dev nD) (r : Fin 2) : wholeAny (F := F) c (rr r) = rAny c r := by
  have h := lead3 (n := 7) (A := 7) (p := 128) (q := 1024) rr_inb rfl
  exact blocks_any c (rr r) (rr_whole r).set_eq_univ (fun i : Fin 7 => rrR i) h.1 h.2
theorem wAny_eq (c : Dev nD) (r kv : Fin 2) : wholeAny (F := F) c (wb r kv) = bigSep Finset.univ fun i : Fin 2 => holdAny c (wb r kv) (wbR i) := by
  have h := lead3 (n := 2) (A := 2) (p := 384) (q := 1024) wbw_inb rfl
  exact blocks_any c (wb r kv) (wb_whole r kv).set_eq_univ (fun i : Fin 2 => wbR i) h.1 h.2

/-! ## Shares of the keys and values -/

def leafE : Fin 2 × Fin 2 × Fin 8 ≃ Fin (2 ^ 5) :=
  Equiv.ofBijective (fun p => ⟨p.1.val * 16 + p.2.1.val * 8 + p.2.2.val, by
    have := p.1.isLt; have := p.2.1.isLt; have := p.2.2.isLt; show _ < 32; omega⟩) (by decide +kernel)

/-- The keys or the values, whole. -/
def kvPts (c : Dev nD) (kv : Fin 2) : sProp (MM F) :=
  (hb kv).view.loc (c : Thread nD τ) ↦[Finset.univ]{fullShare} (kvC I kv c : Buf (Elt F) ((hb kv).view.loc (c : Thread nD τ)))
theorem kvPts_eq (c : Dev nD) (kv : Fin 2) :
    kvPts I c kv = bigSep Finset.univ fun p : Fin 2 × Fin 2 => bigSep Finset.univ fun g : Fin 8 => lent I c p.1 kv p.2 g := by
  unfold kvPts
  rw [ShareLeaves.pointsTo_leaves _ _ 5 fullShare, bigSep_univ_equiv leafE]
  rw [bigSep_univ_prod, bigSep_univ_prod (α := Fin 2) (β := Fin 2)]
  refine bigSep_congr fun r _ => ?_
  rw [bigSep_univ_prod]
  rfl

/-! ## The window slots -/

/-- The semaphores of the window copies, at zero. -/
def wsem0 (c : Dev nD) : sProp (MM F) :=
  bigSep Finset.univ fun p : Fin 2 × Fin 2 × Fin 2 => semVal ((c : Thread nD τ), .dma (wsem p.1 p.2.1 p.2.2)) 0

/-- The window buffers, their semaphores, the keys and the values are both rings' slots at rest. -/
theorem slots_all (c : Dev nD) :
    iprop((bigSep Finset.univ fun p : Fin 2 × Fin 2 => wholeAny (F := F) c (wb p.1 p.2)) ∗ wsem0 c ∗ bigSep Finset.univ fun kv => kvPts I c kv)
      = iprop(Slots I c 0 ∗ Slots I c 1) := by
  have e1 : iprop(Slots I c 0 ∗ Slots I c 1) = bigSep Finset.univ fun r : Fin 2 => bigSep Finset.univ fun i : Fin 2 => bigSep Finset.univ fun kv : Fin 2 => Idle I c r kv i := by
    rw [BI.bigSep_fin_two]
    unfold Slots
    simp only [BI.bigSep_fin_two]
    rfl
  have e2 : (bigSep Finset.univ fun p : Fin 2 × Fin 2 => wholeAny (F := F) c (wb p.1 p.2))
      = bigSep Finset.univ fun r : Fin 2 => bigSep Finset.univ fun kv : Fin 2 => bigSep Finset.univ fun i : Fin 2 => holdAny c (wb r kv) (wbR i) := by
    rw [bigSep_univ_prod]; simp only [wAny_eq]
  have e3 : wsem0 (F := F) c
      = bigSep Finset.univ fun r : Fin 2 => bigSep Finset.univ fun kv : Fin 2 => bigSep Finset.univ fun i : Fin 2 => semVal ((c : Thread nD τ), .dma (wsem r kv i)) 0 := by
    unfold wsem0
    rw [bigSep_univ_prod]; simp only [bigSep_univ_prod]
  have e4 : (bigSep Finset.univ fun kv => kvPts I c kv)
      = bigSep Finset.univ fun r : Fin 2 => bigSep Finset.univ fun kv : Fin 2 => bigSep Finset.univ fun i : Fin 2 => bigSep Finset.univ fun g : Fin 8 => lent I c r kv i g := by
    simp only [kvPts_eq, bigSep_univ_prod]
    exact fam_comm _
  rw [e1, e2, e3, e4, ← bigSep_sep', ← bigSep_sep']
  refine bigSep_congr fun r _ => ?_
  rw [← bigSep_sep', ← bigSep_sep', fam_comm]
  refine bigSep_congr fun kv _ => ?_
  rw [← bigSep_sep', ← bigSep_sep']
  rfl

end Cert.KernelIdeal.Run

end
-- ==== Proof.Cells.lean ====
/- The cells of the exchange opened at the start of the body and closed at its end, and what a device holds of them. -/
module

public import proofs.«01_k».proof.Proof.Bufs

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts Idealize.ShloMosaic.Ring

variable {F : FTy → Type} [FloatOps F] [Named F] (I : Ins F)

variable (K : GSem nD τ sig → ℕ)

/-! ## A device's own cells -/

/-- A holding for each of a device's cells. -/
def Each (Φ : Fin 2 → Fin 4 → Fin 7 → sProp (MM F)) : sProp (MM F) :=
  bigSep Finset.univ fun p : Fin 2 × Fin 4 × Fin 7 => Φ p.1 p.2.1 p.2.2

theorem each_eq (Φ : Fin 2 → Fin 4 → Fin 7 → sProp (MM F)) :
    Each Φ = iprop((bigSep Finset.univ fun p : Fin 4 × Fin 7 => Φ 0 p.1 p.2) ∗ bigSep Finset.univ fun p : Fin 4 × Fin 7 => Φ 1 p.1 p.2) := by
  unfold Each
  rw [bigSep_univ_prod, BI.bigSep_fin_two]
  rfl
theorem ring_eq (Φ : Fin 4 → Fin 7 → sProp (MM F)) : (bigSep Finset.univ fun p : Fin 4 × Fin 7 => Φ p.1 p.2)
    = iprop((bigSep Finset.univ (Φ 0)) ∗ (bigSep Finset.univ (Φ 1)) ∗ (bigSep Finset.univ (Φ 2)) ∗ bigSep Finset.univ (Φ 3)) := by
  rw [bigSep_univ_prod, fam4]

theorem open_all (c : Dev nD) : iprop(invs I K ∗ Each (fun r k i => openTok ER (cell c r k i)) ∗ Each (fun r k i => semVal (cell c r k i) 0))
    ⊢ iprop(|={Set.univ}=> (Each (fun r k i => atPos ER (cell c r k i) 0 ∅ 0) ∗ mine (F := F) c)) := by
  have h : ∀ p : Fin 2 × Fin 4 × Fin 7, iprop(invs I K ∗ openTok ER (cell c p.1 p.2.1 p.2.2) ∗ semVal (cell c p.1 p.2.1 p.2.2) 0)
      ⊢ iprop(|={Set.univ}=> (atPos ER (cell c p.1 p.2.1 p.2.2) 0 ∅ 0 ∗ reached ER (cell c p.1 p.2.1 p.2.2) 0)) := by
    intro p
    iintro ⟨Hi, Ho, Hs⟩
    iapply (cell_open ER (sched I) (g := cell c p.1 p.2.1 p.2.2) (Set.mem_univ (K (cell c p.1 p.2.1 p.2.2))))
    isplitl [Hi]; · iapply (invs_cell I K c p.1 p.2.1 p.2.2) $$ Hi
    isplitl [Ho] <;> iassumption
  unfold Each mine
  iintro ⟨Hi, Ho, Hs⟩
  ihave H := fam_pair $$ [Ho Hs]
  · isplitl [Ho] <;> iassumption
  ihave H := (bigSep_with_persistent (R := invs I K) (S := Finset.univ) fun p _ => h p) $$ [Hi H]
  · isplitl [Hi] <;> iassumption
  imod (bigSep_fupd (Finset.univ : Finset (Fin 2 × Fin 4 × Fin 7)) fun p => iprop(atPos ER (cell c p.1 p.2.1 p.2.2) 0 ∅ 0 ∗ reached ER (cell c p.1 p.2.1 p.2.2) 0)) $$ H with H
  ihave H := fam_unpair $$ H
  imodintro
  iexact H

theorem close_all (c : Dev nD) : iprop(invs I K ∗ atPos ER (bar c) 1 ∅ 0 ∗ Each (fun r k i => atPos ER (cell c r k i) 1 ∅ 0))
    ⊢ iprop(|={Set.univ}=> (semVal (bar c) 0 ∗ Each (F := F) (fun r k i => semVal (cell c r k i) 0))) := by
  have h : ∀ p : Fin 2 × Fin 4 × Fin 7, iprop(invs I K ∗ atPos ER (cell c p.1 p.2.1 p.2.2) 1 ∅ 0)
      ⊢ iprop(|={Set.univ}=> semVal (cell c p.1 p.2.1 p.2.2) 0) := by
    intro p
    iintro ⟨Hi, Ha⟩
    iapply (cell_close ER (sched I) (Set.mem_univ (K (cell c p.1 p.2.1 p.2.2))) id (R := 1) (duties_later I _))
    isplitl [Hi]; · iapply (invs_cell I K c p.1 p.2.1 p.2.2) $$ Hi
    iexact Ha
  unfold Each
  iintro ⟨#Hi, Hb, Ha⟩
  imod (cell_close ER (sched I) (Set.mem_univ (K (bar c))) id (R := 1) (duties_later I _)) $$ [Hb] with Hb
  · isplitr; · iapply (invs_bar I K c); iexact Hi
    iexact Hb
  ihave H := (bigSep_with_persistent (R := invs I K) (S := Finset.univ) fun p _ => h p) $$ [Ha]
  · isplitr; · iexact Hi
    iexact Ha
  imod (bigSep_fupd (Finset.univ : Finset (Fin 2 × Fin 4 × Fin 7)) fun p => iprop(semVal (cell c p.1 p.2.1 p.2.2) 0)) $$ H with H
  imodintro
  isplitl [Hb] <;> iassumption

/-! ## What a ring starts from -/

/-- The tokens of the ring's copies: of the send cells' and of the neighbour's receive cells. -/
def PayToks (c : Dev nD) (r : Fin 2) : sProp (MM F) :=
  iprop((bigSep Finset.univ fun i : Fin 7 => dutyTok ER (cell c r 0 i) 0 0) ∗ (bigSep Finset.univ fun i : Fin 7 => dutyTok ER (cell (tgt r c) r 1 i) 0 0)
    ∗ (bigSep Finset.univ fun i : Fin 7 => dutyTok ER (cell c r 2 i) 0 0) ∗ bigSep Finset.univ fun i : Fin 7 => dutyTok ER (cell (tgt r c) r 3 i) 0 0)
/-- What is owed to the ring's receive cells. -/
def Creds (c : Dev nD) (r : Fin 2) : sProp (MM F) :=
  iprop((bigSep Finset.univ fun i : Fin 7 => cred (tallyAt (cell c r 1 i) () N)) ∗ bigSep Finset.univ fun i : Fin 7 => cred (tallyAt (cell c r 3 i) () N))
/-- The positions, tokens and credits of a ring at the start. -/
def Ghost (c : Dev nD) (r : Fin 2) : sProp (MM F) :=
  iprop(Toks c r 0 1 ∗ bigSep Finset.univ (GR (F := F) c r 0) ∗ Toks c r 2 3 ∗ bigSep Finset.univ (SR I c r 0))

theorem ghost_ring (c : Dev nD) (r : Fin 2) :
    iprop((bigSep Finset.univ fun p : Fin 4 × Fin 7 => atPos ER (cell c r p.1 p.2) 0 ∅ 0) ∗ PayToks c r ∗ Creds c r) ⊢ Ghost I c r := by
  have e1 : bigSep Finset.univ (GR (F := F) c r 0) = bigSep Finset.univ fun i : Fin 7 => iprop(atPos ER (cell c r 1 i) 0 ∅ 0 ∗ cred (tallyAt (cell c r 1 i) () N)) :=
    bigSep_congr fun i _ => if_neg (Nat.not_lt_zero _)
  have e2 : bigSep Finset.univ (SR I c r 0) = bigSep Finset.univ fun i : Fin 7 => iprop(atPos ER (cell c r 3 i) 0 ∅ 0 ∗ cred (tallyAt (cell c r 3 i) () N)) :=
    bigSep_congr fun i _ => if_neg (Nat.not_lt_zero _)
  unfold PayToks Creds Ghost Toks
  rw [ring_eq fun k i => atPos ER (cell c r k i) 0 ∅ 0, e1, e2]
  iintro ⟨⟨A0, A1, A2, A3⟩, ⟨T0, T1, T2, T3⟩, C1, C3⟩
  isplitl [A0 T0 T1]
  · iapply fam_pair; isplitl [A0]; · iexact A0
    iapply fam_pair; isplitl [T0] <;> iassumption
  isplitl [A1 C1]
  · iapply fam_pair; isplitl [A1] <;> iassumption
  isplitl [A2 T2 T3]
  · iapply fam_pair; isplitl [A2]; · iexact A2
    iapply fam_pair; isplitl [T2] <;> iassumption
  · iapply fam_pair; isplitl [A3] <;> iassumption

/-! ## What the launch keeps for a device, and what the body opens it to -/

/-- The tokens of the barrier's signals and of the copies, the position at the barrier, the rights to open. -/
def linear (c : Dev nD) : sProp (MM F) :=
  iprop(atPos ER (bar c) 0 ∅ 0 ∗ Each (fun r k i => openTok ER (cell c r k i))
    ∗ (dutyTok ER (bar (src 0 c)) 0 0 ∗ dutyTok ER (bar (src 1 c)) 0 1) ∗ PayToks c 0 ∗ PayToks c 1)
/-- What is owed to the device. -/
def creds (c : Dev nD) : sProp (MM F) := iprop(cred (tallyAt (bar c) () 2) ∗ Creds c 0 ∗ Creds c 1)
/-- The invariants, and both neighbours' barriers at the first round. -/
def shared (c : Dev nD) : sProp (MM F) := iprop(invs I K ∗ reached ER (bar (src 0 c)) 0 ∗ reached ER (bar (src 1 c)) 0)

def Tk (c : Dev nD) : sProp (MM F) := iprop((∃ K, shared I K c ∗ linear c) ∗ creds c)

def Xk (c : Dev nD) : sProp (MM F) :=
  iprop(∃ K, (invs I K ∗ levAts L lv ∗ mine c ∗ reached ER (bar (src 0 c)) 0 ∗ reached ER (bar (src 1 c)) 0)
    ∗ (atPos ER (bar c) 0 ∅ 0 ∗ cred (tallyAt (bar c) () 2) ∗ dutyTok ER (bar (src 0 c)) 0 0 ∗ dutyTok ER (bar (src 1 c)) 0 1)
    ∗ (Ghost I c 0 ∗ Ghost I c 1) ∗ wsem0 c)

/-- The kernel's own semaphores. -/
abbrev Own : Type := (Fin 2 × Fin 4 × Fin 7) ⊕ (Fin 2 × Fin 2 × Fin 2)
def osem : Own → SemLoc sig := Sum.elim (fun p => .dma (rsem p.1 p.2.1 p.2.2)) (fun p => .dma (wsem p.1 p.2.1 p.2.2))
theorem osem_facts : Pipeline.OwnSemFacts spec0 osem := by decide +kernel

theorem own_eq (c : Dev nD) : (Pipeline.ownSems0 osem c : sProp (MM F)) = iprop(Each (fun r k i => semVal (cell c r k i) 0) ∗ wsem0 c) := by
  unfold Pipeline.ownSems0 Each wsem0
  rw [bigSep_univ_sum]
  rfl

theorem opens (c : Dev nD) : iprop(Tk I c ∗ Pipeline.ownSems0 osem c ∗ levAts L lv) ⊢ iprop(|={Set.univ}=> Xk I c) := by
  rw [own_eq]
  unfold Tk Xk shared linear creds
  iintro ⟨⟨⟨%K, ⟨#Hi, #Hr0, #Hr1⟩, Hb, Ho, ⟨T0, T1⟩, P0, P1⟩, Cb, C0, C1⟩, ⟨Hs, Hw⟩, #Hl⟩
  imod (open_all I K c) $$ [Ho Hs] with ⟨Ha, #Hm⟩
  · isplitr; · iexact Hi
    isplitl [Ho] <;> iassumption
  ihave Ha := (Entails.of_eq (each_eq fun r k i => atPos ER (cell c r k i) 0 ∅ 0)) $$ Ha
  icases Ha with ⟨A0, A1⟩
  imodintro
  iexists K
  isplitr
  · isplitr; · iexact Hi
    isplitr; · iexact Hl
    isplitr; · iexact Hm
    isplitr; · iexact Hr0
    iexact Hr1
  isplitl [Hb Cb T0 T1]
  · isplitl [Hb]; · iexact Hb
    isplitl [Cb]; · iexact Cb
    isplitl [T0] <;> iassumption
  isplitr [Hw]
  · isplitl [A0 P0 C0]
    · iapply (ghost_ring I c 0); isplitl [A0]; · iexact A0
      isplitl [P0] <;> iassumption
    · iapply (ghost_ring I c 1); isplitl [A1]; · iexact A1
      isplitl [P1] <;> iassumption
  iexact Hw

/-! ## What is owed, at the start and at the end -/

abbrev O₀ (c : Dev nD) : CellTallies nD τ sig Unit := due c 0 (fun _ => 0) (fun _ => 0)
theorem due_end (c : Dev nD) : due c 2 (fun _ => 7) (fun _ => 7) = 0 := by
  have h : ∀ k : Fin 4, dueK c k (fun _ => 7) = 0 := by
    intro k
    unfold dueK
    refine Finset.sum_eq_zero fun ri h => ?_
    have h7 : 7 ≤ ri.2.val := (Finset.mem_filter.mp h).2
    exact absurd ri.2.isLt (by omega)
  unfold due dueB
  rw [h 1, h 3, if_neg (by decide), if_neg (by decide)]
  simp

/-- Whatever is owed is owed to cells above the ground level. -/
theorem due_pos (c : Dev nD) (g : GSem nD τ sig) (u : Unit) (h : 0 < O₀ c g u) : u ∈ L g ∧ 0 < lv g u := by
  have sumcase : ∀ k : Fin 4, k = 1 ∨ k = 3 → 0 < (dueK c k fun _ => 0) g u → u ∈ L g ∧ 0 < lv g u := by
    intro k hk hp
    unfold dueK at hp
    rw [Finset.sum_apply, Finsupp.finsetSum_apply] at hp
    obtain ⟨⟨r, i⟩, hm, hne⟩ := Finset.exists_ne_zero_of_sum_ne_zero hp.ne'
    rw [tallyAt_apply] at hne
    by_cases e : g = cell (tgt r c) r k i ∧ u = ()
    · rw [e.1]
      refine ⟨by rw [L_tc]; exact Finset.mem_singleton_self _, ?_⟩
      show 0 < lvS (.dma (rsem r k i))
      have := lvS_rsem r i
      rcases hk with rfl | rfl
      · rw [this.2.1]; omega
      · rw [this.2.2.2]; omega
    · exact absurd (if_neg e) hne
  have barcase : ∀ d : Dev nD, 0 < (tallyAt (bar d) () 1 : CellTallies nD τ sig Unit) g u → u ∈ L g ∧ 0 < lv g u := by
    intro d hp
    rw [tallyAt_apply] at hp
    by_cases e : g = bar d ∧ u = ()
    · rw [e.1]
      exact ⟨by rw [L_tc]; exact Finset.mem_singleton_self _, Nat.one_pos⟩
    · rw [if_neg e] at hp; exact absurd hp (Nat.lt_irrefl 0)
  unfold O₀ due dueB at h
  rw [if_pos (by decide), if_pos (by decide), Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · exact barcase _ h
    · exact barcase _ h
  · rcases Nat.add_pos_iff_pos_or_pos.mp h with h | h
    · exact sumcase 1 (.inl rfl) h
    · exact sumcase 3 (.inr rfl) h

end Cert.KernelIdeal.Run

end
-- ==== Proof.BodyEq.lean ====
/- The body as restated is the printed body. -/
module

public import proofs.«01_k».proof.Proof.Body

@[expose] public section

noncomputable section

namespace Cert.KernelIdeal.Run

open Idealize.ShloMosaic Idealize.ShloMosaic.TcCoe
open Idealize.SL Idealize.SL.Sem
open Cert.KernelIdeal Cert.KernelIdeal.Gen

variable {F : FTy → Type} [FloatOps F] [Named F]

set_option maxRecDepth 65536 in
theorem bodyAt0_eq (t : Fin cfg0.N) : Gen.bodyAt0 (F := F) t = body (win0_0.stage (cfg0.slots t 0)) (win0_1.stage (cfg0.slots t 1))
    (win0_2.stage (cfg0.slots t 2)) (win0_3.stage (cfg0.slots t 3)) := by
  chain_rfl

end Cert.KernelIdeal.Run

end
-- ==== Proof.Region.lean ====
/- The call as one region of the program: what enters it, what leaves it, and its body as the device runs it. -/
module

public import proofs.«01_k».proof.Proof.Cells
public import proofs.«01_k».proof.Proof.BodyEq
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts Idealize.ShloMosaic.Ring

variable {F : FTy → Type} [FloatOps F] [Named F] (m : (ℓ : Loc nD τ sig) → Buf (Elt F) ℓ)

/-! ## Buffers -/

theorem rest_eq (c : Dev nD) : (Pipeline.scopedRest (Ix := Unit) (Name := ℕ) (U := UU) (Lvl := ℕ) (Val := Elt F) spec0 c : sProp (MM F))
    = iprop(wholeAny c (xf 0) ∗ wholeAny c (xf 1) ∗ wholeAny c (pa 0) ∗ wholeAny c (pa 1) ∗ wholeAny c (rr 0) ∗ wholeAny c (rr 1)
      ∗ wholeAny c (wb 0 0) ∗ wholeAny c (wb 0 1) ∗ wholeAny c (wb 1 0) ∗ wholeAny c (wb 1 1)) := by
  rw [Gen.scopedRest0_eq]
  rfl

/-- What the call works on. -/
def ins : Ins F where
  x := fun c => Gen.V1 m c main_v7
  wq := fun c => Gen.V1 m c main_v10
  wo := fun c => Gen.V1 m c main_v11
  kv := fun kv c => match kv with
    | 0 => Gen.V1 m c main_v12
    | 1 => Gen.V1 m c main_v13

/-- The buffers once the call is over: the result is in. -/
def Vend (c : Dev nD) : Valuation τ sig (Elt F) :=
  Function.update (Gen.V1 m c) (Proc.devRef .tc main_v14) (outV (ins m) c : (Proc.devRef (τ := τ) .tc main_v14).ty.Contents (Elt F))

/-- The keys' and the values' buffers. -/
def Hs : Finset (DevRef τ sig) := {Proc.devRef .tc main_v12, Proc.devRef .tc main_v13}

theorem held_Hs (c : Dev nD) : (StableHlo.held (c : Thread nD τ) Hs (Gen.V1 m c) : sProp (MM F)) = bigSep Finset.univ fun kv => kvPts (ins m) c kv := by
  unfold StableHlo.held Hs
  rw [bigSep_insert (by decide), bigSep_singleton, BI.bigSep_fin_two]
  rfl

/-! ## The body's run -/

theorem fini_all (I : Ins F) (c : Dev nD) : iprop(Fini I c 0 ∗ Fini I c 1)
    ⊢ iprop(Each (fun r k i => atPos ER (cell c r k i) 1 ∅ 0) ∗ (xAny c 0 ∗ xAny c 1 ∗ pAny c 0 ∗ pAny c 1 ∗ rAny c 0 ∗ rAny c 1) ∗ Slots I c 0 ∗ Slots I c 1) := by
  rw [each_eq]
  unfold Fini
  iintro ⟨⟨A0, X0, R0, P0, S0⟩, A1, X1, R1, P1, S1⟩
  isplitl [A0 A1]; · isplitl [A0] <;> iassumption
  isplitr [S0 S1]
  · isplitl [X0]; · iexact X0
    isplitl [X1]; · iexact X1
    isplitl [P0]; · iexact P0
    isplitl [P1]; · iexact P1
    isplitl [R0] <;> iassumption
  isplitl [S0] <;> iassumption

theorem wins_eq (c : Dev nD) : (bigSep Finset.univ fun p : Fin 2 × Fin 2 => wholeAny (F := F) c (wb p.1 p.2))
    = iprop(wholeAny c (wb 0 0) ∗ wholeAny c (wb 0 1) ∗ wholeAny c (wb 1 0) ∗ wholeAny c (wb 1 1)) := by
  rw [bigSep_univ_prod, BI.bigSep_fin_two, BI.bigSep_fin_two, BI.bigSep_fin_two]
  have h1 : iprop((wholeAny (F := F) c (wb 0 0) ∗ wholeAny c (wb 0 1)) ∗ wholeAny c (wb 1 0) ∗ wholeAny c (wb 1 1))
      ⊢ iprop(wholeAny c (wb 0 0) ∗ wholeAny c (wb 0 1) ∗ wholeAny c (wb 1 0) ∗ wholeAny c (wb 1 1)) := by
    iintro ⟨⟨A, B⟩, C, D⟩
    isplitl [A]; · iexact A
    isplitl [B]; · iexact B
    isplitl [C] <;> iassumption
  have h2 : iprop(wholeAny (F := F) c (wb 0 0) ∗ wholeAny c (wb 0 1) ∗ wholeAny c (wb 1 0) ∗ wholeAny c (wb 1 1))
      ⊢ iprop((wholeAny c (wb 0 0) ∗ wholeAny c (wb 0 1)) ∗ wholeAny c (wb 1 0) ∗ wholeAny c (wb 1 1)) := by
    iintro ⟨A, B, C, D⟩
    isplitl [A B]; · isplitl [A] <;> iassumption
    isplitl [C] <;> iassumption
  exact BI.Entails.antisymm h1 h2

/-- The scoped buffers and the window semaphores beside the keys and the values are the rings' blocks and slots. -/
theorem bufs_eq (I : Ins F) (c : Dev nD) :
    iprop((Pipeline.scopedRest (Ix := Unit) (Name := ℕ) (U := UU) (Lvl := ℕ) (Val := Elt F) spec0 c) ∗ wsem0 c ∗ bigSep Finset.univ fun kv => kvPts I c kv)
      ⊢ iprop((xAny c 0 ∗ xAny c 1 ∗ pAny c 0 ∗ pAny c 1 ∗ rAny c 0 ∗ rAny c 1) ∗ Slots I c 0 ∗ Slots I c 1) := by
  rw [rest_eq, xAny_eq, xAny_eq, pAny_eq, pAny_eq, rAny_eq, rAny_eq]
  iintro ⟨⟨X0, X1, P0, P1, R0, R1, W0, W1, W2, W3⟩, Hw, Hk⟩
  isplitr [W0 W1 W2 W3 Hw Hk]
  · isplitl [X0]; · iexact X0
    isplitl [X1]; · iexact X1
    isplitl [P0]; · iexact P0
    isplitl [P1]; · iexact P1
    isplitl [R0] <;> iassumption
  iapply (Entails.of_eq (slots_all I c))
  isplitr [Hw Hk]
  · iapply (Entails.of_eq (wins_eq (F := F) c).symm)
    isplitl [W0]; · iexact W0
    isplitl [W1]; · iexact W1
    isplitl [W2] <;> iassumption
  isplitl [Hw] <;> iassumption

theorem bufs_back (I : Ins F) (c : Dev nD) :
    iprop((xAny c 0 ∗ xAny c 1 ∗ pAny c 0 ∗ pAny c 1 ∗ rAny c 0 ∗ rAny c 1) ∗ Slots I c 0 ∗ Slots I c 1)
      ⊢ iprop((Pipeline.scopedRest (Ix := Unit) (Name := ℕ) (U := UU) (Lvl := ℕ) (Val := Elt F) spec0 c) ∗ wsem0 c ∗ bigSep Finset.univ fun kv => kvPts I c kv) := by
  rw [rest_eq, xAny_eq, xAny_eq, pAny_eq, pAny_eq, rAny_eq, rAny_eq]
  iintro ⟨⟨X0, X1, P0, P1, R0, R1⟩, Hs⟩
  ihave Hs := (Entails.of_eq (slots_all I c).symm) $$ Hs
  icases Hs with ⟨HW, Hw, Hk⟩
  ihave HW := (Entails.of_eq (wins_eq (F := F) c)) $$ HW
  icases HW with ⟨W0, W1, W2, W3⟩
  isplitr [Hw Hk]
  · isplitl [X0]; · iexact X0
    isplitl [X1]; · iexact X1
    isplitl [P0]; · iexact P0
    isplitl [P1]; · iexact P1
    isplitl [R0]; · iexact R0
    isplitl [R1]; · iexact R1
    isplitl [W0]; · iexact W0
    isplitl [W1]; · iexact W1
    isplitl [W2] <;> iassumption
  isplitl [Hw] <;> iassumption

/-- What enters the body beside its windows, and what leaves it. -/
def In (c : Dev nD) : sProp (MM F) :=
  iprop((Pipeline.scopedRest (Ix := Unit) (Name := ℕ) (U := UU) (Lvl := ℕ) (Val := Elt F) spec0 c) ∗ (∃ r, prngReg c r)
    ∗ StableHlo.held (c : Thread nD τ) Hs (Gen.V1 m c) ∗ Xk (ins m) c)
def Out (c : Dev nD) : sProp (MM F) :=
  iprop((Pipeline.scopedRest (Ix := Unit) (Name := ℕ) (U := UU) (Lvl := ℕ) (Val := Elt F) spec0 c) ∗ (∃ r, prngReg c r)
    ∗ StableHlo.held (c : Thread nD τ) Hs (Gen.V1 m c) ∗ Pipeline.ownSems0 osem c ∗ semVal (bar c) 0)

theorem body_run (c : Dev nD) (X : Memref sig .tc .vmem S256x1024 .bf16) (Wq Wo : Memref sig .tc .vmem S1024x1024 .bf16)
    (O : Memref sig .tc .vmem S1x256x1024 .f32) :
    iprop(In m c ∗ (∃ W, owes (c : Thread nD τ) (O₀ c) W) ∗ Opnd c X ((ins m).x c) ∗ Opnd c Wq ((ins m).wq c) ∗ Opnd c Wo ((ins m).wo c) ∗ OpndAny c O)
      ⊢ Wp c (body X Wq Wo O) fun _ => iprop(Out m c ∗ (∃ W, owes (c : Thread nD τ) (0 : CellTallies nD τ sig Unit) W)
        ∗ Opnd c X ((ins m).x c) ∗ Opnd c Wq ((ins m).wq c) ∗ Opnd c Wo ((ins m).wo c) ∗ Opnd c O (outV (ins m) c)) := by
  have e : ∀ Q : PUnit → sProp (MM F), Wp c (body X Wq Wo O) Q = Wp c (bodyOn X Wq Wo O c) Q := fun Q => by
    unfold body Wp; rw [wp_deviceId]
  rw [e]
  have hstart : iprop(In m c ∗ (∃ W, owes (c : Thread nD τ) (O₀ c) W))
      ⊢ iprop((∃ r, prngReg c r) ∗ ∃ K, Start0 (ins m) K c) := by
    unfold In Xk Start0 Init Ghost
    rw [held_Hs]
    iintro ⟨⟨Hr, Hp, Hk, ⟨%K, Hc, Hb, ⟨⟨A0, B0, C0, D0⟩, A1, B1, C1, D1⟩, Hw⟩⟩, HO⟩
    isplitl [Hp]; · iexact Hp
    iexists K
    ihave H := (bufs_eq (ins m) c) $$ [Hr Hw Hk]
    · isplitl [Hr]; · iexact Hr
      isplitl [Hw] <;> iassumption
    icases H with ⟨⟨X0, X1, P0, P1, R0, R1⟩, S0, S1⟩
    isplitl [Hc]; · iexact Hc
    isplitl [Hb]; · iexact Hb
    isplitl [HO]; · unfold Owing; iexact HO
    isplitl [A0 B0 C0 D0 X0 P0 R0 S0]
    · isplitl [A0]; · iexact A0
      isplitl [B0]; · iexact B0
      isplitl [X0]; · iexact X0
      isplitl [C0]; · iexact C0
      isplitl [D0]; · iexact D0
      isplitl [R0]; · iexact R0
      isplitl [P0] <;> iassumption
    · isplitl [A1]; · iexact A1
      isplitl [B1]; · iexact B1
      isplitl [X1]; · iexact X1
      isplitl [C1]; · iexact C1
      isplitl [D1]; · iexact D1
      isplitl [R1]; · iexact R1
      isplitl [P1] <;> iassumption
  have hend : ∀ K, iprop((∃ r, prngReg c r) ∗ End0 (ins m) K c) ⊢ iprop(|={Set.univ}=> (Out m c ∗ (∃ W, owes (c : Thread nD τ) (0 : CellTallies nD τ sig Unit) W))) := by
    intro K
    unfold Out End0 Owing
    rw [own_eq, held_Hs, due_end]
    iintro ⟨Hp, Hi, Hb, HO, HF⟩
    ihave HF := (fini_all (ins m) c) $$ HF
    icases HF with ⟨Ha, HB⟩
    imod (close_all (ins m) K c) $$ [Hi Hb Ha] with ⟨Hb, Ha⟩
    · isplitl [Hi]; · iexact Hi
      isplitl [Hb] <;> iassumption
    ihave HB := (bufs_back (ins m) c) $$ HB
    icases HB with ⟨Hr, Hw, Hk⟩
    imodintro
    isplitr [HO]
    · isplitl [Hr]; · iexact Hr
      isplitl [Hp]; · iexact Hp
      isplitl [Hk]; · iexact Hk
      isplitr [Hb]; · isplitl [Ha] <;> iassumption
      iexact Hb
    iexact HO
  have fin : ∀ K, iprop((Opnd c X ((ins m).x c) ∗ (Opnd c Wq ((ins m).wq c) ∗ Opnd c Wo ((ins m).wo c) ∗ OpndAny c O) ∗ Start0 (ins m) K c) ∗ ∃ r, prngReg c r)
      ⊢ Wp c (bodyOn X Wq Wo O c) fun _ => iprop(Out m c ∗ (∃ W, owes (c : Thread nD τ) (0 : CellTallies nD τ sig Unit) W)
        ∗ Opnd c X ((ins m).x c) ∗ Opnd c Wq ((ins m).wq c) ∗ Opnd c Wo ((ins m).wo c) ∗ Opnd c O (outV (ins m) c)) := by
    intro K
    have run := (bodyOn_tr (ins m) K X Wq Wo O c).frame iprop(∃ r, prngReg c r)
    unfold Tr at run
    refine run.trans ((wp_mono _ _ _ fun _ => ?_).trans (wp_fupd _ _ _ _ _))
    iintro ⟨⟨HX, ⟨HWq, HWo, HOut⟩, HE⟩, Hp⟩
    imod (hend K) $$ [Hp HE] with ⟨HOu, HO⟩
    · isplitl [Hp] <;> iassumption
    imodintro
    isplitl [HOu]; · iexact HOu
    isplitl [HO]; · iexact HO
    isplitl [HX]; · iexact HX
    isplitl [HWq]; · iexact HWq
    isplitl [HWo] <;> iassumption
  iintro ⟨HI, HO, HX, HWq, HWo, HOut⟩
  ihave H := hstart $$ [HI HO]
  · isplitl [HI] <;> iassumption
  icases H with ⟨Hp, ⟨%K, Hs⟩⟩
  iapply (fin K)
  isplitr [Hp]
  · isplitl [HX]; · iexact HX
    isplitl [HWq HWo HOut]
    · isplitl [HWq]; · iexact HWq
      isplitl [HWo] <;> iassumption
    iexact Hs
  iexact Hp

end Cert.KernelIdeal.Run

end
-- ==== Proof.Talk.lean ====
/- The proof data of the call, its body obligation, and the call as a region that talks to its neighbours. -/
module

public import proofs.«01_k».proof.Proof.Region

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts Idealize.ShloMosaic.Ring

open Idealize.ShloMosaic.Pipeline (Dat Seg HostSeg RegionSeg BodyObligation)

variable {F : FTy → Type} [FloatOps F] [Named F] (m : (ℓ : Loc nD τ sig) → Buf (Elt F) ℓ)

/-- The proof data: the windows come in as the host left them, and the result goes out. -/
def dat (c : Dev nD) : Dat τ (Elt F) Unit ℕ UU ℕ cfg0 c where
  A := fun w => Gen.V1 m c (Proc.devRef .tc (Pipeline.arrRef spec0 w))
  after := fun w _ => match w with
    | 0 => (ins m).x c
    | 1 => (ins m).wq c
    | 2 => (ins m).wo c
    | 3 => outV (ins m) c
  Φ := fun t => if t.val = 0 then In m c else Out m c
  q := fun _ => fullShare
  owed := fun t => if t.val = 0 then O₀ c else 0

abbrev dats (p : Fin 1) (c : Dev nD) : Dat τ (Elt F) Unit ℕ UU ℕ (cfgs p) c := dat m c

abbrev t₀ : Fin cfg0.N := Gen.t0_0

theorem phi_at (c : Dev nD) (t : Fin (cfg0.N + 1)) : (dat m c).Φ t = if t.val = 0 then In m c else Out m c := rfl
theorem owed_at (c : Dev nD) (t : Fin (cfg0.N + 1)) : (dat m c).owed t = if t.val = 0 then O₀ c else 0 := rfl
theorem phi_in (c : Dev nD) : (dat m c).Φ (t₀.castSucc) = In m c := (phi_at m c _).trans (if_pos rfl)
theorem phi_out (c : Dev nD) : (dat m c).Φ (t₀.succ) = Out m c := (phi_at m c _).trans (if_neg (Nat.succ_ne_zero _))
theorem owed_in (c : Dev nD) : (dat m c).owed (t₀.castSucc) = O₀ c := (owed_at m c _).trans (if_pos rfl)
theorem owed_out (c : Dev nD) : (dat m c).owed (t₀.succ) = 0 := (owed_at m c _).trans (if_neg (Nat.succ_ne_zero _))

/-- A fetch of a window's whole block fills the buffer with it. -/
theorem fetched_whole (c : Dev nD) (w : Fin cfg0.W) (t : Fin cfg0.N) (h : ∀ a, (cfg0.win w).clip (cfg0.grid.coords t) a = none) (d)
    (X : (cfg0.win w).block.Idx → Elt F (cfg0.win w).elt)
    (hX : ∀ j, (dat m c).blockOf w t j = X fun a => ⟨(j a).val, lt_of_lt_of_le (j a).isLt (by
      have e : (cfg0.win w).xsize (cfg0.grid.coords t) a = (cfg0.win w).block.size a := by unfold Pipeline.Window.xsize; rw [h a]
      exact e.le)⟩) : (dat m c).fetched w t d = X := by
  funext j
  have hm : (cfg0.win w).moved (cfg0.grid.coords t) j = true :=
    ((cfg0.win w).moved_iff _ j).mpr fun a => by have := (j a).isLt; unfold Pipeline.Window.xsize; rw [h a]; exact this
  unfold Dat.fetched Pipeline.Window.fill
  rw [dif_pos hm, hX]

theorem before0 (c : Dev nD) (d) : (dat m c).before 0 t₀ d = (ins m).x c := by
  rw [(dat m c).before_fetched 0 t₀ (Gen.fetch0_0 t₀)]
  have hz : (fun a => (win0_0.index t₀) a * main_v7.ty.shape.size a) = fun _ => 0 := funext fun a => by fin_cases a <;> decide
  exact fetched_whole m c 0 t₀ (fun _ => rfl) d _ fun j => congrFun (Memref.read_access_unit_zero (Elt F) main_v7 hz (fun a => by fin_cases a <;> decide) (Gen.V1 m c main_v7)) j
theorem before1 (c : Dev nD) (d) : (dat m c).before 1 t₀ d = (ins m).wq c := by
  rw [(dat m c).before_fetched 1 t₀ (Gen.fetch0_1 t₀)]
  have hz : (fun a => (win0_1.index t₀) a * main_v10.ty.shape.size a) = fun _ => 0 := funext fun a => by fin_cases a <;> decide
  exact fetched_whole m c 1 t₀ (fun _ => rfl) d _ fun j => congrFun (Memref.read_access_unit_zero (Elt F) main_v10 hz (fun a => by fin_cases a <;> decide) (Gen.V1 m c main_v10)) j
theorem before2 (c : Dev nD) (d) : (dat m c).before 2 t₀ d = (ins m).wo c := by
  rw [(dat m c).before_fetched 2 t₀ (Gen.fetch0_2 t₀)]
  have hz : (fun a => (win0_2.index t₀) a * main_v11.ty.shape.size a) = fun _ => 0 := funext fun a => by fin_cases a <;> decide
  exact fetched_whole m c 2 t₀ (fun _ => rfl) d _ fun j => congrFun (Memref.read_access_unit_zero (Elt F) main_v11 hz (fun a => by fin_cases a <;> decide) (Gen.V1 m c main_v11)) j

theorem final_out (c : Dev nD) : (dat m c).arrAt 3 cfg0.N = outV (ins m) c := by
  have ho : ((cfg0.win (3 : Fin 4)).blk t₀).view.read (Elt F) ((dat m c).arrAt (3 : Fin 4) cfg0.N) = (dat m c).flushed (3 : Fin 4) t₀ := by
    rw [show cfg0.N = (t₀ : Fin cfg0.N).val + 1 from rfl, (dat m c).arrAt_succ (3 : Fin 4) t₀, if_pos (Gen.flush0_3 t₀)]
    exact View.read_write_univ _ _
  have hz : (fun a => (win0_3.index t₀) a * main_v14.ty.shape.size a) = fun _ => 0 := funext fun a => by fin_cases a <;> decide
  have hr := fun f => Memref.read_access_unit_zero (Elt F) main_v14 hz (fun a => by fin_cases a <;> decide) f
  rw [hr] at ho
  rw [ho]
  rfl

theorem owes_in (c : Dev nD) : ((dat m c).owesAt () t₀.castSucc : sProp (MM F)) ⊢ iprop(∃ W, owes (c : Thread nD τ) (O₀ c) W) := by
  unfold Dat.owesAt Pipeline.owesWithin; rw [owed_in]
  iintro ⟨%W, -, HO⟩; iexists W; iexact HO
theorem owes_out (c : Dev nD) : iprop(∃ W, owes (c : Thread nD τ) (0 : CellTallies nD τ sig Unit) W) ⊢ ((dat m c).owesAt () t₀.succ : sProp (MM F)) := by
  unfold Dat.owesAt Pipeline.owesWithin Dat.bound; rw [owed_out]
  iintro ⟨%W, HO⟩; iexists W; isplitr; · ipureintro; exact fun _ _ => Or.inl trivial
  iexact HO

theorem opnd_owns {s : Shape} {e : EltTy} (c : Dev nD) (M : Memref sig .tc .vmem s e) (X : s.Idx → Elt F e) :
    (owns (c : Thread nD τ) M fullShare X : sProp (MM F)) = Opnd c M X := owns_eq_rep _ _ _ _

set_option maxRecDepth 65536 in
/-- The body keeps what the pipeline needs of it. -/
theorem obligation (c : Dev nD) : BodyObligation (dat m c) defs₀ 𝒱₀ () Set.univ := fun t => by
  obtain rfl := Gen.fin_N0 t
  rw [Gen.bigSep_W0, Gen.bigSep_W0, phi_in, phi_out]
  have run := body_run m c (win0_0.stage (cfg0.slots t₀ 0)) (win0_1.stage (cfg0.slots t₀ 1)) (win0_2.stage (cfg0.slots t₀ 2)) (win0_3.stage (cfg0.slots t₀ 3))
  rw [← bodyAt0_eq t₀] at run
  refine .trans ?_ (run.trans (wp_mono _ _ _ fun _ => ?_))
  · iintro ⟨HI, HO, ⟨%d0, H0⟩, ⟨%d1, H1⟩, ⟨%d2, H2⟩, ⟨%d3, H3⟩⟩
    isplitl [HI]; · iexact HI
    isplitl [HO]; · iapply (owes_in m c) $$ HO
    isplitl [H0]
    · iapply (Entails.of_eq ((congrArg (owns (c : Thread nD τ) (win0_0.stage (cfg0.slots t₀ 0)) fullShare) (before0 m c d0)).trans (opnd_owns c _ _))) $$ H0
    isplitl [H1]
    · iapply (Entails.of_eq ((congrArg (owns (c : Thread nD τ) (win0_1.stage (cfg0.slots t₀ 1)) fullShare) (before1 m c d1)).trans (opnd_owns c _ _))) $$ H1
    isplitl [H2]
    · iapply (Entails.of_eq ((congrArg (owns (c : Thread nD τ) (win0_2.stage (cfg0.slots t₀ 2)) fullShare) (before2 m c d2)).trans (opnd_owns c _ _))) $$ H2
    unfold OpndAny
    ihave H3 := (Entails.of_eq (owns_eq_rep _ _ _ _)) $$ H3
    iexists _
    iexact H3
  · iintro ⟨HI, HO, H0, H1, H2, H3⟩
    isplitl [HI]; · iexact HI
    isplitl [HO]; · iapply (owes_out m c) $$ HO
    isplitl [H0]; · iapply (Entails.of_eq (opnd_owns c _ _).symm) $$ H0
    isplitl [H1]; · iapply (Entails.of_eq (opnd_owns c _ _).symm) $$ H1
    isplitl [H2]; · iapply (Entails.of_eq (opnd_owns c _ _).symm) $$ H2
    iapply (Entails.of_eq (opnd_owns c _ _).symm) $$ H3

end Cert.KernelIdeal.Run

end
-- ==== Proof.Fund.lean ====
/- What the launch funds: every cell's invariant, the tokens dealt around both rings, the credits for what the devices owe. -/
module

public import proofs.«01_k».proof.Proof.Talk

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts Idealize.ShloMosaic.Ring
open Idealize.ShloMosaic.Pipeline (Dat Seg HostSeg RegionSeg BodyObligation)

variable {F : FTy → Type} [FloatOps F] [Named F] (I : Ins F)

/-! ## The cells and the tokens -/

theorem cell_inj {c c' : Dev nD} {r r' : Fin 2} {k k' : Fin 4} {i i' : Fin 7} (h : cell c r k i = cell c' r' k' i') : c = c' ∧ r = r' ∧ k = k' ∧ i = i' := by
  have h1 : c = c' := congrArg (fun g : GSem nD τ sig => g.1.1) h
  have h2 : rsem r k i = rsem r' k' i' := SemLoc.dma.inj (congrArg Prod.snd h)
  exact ⟨h1, (decR_rsem r k i).symm.trans ((congrArg decR h2).trans (decR_rsem r' k' i')),
    (decK_rsem r k i).symm.trans ((congrArg decK h2).trans (decK_rsem r' k' i')),
    (decI_rsem r k i).symm.trans ((congrArg decI h2).trans (decI_rsem r' k' i'))⟩
theorem bar_inj {c c' : Dev nD} (h : bar c = bar c') : c = c' := congrArg (fun g : GSem nD τ sig => g.1.1) h
theorem bar_ne_cell {c c' : Dev nD} {r : Fin 2} {k : Fin 4} {i : Fin 7} : bar c ≠ cell c' r k i := fun h => nomatch (congrArg Prod.snd h : (SemLoc.reg barS : SemLoc sig) = .dma (rsem r k i))

abbrev Pos : Type := Fin 2 × Fin 4 × Fin 7
def barEmb : Dev nD ↪ GSem nD τ sig := ⟨fun c => bar c, fun _ _ h => bar_inj h⟩
def scEmb : Dev nD × Pos ↪ GSem nD τ sig := ⟨fun p => cell p.1 p.2.1 p.2.2.1 p.2.2.2, fun a b h => by
  obtain ⟨h1, h2, h3, h4⟩ := cell_inj h
  exact Prod.ext h1 (Prod.ext h2 (Prod.ext h3 h4))⟩
abbrev barCells : Finset (GSem nD τ sig) := Finset.univ.map barEmb
abbrev scCells : Finset (GSem nD τ sig) := Finset.univ.map scEmb
theorem disjoint_cells : Disjoint barCells scCells := by
  rw [Finset.disjoint_left]
  rintro g h₁ h₂
  obtain ⟨c, -, rfl⟩ := Finset.mem_map.mp h₁
  obtain ⟨p, -, h⟩ := Finset.mem_map.mp h₂
  exact bar_ne_cell h.symm

def barTok : Dev nD × Fin 2 ↪ GSem nD τ sig × ℕ × Fin 2 := ⟨fun p => (bar p.1, 0, p.2), fun a b h =>
  Prod.ext (bar_inj (congrArg Prod.fst h)) (congrArg (fun t : GSem nD τ sig × ℕ × Fin 2 => t.2.2) h)⟩
def scTok : Dev nD × Pos ↪ GSem nD τ sig × ℕ × Fin 2 := ⟨fun p => (scEmb p, 0, 0), fun a b h => scEmb.injective (congrArg Prod.fst h)⟩
def toks : Finset (GSem nD τ sig × ℕ × Fin 2) := Finset.univ.map barTok ∪ Finset.univ.map scTok
theorem disjoint_toks : Disjoint (Finset.univ.map barTok) (Finset.univ.map scTok) := by
  rw [Finset.disjoint_left]
  rintro g h₁ h₂
  obtain ⟨c, -, rfl⟩ := Finset.mem_map.mp h₁
  obtain ⟨p, -, h⟩ := Finset.mem_map.mp h₂
  exact bar_ne_cell (congrArg Prod.fst h).symm

/-- One step around ring `r`. -/
def shift (r : Fin 2) : Dev nD ≃ Dev nD := ⟨tgt r, src r, src_tgt r, tgt_src r⟩

/-- A ring's tokens, the receive cells' handed to the device that sends there. -/
theorem toks_ring (r : Fin 2) : (bigSep Finset.univ fun c : Dev nD => bigSep Finset.univ fun p : Fin 4 × Fin 7 => (dutyTok ER (cell c r p.1 p.2) 0 0 : sProp (MM F)))
    = bigSep Finset.univ fun c : Dev nD => PayToks c r := by
  have e : ∀ c : Dev nD, (bigSep Finset.univ fun p : Fin 4 × Fin 7 => (dutyTok ER (cell c r p.1 p.2) 0 0 : sProp (MM F)))
      = iprop((bigSep Finset.univ fun i : Fin 7 => dutyTok ER (cell c r 0 i) 0 0) ∗ (bigSep Finset.univ fun i : Fin 7 => dutyTok ER (cell c r 1 i) 0 0)
        ∗ (bigSep Finset.univ fun i : Fin 7 => dutyTok ER (cell c r 2 i) 0 0) ∗ bigSep Finset.univ fun i : Fin 7 => dutyTok ER (cell c r 3 i) 0 0) :=
    fun c => ring_eq fun k i => dutyTok ER (cell c r k i) 0 0
  rw [bigSep_congr fun c _ => e c]
  unfold PayToks
  rw [bigSep_sep', bigSep_sep', bigSep_sep', bigSep_sep', bigSep_sep', bigSep_sep',
    bigSep_univ_equiv (shift r) (fun c : Dev nD => bigSep Finset.univ fun i : Fin 7 => (dutyTok ER (cell c r 1 i) 0 0 : sProp (MM F))),
    bigSep_univ_equiv (shift r) (fun c : Dev nD => bigSep Finset.univ fun i : Fin 7 => (dutyTok ER (cell c r 3 i) 0 0 : sProp (MM F)))]
  rfl

theorem toks_all : bigSep toks (fun x => (dutyTok ER x.1 x.2.1 x.2.2 : sProp (MM F)))
    ⊢ bigSep Finset.univ fun c : Dev nD => iprop((dutyTok ER (bar (src 0 c)) 0 0 ∗ dutyTok ER (bar (src 1 c)) 0 1) ∗ PayToks c 0 ∗ PayToks c 1) := by
  have eb : (bigSep (Finset.univ.map barTok) fun x => (dutyTok ER x.1 x.2.1 x.2.2 : sProp (MM F)))
      = bigSep Finset.univ fun c : Dev nD => iprop(dutyTok ER (bar (src 0 c)) 0 0 ∗ dutyTok ER (bar (src 1 c)) 0 1) := by
    have e : ∀ c : Dev nD, (bigSep Finset.univ fun u : Fin 2 => (dutyTok ER (barTok (c, u)).1 (barTok (c, u)).2.1 (barTok (c, u)).2.2 : sProp (MM F)))
        = iprop(dutyTok ER (bar c) 0 0 ∗ dutyTok ER (bar c) 0 1) := fun c => BI.bigSep_fin_two fun u : Fin 2 => (dutyTok ER (bar c) 0 u : sProp (MM F))
    rw [bigSep_map, bigSep_univ_prod, bigSep_congr fun c _ => e c, bigSep_sep', bigSep_sep']
    refine congrArg₂ (fun a b => iprop(a ∗ b)) ?_ ?_
    · exact bigSep_univ_equiv (shift 0).symm (fun c : Dev nD => (dutyTok ER (bar c) 0 0 : sProp (MM F)))
    · exact bigSep_univ_equiv (shift 1).symm (fun c : Dev nD => (dutyTok ER (bar c) 0 1 : sProp (MM F)))
  have es : (bigSep (Finset.univ.map scTok) fun x => (dutyTok ER x.1 x.2.1 x.2.2 : sProp (MM F)))
      = bigSep Finset.univ fun c : Dev nD => iprop(PayToks c 0 ∗ PayToks c 1) := by
    have e : ∀ c : Dev nD, (bigSep Finset.univ fun b : Pos => (dutyTok ER (scTok (c, b)).1 (scTok (c, b)).2.1 (scTok (c, b)).2.2 : sProp (MM F)))
        = iprop((bigSep Finset.univ fun p : Fin 4 × Fin 7 => dutyTok ER (cell c 0 p.1 p.2) 0 0) ∗ bigSep Finset.univ fun p : Fin 4 × Fin 7 => dutyTok ER (cell c 1 p.1 p.2) 0 0) :=
      fun c => each_eq fun r k i => dutyTok ER (cell c r k i) 0 0
    rw [bigSep_map, bigSep_univ_prod, bigSep_congr fun c _ => e c, bigSep_sep', bigSep_sep', toks_ring, toks_ring]
  unfold toks
  rw [bigSep_union disjoint_toks, eb, es]
  exact fam_pair

/-! ## The credits -/

theorem owed_bar (d c : Dev nD) : O₀ d (bar c) () = (if d = src 0 c then 1 else 0) + (if d = src 1 c then 1 else 0) := by
  have hk : ∀ k : Fin 4, dueK d k (fun _ => 0) (bar c) () = 0 := by
    intro k
    unfold dueK
    rw [Finset.sum_apply, Finsupp.finsetSum_apply]
    exact Finset.sum_eq_zero fun ri _ => by rw [tallyAt_apply, if_neg fun h => bar_ne_cell h.1]
  have hb : ∀ r : Fin 2, (tallyAt (bar (tgt r d)) () 1 : CellTallies nD τ sig Unit) (bar c) () = if d = src r c then 1 else 0 := by
    intro r
    rw [tallyAt_apply]
    by_cases h : d = src r c
    · subst h; rw [tgt_src, if_pos ⟨rfl, rfl⟩, if_pos rfl]
    · rw [if_neg h, if_neg]
      rintro ⟨h1, -⟩
      exact h (by rw [bar_inj h1, src_tgt])
  unfold O₀ due dueB
  rw [if_pos (by decide), if_pos (by decide), Pi.add_apply, Finsupp.add_apply, Pi.add_apply, Finsupp.add_apply, Pi.add_apply, Finsupp.add_apply,
    hk, hk, hb, hb]
  rfl

theorem owed_cell (d c : Dev nD) (r : Fin 2) (k : Fin 4) (i : Fin 7) (hk : k = 1 ∨ k = 3) : O₀ d (cell c r k i) () = if d = src r c then N else 0 := by
  have hd : ∀ k' : Fin 4, dueK d k' (fun _ => 0) (cell c r k i) () = if k = k' ∧ d = src r c then N else 0 := by
    intro k'
    unfold dueK
    rw [Finset.sum_apply, Finsupp.finsetSum_apply, Finset.sum_eq_single (r, i)]
    · rw [tallyAt_apply]
      by_cases h : k = k' ∧ d = src r c
      · rw [if_pos h, h.1, h.2, tgt_src, if_pos ⟨rfl, rfl⟩]
      · rw [if_neg h, if_neg]
        rintro ⟨h1, -⟩
        obtain ⟨h2, -, h4, -⟩ := cell_inj h1
        exact h ⟨h4, by rw [h2, src_tgt]⟩
    · intro ri _ hne
      rw [tallyAt_apply, if_neg]
      rintro ⟨h1, -⟩
      obtain ⟨-, h3, -, h5⟩ := cell_inj h1
      exact hne (Prod.ext h3.symm h5.symm)
    · intro h
      exact absurd (Finset.mem_filter.mpr ⟨Finset.mem_univ (r, i), Nat.zero_le i.val⟩) h
  have hb : ∀ r' : Fin 2, (tallyAt (bar (tgt r' d)) () 1 : CellTallies nD τ sig Unit) (cell c r k i) () = 0 := by
    intro r'
    rw [tallyAt_apply, if_neg fun h => bar_ne_cell h.1.symm]
  unfold O₀ due dueB
  rw [if_pos (by decide), if_pos (by decide), Pi.add_apply, Finsupp.add_apply, Pi.add_apply, Finsupp.add_apply, Pi.add_apply, Finsupp.add_apply,
    hd, hd, hb, hb]
  rcases hk with rfl | rfl
  · rw [if_neg (fun h => absurd h.1 (by decide) : ¬((1 : Fin 4) = 3 ∧ d = src r c))]
    simp
  · rw [if_neg (fun h => absurd h.1 (by decide) : ¬((3 : Fin 4) = 1 ∧ d = src r c))]
    simp

theorem launch_bar (c : Dev nD) :
    tallyOn (bar c) (launchCredit (Pipeline.owing O₀) 0 (bar c)) = (tallyAt (bar c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (src 0 c) fun _ => 1, Finset.sum_ite_eq' Finset.univ (src 1 c) fun _ => 1, if_pos (Finset.mem_univ _), if_pos (Finset.mem_univ _)]

theorem launch_cell (c : Dev nD) (r : Fin 2) (k : Fin 4) (i : Fin 7) (hk : k = 1 ∨ k = 3) :
    tallyOn (cell c r k i) (launchCredit (Pipeline.owing O₀) 0 (cell c r k i)) = (tallyAt (cell c r k i) () N : CellTallies nD τ sig Unit) := by
  unfold tallyAt; refine congrArg _ (Finsupp.ext fun u => ?_); cases u
  rw [Pipeline.launchCredit_owing, Finsupp.single_eq_same, Finset.sum_congr rfl fun d _ => owed_cell d c r k i hk,
    Finset.sum_ite_eq' Finset.univ (src r c) fun _ => N, if_pos (Finset.mem_univ _)]

/-- The receive cells of a device. -/
def recvK : Fin 2 → Fin 4 := fun | 0 => 1 | 1 => 3
theorem recvK_or : ∀ j : Fin 2, recvK j = 1 ∨ recvK j = 3 := by decide
theorem recvK_inj : Function.Injective recvK := by decide
def recvEmb : Fin 2 × Fin 2 × Fin 7 ↪ SemLoc sig := ⟨fun p => .dma (rsem p.1 (recvK p.2.1) p.2.2), fun a b h => by
  have h2 : rsem a.1 (recvK a.2.1) a.2.2 = rsem b.1 (recvK b.2.1) b.2.2 := SemLoc.dma.inj h
  have h3 : cell 0 a.1 (recvK a.2.1) a.2.2 = cell 0 b.1 (recvK b.2.1) b.2.2 := by unfold cell; rw [h2]
  obtain ⟨-, h4, h5, h6⟩ := cell_inj h3
  exact Prod.ext h4 (Prod.ext (recvK_inj h5) h6)⟩

theorem creds_intro (c : Dev nD) : (Pipeline.launchCred O₀ c : sProp (MM F)) ⊢ creds c := by
  unfold Pipeline.launchCred creds
  rw [bigSep_univ_at _ (SemLoc.reg barS), launch_bar]
  refine sep_mono_right ?_
  have hs : Finset.univ.map recvEmb ⊆ (Finset.univ.erase (SemLoc.reg barS : SemLoc sig)) := by
    intro x hx
    obtain ⟨p, -, rfl⟩ := Finset.mem_map.mp hx
    exact Finset.mem_erase.mpr ⟨(fun h => nomatch h), Finset.mem_univ _⟩
  have e : ∀ p : Fin 2 × Fin 2 × Fin 7, (cred (tallyOn ((c : Thread nD τ), recvEmb p) (launchCredit (Pipeline.owing O₀) 0 ((c : Thread nD τ), recvEmb p))) : sProp (MM F))
      = cred (tallyAt (cell c p.1 (recvK p.2.1) p.2.2) () N) := fun p => congrArg _ (launch_cell c p.1 (recvK p.2.1) p.2.2 (recvK_or _))
  have h : (bigSep (Finset.univ.map recvEmb) fun sm : SemLoc sig => (cred (tallyOn ((c : Thread nD τ), sm) (launchCredit (Pipeline.owing O₀) 0 ((c : Thread nD τ), sm))) : sProp (MM F)))
      = iprop(Creds c 0 ∗ Creds c 1) := by
    rw [bigSep_map, bigSep_congr fun p _ => e p, bigSep_univ_prod, BI.bigSep_fin_two, bigSep_univ_prod, bigSep_univ_prod, BI.bigSep_fin_two, BI.bigSep_fin_two]
    rfl
  rw [← h]
  exact BI.bigSep_subset hs

end Cert.KernelIdeal.Run

end
-- ==== Proof.Launch.lean ====
/- The launch: the call as the region it is, what the devices share from the start, and the whole program's run. -/
module

public import proofs.«01_k».proof.Proof.Fund

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.KernelIdeal Cert.KernelIdeal.Facts₀ Facts Idealize.ShloMosaic.Ring
open Idealize.ShloMosaic.Pipeline (Dat Seg HostSeg RegionSeg BodyObligation)

variable {F : FTy → Type} [FloatOps F] [Named F] (m : (ℓ : Loc nD τ sig) → Buf (Elt F) ℓ) (ρ : Dev nD → PrngReg)

/-! ## The region -/

theorem vend_out (c : Dev nD) : Vend m c (Proc.devRef .tc main_v14) = outV (ins m) c := Function.update_self _ _ _
theorem vend_ne (c : Dev nD) (b : DevRef τ sig) (h : b ≠ Proc.devRef .tc main_v14) : Vend m c b = Gen.V1 m c b := Function.update_of_ne h _ _

/-- The unscoped buffers no window covers. -/
abbrev Sr : Finset (DevRef τ sig) := Pipeline.ucRefs τ sig \ Pipeline.arrRefs (τ := τ) spec0
theorem arr_sub : Pipeline.arrRefs (τ := τ) spec0 ⊆ Pipeline.ucRefs τ sig := by decide +kernel
theorem Hs_sub : Hs ⊆ Sr := by decide +kernel
theorem out_arr : (Proc.devRef .tc main_v14 : DevRef τ sig) ∈ Pipeline.arrRefs (τ := τ) spec0 := by decide +kernel
theorem rest_ne {b : DevRef τ sig} (hb : b ∈ Sr) : b ≠ Proc.devRef .tc main_v14 := fun h => (Finset.mem_sdiff.mp hb).2 (h ▸ out_arr)

theorem vend_arr (c : Dev nD) : ∀ w : Fin cfg0.W, (dat m c).arrAt w cfg0.N = Vend m c (Proc.devRef .tc (Pipeline.arrRef spec0 w)) := by
  have hin : ∀ w : Fin cfg0.W, (cfg0.win w).isOut = false → (Proc.devRef .tc (Pipeline.arrRef spec0 w) : DevRef τ sig) ≠ Proc.devRef .tc main_v14 →
      (dat m c).arrAt w cfg0.N = Vend m c (Proc.devRef .tc (Pipeline.arrRef spec0 w)) := fun w h hne =>
    ((dat m c).arrAt_in w h _).trans (vend_ne m c _ hne).symm
  intro w
  match w with
  | 0 => exact hin 0 rfl (by decide +kernel)
  | 1 => exact hin 1 rfl (by decide +kernel)
  | 2 => exact hin 2 rfl (by decide +kernel)
  | 3 => exact (final_out m c).trans (vend_out m c).symm

theorem out_held (c : Dev nD) : (dat m c).Φ (Fin.last cfg0.N) ⊢ iprop((Pipeline.scopedRest (Ix := Unit) (Name := ℕ) (U := UU) (Lvl := ℕ) (Val := Elt F) spec0 c) ∗ (∃ r, prngReg c r)
    ∗ StableHlo.held (c.tc : Thread nD τ) Hs (Vend m c) ∗ Pipeline.ownSems0 osem c ∗ semVal (bar c) 0) := by
  have e : (dat m c).Φ (Fin.last cfg0.N) = Out m c := phi_out m c
  rw [e, StableHlo.held_congr (c.tc : Thread nD τ) fun b hb => vend_ne m c b (rest_ne (Hs_sub hb))]
  exact BI.Entails.refl _

theorem cut : Pipeline.LevelCutOwed (pcfgs (F := F)) Gen.adm (dats m) () L lv 0 (fun _ => 0) where
  hι := fun c w s => by rw [L_tc]; exact Finset.mem_singleton_self _
  hιb := fun c w s => by
    have h : ∀ (w : Fin cfg0.W) (s : Fin (cfg0.win w).nbuf), lvS (.dma ((cfg0.win w).sem s)) = 0 := by decide +kernel
    exact (h w s).le
  hD := fun c t g i h => by
    have e : (dats m 0 c).owed t = if t.val = 0 then O₀ c else 0 := owed_at m c t
    rw [e] at h
    by_cases ht : t.val = 0
    · rw [if_pos ht] at h; exact due_pos c g i h
    · rw [if_neg ht] at h; exact absurd h (Nat.lt_irrefl 0)

set_option backward.isDefEq.respectTransparency.types false in
/-- The call. -/
def reg : RegionSeg (pcfgs (F := F)) Gen.adm (dats m) () defs₀ 𝒱₀ L lv 0 :=
  Pipeline.RegionSeg.ofTalk (pcfgs (F := F)) Gen.adm (dats m) () defs₀ 𝒱₀ L lv 0 osem osem_facts
    Hs Sr Hs_sub Gen.launch0.toP rfl (fun c => (obligation m c).loose)
    (fun _ => 0) O₀ (fun c => (owed_in m c).trans (zero_add _).symm) (owed_out m) (fun _ => rfl) (fun c w => (dat m c).share_full (fun _ => rfl) w)
    (Gen.V1 m) (Vend m) (fun c b hb => vend_ne m c b (rest_ne (Finset.mem_sdiff.mp hb).1))
    (Tk (ins m)) (fun c => semVal (bar c) 0) (Xk (ins m)) (fun c => semVal (bar c) 0) (opens (ins m))
    (fun c => BI.Entails.refl _) (out_held m)
    (fun c => by iintro H; imodintro; iexact H)
    (fun _ => 0) (cut m) (fun _ => iprop(emp)) (fun c w => rfl) (vend_arr m)

/-- What a device carries into the call beside its buffers. -/
def E0 (c : Dev nD) : sProp (MM F) := iprop((∃ r, prngReg c r) ∗ Tk (ins m) c ∗ ∃ W, owes (c : Thread nD τ) (O₀ c) W)
/-- What is left at the end. -/
def Tn (c : Dev nD) : sProp (MM F) := iprop(StableHlo.held (c : Thread nD τ) (Pipeline.ucRefs τ sig) (Vend m c) ∗ semVal (bar c) 0)

theorem reg_pre (c : Dev nD) : iprop(StableHlo.held (c : Thread nD τ) (Pipeline.ucRefs τ sig) (Gen.V1 m c) ∗ E0 m c) ⊢ (reg m).pre c := by
  show _ ⊢ iprop(StableHlo.held (c.tc : Thread nD τ) (Pipeline.arrRefs (τ := τ) spec0) (Gen.V1 m c) ∗ (∃ r, prngReg c r)
    ∗ (StableHlo.held (c.tc : Thread nD τ) Sr (Gen.V1 m c) ∗ emp) ∗ Tk (ins m) c ∗ ∃ Wd, owes (c : Thread nD τ) (0 + O₀ c) Wd)
  rw [zero_add, StableHlo.held_sub_split (c : Thread nD τ) arr_sub (Gen.V1 m c)]
  unfold E0
  iintro ⟨⟨Ha, Hr⟩, Hp, Ht, Ho⟩
  isplitl [Ha]; · iexact Ha
  isplitl [Hp]; · iexact Hp
  isplitl [Hr]
  · isplitl [Hr]; · iexact Hr
    iempintro
  isplitl [Ht] <;> iassumption

theorem reg_post (c : Dev nD) : (reg m).post c ⊢ iprop(Tn m c ∗ ∃ W, owes (c : Thread nD τ) (0 : CellTallies nD τ sig Unit) W) := by
  show iprop(StableHlo.held (c.tc : Thread nD τ) (Pipeline.arrRefs (τ := τ) spec0) (Vend m c) ∗ (∃ r, prngReg c r)
    ∗ (StableHlo.held (c.tc : Thread nD τ) Sr (Vend m c) ∗ emp) ∗ semVal (bar c) 0 ∗ ∃ Wd, owes (c : Thread nD τ) (0 : CellTallies nD τ sig Unit) Wd) ⊢ _
  unfold Tn
  rw [StableHlo.held_sub_split (c : Thread nD τ) arr_sub (Vend m c)]
  iintro ⟨Ha, -, ⟨Hr, -⟩, Hb, Ho⟩
  isplitl [Ha Hr Hb]
  · isplitl [Ha Hr]
    · isplitl [Ha] <;> iassumption
    iexact Hb
  iexact Ho

/-! ## The launch -/

/-- The element the ghost state starts from. -/
def u₀ : UU :=
  (initOf (Pipeline.cells cfgs Gen.cellOf_inj) (Pipeline.launchToks cfgs Gen.cellOf_inj), (launchOf barCells scCells toks, 1))

/-- All of the exchange's part of it, on the first device until the devices share it out. -/
def G (c : Dev nD) : sProp (MM F) := if c = 0 then BI.own (ER (launchOf barCells scCells toks)) else iprop(emp)
theorem G_all : bigSep Finset.univ (G (F := F)) = BI.own (ER (launchOf barCells scCells toks)) := by
  rw [bigSep_univ_at _ (0 : Dev nD), bigSep_congr (s := Finset.univ.erase (0 : Dev nD)) (Ψ := fun _ => (BI.emp : sProp (MM F)))
      fun c hc => by unfold G; rw [if_neg (Finset.ne_of_mem_erase hc)]; rfl, BI.bigSep_emp_const]
  unfold G; rw [if_pos rfl]
  exact BI.equiv_iff.mp sep_emp

theorem fund_u₀ : (ownU u₀ : sProp (MM F)) ⊢ iprop(|={Set.univ}=> (BI.own (EP (initOf (Pipeline.cells cfgs Gen.cellOf_inj) (Pipeline.launchToks cfgs Gen.cellOf_inj))) ∗ bigSep Finset.univ (G (F := F)))) := by
  unfold u₀
  rw [G_all]
  iintro Hu
  ihave H := (ownU_pair _ _) $$ Hu
  icases H with ⟨HP, HX⟩
  ihave HX := (own_pair_emb _ _ _) $$ HX
  icases HX with ⟨HX, -⟩
  imodintro
  isplitl [HP]; · iexact HP
  iexact HX

/-- What every device may read: every invariant, and every barrier at its first round. -/
def records (K : GSem nD τ sig → ℕ) : sProp (MM F) := iprop(invs (ins m) K ∗ bigSep Finset.univ fun d : Dev nD => reached ER (bar d) 0)
instance records_persistent (K : GSem nD τ sig → ℕ) : BI.Persistent (records m K) := by unfold records; infer_instance

theorem records_shared (K : GSem nD τ sig → ℕ) (c : Dev nD) : records m K ⊢ shared (ins m) K c := by
  unfold records shared
  iintro ⟨#HI, #HR⟩
  isplitr; · iexact HI
  isplitr
  · iapply (bigAt (Finset.mem_univ (src 0 c))) $$ HR
  · iapply (bigAt (Finset.mem_univ (src 1 c))) $$ HR

theorem deal (K : GSem nD τ sig → ℕ) (c : Dev nD) : iprop(records m K ∗ linear c ∗ creds c ∗ owes (c : Thread nD τ) (O₀ c) ∅ ∗ ∃ r, prngReg c r) ⊢ E0 m c := by
  unfold E0 Tk
  iintro ⟨#HR, Hl, Hc, Ho, Hp⟩
  isplitl [Hp]; · iexact Hp
  isplitr [Ho]
  · isplitl [Hl]
    · iexists K
      isplitr; · iapply (records_shared m K c); iexact HR
      iexact Hl
    iexact Hc
  iexists ∅; iexact Ho

theorem unscopedSems0_eq (c : Dev nD) : (unscopedSems0 c : sProp (MM F)) = semVal (bar c) 0 := by
  unfold unscopedSems0
  rw [show (Finset.univ.filter fun sm : SemLoc sig => ¬ sm.isScoped .tc) = {SemLoc.reg barS} from by decide +kernel, BI.bigSep_singleton]

theorem start : iprop((bigSep Finset.univ fun c : Dev nD => iprop(unscopedSems0 c ∗ owes (c : Thread nD τ) (O₀ c) ∅ ∗ Pipeline.launchCred O₀ c ∗ prngReg c (ρ c) ∗ G c)) ∗ levAts L lv)
    ⊢ iprop(|={Set.univ}=> bigSep Finset.univ (E0 m)) := by
  have hcore (c : Dev nD) : iprop(unscopedSems0 c ∗ owes (c : Thread nD τ) (O₀ c) ∅ ∗ Pipeline.launchCred O₀ c ∗ prngReg c (ρ c) ∗ G c)
      ⊢ iprop((creds c ∗ owes (c : Thread nD τ) (O₀ c) ∅ ∗ ∃ r, prngReg c r) ∗ semVal (bar c) 0 ∗ G (F := F) c) := by
    rw [unscopedSems0_eq]
    iintro ⟨Hs, HO, Hcr, Hp, HG⟩
    ihave Hc := (creds_intro (F := F) c) $$ Hcr
    isplitl [Hc HO Hp]
    · isplitl [Hc]; · iexact Hc
      isplitl [HO]; · iexact HO
      iexists (ρ c); iexact Hp
    isplitl [Hs] <;> iassumption
  have hall : (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop((creds c ∗ owes (c : Thread nD τ) (O₀ c) ∅ ∗ ∃ r, prngReg c r) ∗ semVal (bar c) 0 ∗ G (F := F) c)) :=
    bigSep_mono fun c _ => hcore c
  have hv : bigSep Finset.univ (fun c : Dev nD => (semVal (bar c) 0 : sProp (MM F))) ⊢ bigSep barCells (fun g => (semVal g 0 : sProp (MM F))) :=
    Entails.of_eq (bigSep_map (s := Finset.univ) barEmb (Φ := fun g : GSem nD τ sig => (semVal g 0 : sProp (MM F)))).symm
  have hinv : ∀ K : GSem nD τ sig → ℕ, (bigSep (barCells ∪ scCells) fun g => (cellInv ER (sched (ins m)) (K g) g : sProp (MM F))) ⊢ invs (ins m) K := fun K =>
    Entails.of_eq (by rw [bigSep_union disjoint_cells, bigSep_map, bigSep_map]; rfl)
  have hr : bigSep barCells (fun g => (reached ER g 0 : sProp (MM F))) ⊢ bigSep Finset.univ (fun c : Dev nD => (reached ER (bar c) 0 : sProp (MM F))) :=
    Entails.of_eq (bigSep_map (s := Finset.univ) barEmb (Φ := fun g : GSem nD τ sig => (reached ER g 0 : sProp (MM F))))
  have hat : bigSep barCells (fun g => (atPos ER g 0 ∅ 0 : sProp (MM F))) ⊢ bigSep Finset.univ (fun c : Dev nD => (atPos ER (bar c) 0 ∅ 0 : sProp (MM F))) :=
    Entails.of_eq (bigSep_map (s := Finset.univ) barEmb (Φ := fun g : GSem nD τ sig => (atPos ER g 0 ∅ 0 : sProp (MM F))))
  have hopen : bigSep scCells (fun g => (openTok ER g : sProp (MM F))) ⊢ bigSep Finset.univ (fun c : Dev nD => Each (F := F) fun r k i => openTok ER (cell c r k i)) :=
    Entails.of_eq (by rw [bigSep_map, bigSep_univ_prod]; rfl)
  iintro ⟨H, -⟩
  ihave H := hall $$ H
  ihave H := fam_unpair $$ H; icases H with ⟨HB, H⟩
  ihave H := fam_unpair $$ H; icases H with ⟨Hv, HG⟩
  ihave Hu := (Entails.of_eq (G_all (F := F))) $$ HG
  imod (Rounds.fund_launch ER (sched (ins m)) disjoint_cells (fun g _ h => h) toks) $$ [Hv Hu] with ⟨%K, -, Hinv, Hr, Hat, Hopen, Htok⟩
  · isplitl [Hv]
    · iapply hv $$ Hv
    · iexact Hu
  ihave #HI := (hinv K) $$ Hinv
  ihave #HR := hr $$ Hr
  imodintro
  iapply (bigSep_with_persistent (R := records m K) (Φ := fun c => iprop(linear c ∗ creds c ∗ owes (c : Thread nD τ) (O₀ c) ∅ ∗ ∃ r, prngReg c r)) fun c _ => deal m K c)
  isplitr
  · unfold records
    isplitr; · iexact HI
    iexact HR
  iapply fam_pair
  isplitr [HB]
  · unfold linear
    iapply fam_pair; isplitl [Hat]; · iapply hat $$ Hat
    iapply fam_pair; isplitl [Hopen]; · iapply hopen $$ Hopen
    iapply (toks_all (F := F)) $$ Htok
  · iexact HB

/-! ## The run -/

theorem unscoped_eq : ∀ sm : SemLoc sig, sm.isScoped .tc = false → sm = .reg barS := by decide +kernel

theorem vend_arg (c : Dev nD) (r : Ref sig .tc) (h : r ∉ main_v14 :: Gen.hostOps0_W) : Vend m c (Proc.devRef .tc r) = m ((c : Thread nD τ).loc r) :=
  (vend_ne m c _ (StableHlo.devRef_ne_of_ne (List.ne_of_not_mem_cons h))).trans
    (Gen.V1_of m c r (List.not_mem_of_not_mem_cons h))

set_option backward.isDefEq.respectTransparency.types false in
/-- The whole program's run, from any memory: the result on every device, the arguments as they were, every counter at zero. -/
theorem run_main : θ_run defs (onTc (τ := τ) (main (F := F))) ⟨m, fun _ => 0, ρ⟩ (fun r =>
    (∀ c : Dev nD, r.2.mem ((c : Thread nD τ).loc main_v14) = outV (ins m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) := by
  refine Pipeline.θ_run_regions_kit_dev_sems (pcfgs (F := F)) Gen.adm (dats m) () Gen.cellOf_inj EP defs₀ 𝒱₀ L lv m ρ main
    (Gen.segs m 𝒱₀ L lv (fun _ => E0 m) () (dats m) (reg m))
    (fun c Q => by
      rewrite [Gen.main_chain c, Seg.run_eq_chain,
        show (Gen.segs m 𝒱₀ L lv (fun _ => E0 m) () (dats m) (reg m) c).map Seg.prog = [
          StableHlo.seq (Gen.hostOps0 c),
          Prog.lift (.customCall (Pipeline.entry 0) ()) ] from rfl]
      dsimp (config := { failIfUnchanged := false }) only
      exact .rfl)
    (fun c => by simp only [Gen.segs, Seg.pipes_host, Seg.pipes_region, Seg.pipes_nil]; decide) O₀ L_of_ne G u₀ fund_u₀
    (T₀ := fun c => iprop(StableHlo.held (c : Thread nD τ) (Pipeline.ucRefs τ sig) (Gen.V0 m c) ∗ E0 m c))
    (Tₙ := Tn m)
    (hch := fun c => ⟨.rfl, reg_pre m c, reg_post m c⟩)
    (hinit := ?_) (QY := fun c s => (∀ r : Ref sig .tc, Proc.devRef .tc r ∈ Pipeline.ucRefs τ sig → s.mem ((c : Thread nD τ).loc r) = Vend m c (Proc.devRef .tc r)) ∧ s.sem (bar c) = 0)
    (hfin := fun c s' => ?_)
    (hQ := fun s h hs => ⟨fun c =>
      have a := (h c).1
      have u : ∀ r : Ref sig .tc, ¬ (Proc.devRef (τ := τ) .tc r).isScoped → Proc.devRef .tc r ∈ Pipeline.ucRefs τ sig := fun r hr =>
        Finset.mem_filter.mpr ⟨StableHlo.devRef_mem_tcRefs r, hr⟩
      ⟨(a main_v14 (u _ (by decide))).trans (vend_out m c),
        (a main_arg0 (u _ (by decide))).trans (vend_arg m c main_arg0 (by decide)),
        (a main_arg1 (u _ (by decide))).trans (vend_arg m c main_arg1 (by decide)),
        (a main_arg2 (u _ (by decide))).trans (vend_arg m c main_arg2 (by decide)),
        (a main_arg3 (u _ (by decide))).trans (vend_arg m c main_arg3 (by decide)),
        (a main_arg4 (u _ (by decide))).trans (vend_arg m c main_arg4 (by decide))⟩,
      sem_eq_zero hs fun c sm hsm => by
        obtain rfl := unscoped_eq sm hsm
        exact (h c).2⟩)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MM F)) := by
      rw [← bigSep_sep']
      exact bigSep_mono fun c _ => by rw [← Pipeline.unscopedBufs_held (Ix := Unit) (Name := ℕ) (U := UU) (Lvl := ℕ) c (Gen.V0 m c)]; exact BI.Entails.refl _
    iintro ⟨H, Hla⟩
    ihave H' := hsplit $$ H
    icases H' with ⟨Hh, Hr⟩
    imod (start m ρ) $$ [Hr Hla] with HE
    · isplitl [Hr]; · iexact Hr
      iexact Hla
    imodintro
    iapply fam_pair
    isplitl [Hh]; · iexact Hh
    iexact HE
  · unfold Tn StableHlo.held
    iintro ⟨⟨Hh, Hb⟩, HSI⟩
    icombine HSI Hb gives %hb
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨fun r hr => h (Proc.devRef .tc r) hr, by simpa using hb⟩
    iexact HSI

end Cert.KernelIdeal.Run

end
-- ==== Proof.Ref.lean ====
/- The reference's run: what its result holds, as one function of its arguments. -/
module

public import proofs.«01_k».proof.ReferenceIdeal
public import proofs.«01_k».proof.Proof.Gen.ReferenceIdeal
public import Idealize.ShloMosaic.Lib.StableHlo.Run
public import Idealize.ShloMosaic.Lib.Quiescent

@[expose] public section

noncomputable section

namespace Cert.ReferenceIdeal.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The value -/

/-- Which pairs of a row and a column lie inside the band. -/
def band : IVec S2048x4096 1 :=
  cmpi .sle (absi (subi (broadcastInDim S2048x4096 ![0, 1] bcast_S2048x1_S2048x4096_0_1 (broadcastInDim S2048x1 ![0] bcast_S2048_S2048x1_0 (iotaInDim S2048 32 0)))
      (broadcastInDim S2048x4096 ![0, 1] bcast_S1x4096_S2048x4096_0_1 (broadcastInDim S1x4096 ![1] bcast_S4096_S1x4096_1 (iotaInDim S4096 32 0)))))
    (broadcastInDim S2048x4096 ![] bcast_S_S2048x4096 (constantI S_ 32 128#32))
/-- Which rows have a column inside the band. -/
def keep : IVec S2048 1 := Host.reduce IntOp.ori band (constantI S_ 1 0#1) reducesTo_S2048x4096_S2048_d1 h_S_
def keepC : IVec S1x1x2048x1 1 := broadcastInDim S1x1x2048x1 ![2] bcast_S2048_S1x1x2048x1_2 keep

/-- The queries. -/
def queries (x : FVec F S1x2048x1024 .f32) (wq : FVec F S1024x8192 .f32) : FVec F S1x2048x64x128 .f32 :=
  shapeCast S1x2048x64x128 (Host.dotGeneral dot_S1x2048x1024_S1024x8192_S1x2048x8192_2_0_01_1_n_n none x wq : FVec F S1x2048x8192 .f32)
    shapeCasts_S1x2048x8192_S1x2048x64x128
/-- The scores, masked. -/
def scores (x : FVec F S1x2048x1024 .f32) (wq : FVec F S1024x8192 .f32) (k : FVec F S1x4096x64x128 .f32) : FVec F S1x64x2048x4096 .f32 :=
  select (broadcastInDim S1x64x2048x4096 ![0, 1, 2, 3] bcast_S1x1x2048x4096_S1x64x2048x4096_0_1_2_3
      (broadcastInDim S1x1x2048x4096 ![2, 3] bcast_S2048x4096_S1x1x2048x4096_2_3 band))
    (mulf (Host.dotGeneral dot_S1x2048x64x128_S1x4096x64x128_S1x64x2048x4096_3_3_1_1_02_02 none (queries x wq) k)
      (broadcastInDim S1x64x2048x4096 ![] bcast_S_S1x64x2048x4096 (constant S_ .f32 0x3DB504F3#32)))
    (broadcastInDim S1x64x2048x4096 ![] bcast_S_S1x64x2048x4096 (constant S_ .f32 0xFF800000#32))
/-- Their exponentials, each row's greatest taken off. -/
def exps (s : FVec F S1x64x2048x4096 .f32) : FVec F S1x64x2048x4096 .f32 :=
  Host.exp (subf s (broadcastInDim S1x64x2048x4096 ![0, 1, 2, 3] bcast_S1x64x2048x1_S1x64x2048x4096_0_1_2_3
    (broadcastInDim S1x64x2048x1 ![0, 1, 2] bcast_S1x64x2048_S1x64x2048x1_0_1_2
      (Host.reduce FloatOps.maximumf s (constant S_ .f32 0xFF800000#32) reducesTo_S1x64x2048x4096_S1x64x2048_d3 h_S_))))
/-- The weights: the exponentials over their row's sum. -/
def weights (e : FVec F S1x64x2048x4096 .f32) : FVec F S1x64x2048x4096 .f32 :=
  select (broadcastInDim S1x64x2048x4096 ![0, 1, 2, 3] bcast_S1x1x2048x1_S1x64x2048x4096_0_1_2_3 keepC)
    (Host.divf e (broadcastInDim S1x64x2048x4096 ![0, 1, 2, 3] bcast_S1x64x2048x1_S1x64x2048x4096_0_1_2_3
      (select (broadcastInDim S1x64x2048x1 ![0, 1, 2, 3] bcast_S1x1x2048x1_S1x64x2048x1_0_1_2_3 keepC)
        (broadcastInDim S1x64x2048x1 ![0, 1, 2] bcast_S1x64x2048_S1x64x2048x1_0_1_2
          (Host.reduceAdd e (constant S_ .f32 0x00000000#32) reducesTo_S1x64x2048x4096_S1x64x2048_d3 h_S_))
        (broadcastInDim S1x64x2048x1 ![] bcast_S_S1x64x2048x1 (constant S_ .f32 0x3F800000#32)))))
    (broadcastInDim S1x64x2048x4096 ![] bcast_S_S1x64x2048x4096 (constant S_ .f32 0x00000000#32))
/-- The attended values, the heads side by side. -/
def ctx (v : FVec F S1x4096x64x128 .f32) (w : FVec F S1x64x2048x4096 .f32) : FVec F S1x2048x8192 .f32 :=
  shapeCast S1x2048x8192 (transpose S1x2048x64x128 [0, 3, 1, 2]
    (Host.dotGeneral dot_S1x4096x64x128_S1x64x2048x4096_S1x64x128x2048_1_3_3_2_02_01 none v w : FVec F S1x64x128x2048 .f32)
    transposes_S1x64x128x2048_S1x2048x64x128_0_3_1_2) shapeCasts_S1x2048x64x128_S1x2048x8192
/-- The result. -/
def out (x : FVec F S1x2048x1024 .f32) (wq : FVec F S1024x8192 .f32) (k v : FVec F S1x4096x64x128 .f32) (wo : FVec F S8192x1024 .f32) :
    FVec F S1x2048x1024 .f32 :=
  Host.dotGeneral dot_S1x2048x8192_S8192x1024_S1x2048x1024_2_0_01_1_n_n none (ctx v (weights (exps (scores x wq k)))) wo

/-! ## The run -/

/-- The program's operations, in order. -/
abbrev ops : List (HloOp τ sig (Elt F)) :=
  [ binary main_arg0 main_arg1 main_v0 (fun l r => Host.dotGeneral dot_S1x2048x1024_S1024x8192_S1x2048x8192_2_0_01_1_n_n none l r),
    reshape main_v0 main_v1 (rfl : (.f32 : EltTy) = .f32) shapeCasts_S1x2048x8192_S1x2048x64x128,
    nullary main_v2 (iotaInDim S2048 32 0),
    unary main_v2 main_v3 (broadcastInDim S2048x1 ![0] bcast_S2048_S2048x1_0),
    nullary main_v4 (iotaInDim S4096 32 0),
    unary main_v4 main_v5 (broadcastInDim S1x4096 ![1] bcast_S4096_S1x4096_1),
    unary main_v3 main_v6 (broadcastInDim S2048x4096 ![0, 1] bcast_S2048x1_S2048x4096_0_1),
    unary main_v5 main_v7 (broadcastInDim S2048x4096 ![0, 1] bcast_S1x4096_S2048x4096_0_1),
    binary main_v6 main_v7 main_v8 subi,
    unary main_v8 main_v9 absi,
    nullary main_c (constantI S_ 32 128#32),
    unary main_c main_v10 (broadcastInDim S2048x4096 ![] bcast_S_S2048x4096),
    binary main_v9 main_v10 main_v11 (cmpi .sle),
    binary main_v1 main_arg2 main_v12 (fun l r => Host.dotGeneral dot_S1x2048x64x128_S1x4096x64x128_S1x64x2048x4096_3_3_1_1_02_02 none l r),
    nullary main_cst (constant S_ .f32 0x3DB504F3#32),
    unary main_cst main_v13 (broadcastInDim S1x64x2048x4096 ![] bcast_S_S1x64x2048x4096),
    binary main_v12 main_v13 main_v14 mulf,
    unary main_v11 main_v15 (broadcastInDim S1x1x2048x4096 ![2, 3] bcast_S2048x4096_S1x1x2048x4096_2_3),
    nullary main_cst_0 (constant S_ .f32 0xFF800000#32),
    unary main_cst_0 main_call0_v0 id,
    unary main_v15 main_call0_v1 (broadcastInDim S1x64x2048x4096 ![0, 1, 2, 3] bcast_S1x1x2048x4096_S1x64x2048x4096_0_1_2_3),
    unary main_call0_v0 main_call0_v2 (broadcastInDim S1x64x2048x4096 ![] bcast_S_S1x64x2048x4096),
    ternary main_call0_v1 main_v14 main_call0_v2 main_v16 select,
    nullary main_cst_1 (constant S_ .f32 0xFF800000#32),
    binary main_v16 main_cst_1 main_v17 (fun x v => Host.reduce FloatOps.maximumf x v reducesTo_S1x64x2048x4096_S1x64x2048_d3 h_S_),
    unary main_v17 main_v18 (broadcastInDim S1x64x2048x1 ![0, 1, 2] bcast_S1x64x2048_S1x64x2048x1_0_1_2),
    unary main_v18 main_v19 (broadcastInDim S1x64x2048x4096 ![0, 1, 2, 3] bcast_S1x64x2048x1_S1x64x2048x4096_0_1_2_3),
    binary main_v16 main_v19 main_v20 subf,
    unary main_v20 main_v21 Host.exp,
    nullary main_c_2 (constantI S_ 1 0#1),
    binary main_v11 main_c_2 main_v22 (fun x v => Host.reduce IntOp.ori x v reducesTo_S2048x4096_S2048_d1 h_S_),
    unary main_v22 main_v23 (broadcastInDim S1x1x2048x1 ![2] bcast_S2048_S1x1x2048x1_2),
    nullary main_cst_3 (constant S_ .f32 0x00000000#32),
    binary main_v21 main_cst_3 main_v24 (fun x v => Host.reduceAdd x v reducesTo_S1x64x2048x4096_S1x64x2048_d3 h_S_),
    unary main_v24 main_v25 (broadcastInDim S1x64x2048x1 ![0, 1, 2] bcast_S1x64x2048_S1x64x2048x1_0_1_2),
    nullary main_cst_4 (constant S_ .f32 0x3F800000#32),
    unary main_cst_4 main_call1_v0 id,
    unary main_v23 main_call1_v1 (broadcastInDim S1x64x2048x1 ![0, 1, 2, 3] bcast_S1x1x2048x1_S1x64x2048x1_0_1_2_3),
    unary main_call1_v0 main_call1_v2 (broadcastInDim S1x64x2048x1 ![] bcast_S_S1x64x2048x1),
    ternary main_call1_v1 main_v25 main_call1_v2 main_v26 select,
    unary main_v26 main_v27 (broadcastInDim S1x64x2048x4096 ![0, 1, 2, 3] bcast_S1x64x2048x1_S1x64x2048x4096_0_1_2_3),
    binary main_v21 main_v27 main_v28 Host.divf,
    unary main_v22 main_v29 (broadcastInDim S1x1x2048x1 ![2] bcast_S2048_S1x1x2048x1_2),
    nullary main_cst_5 (constant S_ .f32 0x00000000#32),
    unary main_cst_5 main_call2_v0 id,
    unary main_v29 main_call2_v1 (broadcastInDim S1x64x2048x4096 ![0, 1, 2, 3] bcast_S1x1x2048x1_S1x64x2048x4096_0_1_2_3),
    unary main_call2_v0 main_call2_v2 (broadcastInDim S1x64x2048x4096 ![] bcast_S_S1x64x2048x4096),
    ternary main_call2_v1 main_v28 main_call2_v2 main_v30 select,
    binary main_arg3 main_v30 main_v31 (fun l r => Host.dotGeneral dot_S1x4096x64x128_S1x64x2048x4096_S1x64x128x2048_1_3_3_2_02_01 none l r),
    unary main_v31 main_v32 (transpose S1x2048x64x128 [0, 3, 1, 2] · transposes_S1x64x128x2048_S1x2048x64x128_0_3_1_2),
    reshape main_v32 main_v33 (rfl : (.f32 : EltTy) = .f32) shapeCasts_S1x2048x64x128_S1x2048x8192,
    binary main_v33 main_arg4 main_v34 (fun l r => Host.dotGeneral dot_S1x2048x8192_S8192x1024_S1x2048x1024_2_0_01_1_n_n none l r) ]

theorem main_eq (c : Dev nD) : main (F := F) c = seq ops := rfl

theorem out_eq (V : Valuation τ sig (Elt F)) : after ops V (main_v34 : DevRef τ sig)
    = out (V (main_arg0 : DevRef τ sig)) (V (main_arg1 : DevRef τ sig)) (V (main_arg2 : DevRef τ sig)) (V (main_arg3 : DevRef τ sig)) (V (main_arg4 : DevRef τ sig)) := by
  after_results
  rfl

theorem arg0_eq (V : Valuation τ sig (Elt F)) : after ops V (main_arg0 : DevRef τ sig) = V (main_arg0 : DevRef τ sig) := by after_results
theorem arg1_eq (V : Valuation τ sig (Elt F)) : after ops V (main_arg1 : DevRef τ sig) = V (main_arg1 : DevRef τ sig) := by after_results
theorem arg2_eq (V : Valuation τ sig (Elt F)) : after ops V (main_arg2 : DevRef τ sig) = V (main_arg2 : DevRef τ sig) := by after_results
theorem arg3_eq (V : Valuation τ sig (Elt F)) : after ops V (main_arg3 : DevRef τ sig) = V (main_arg3 : DevRef τ sig) := by after_results
theorem arg4_eq (V : Valuation τ sig (Elt F)) : after ops V (main_arg4 : DevRef τ sig) = V (main_arg4 : DevRef τ sig) := by after_results

theorem no_bufs : (Finset.univ.filter fun b : Ref sig .tc => b.isScoped) = ∅ := by decide
theorem no_sems : (Finset.univ.filter fun sm : SemLoc sig => sm.isScoped .tc) = ∅ := by decide

theorem ops_sub : (ops : List (HloOp τ sig (Elt F))).Forall fun op => op.bufs ⊆ tcRefs τ sig :=
  ⟨binary_bufs_sub .., reshape_bufs_sub .., nullary_bufs_sub .., unary_bufs_sub .., nullary_bufs_sub .., unary_bufs_sub .., unary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., unary_bufs_sub .., binary_bufs_sub .., unary_bufs_sub .., nullary_bufs_sub .., binary_bufs_sub .., unary_bufs_sub .., nullary_bufs_sub .., binary_bufs_sub .., unary_bufs_sub .., nullary_bufs_sub .., unary_bufs_sub .., unary_bufs_sub .., unary_bufs_sub .., ternary_bufs_sub .., unary_bufs_sub .., binary_bufs_sub .., unary_bufs_sub .., nullary_bufs_sub .., unary_bufs_sub .., unary_bufs_sub .., unary_bufs_sub .., ternary_bufs_sub .., binary_bufs_sub .., unary_bufs_sub .., reshape_bufs_sub .., binary_bufs_sub ..⟩

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v34) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun r h => ⟨fun c => ⟨(h c main_v34).trans (out_eq _), (h c main_arg0).trans (arg0_eq _), (h c main_arg1).trans (arg1_eq _),
      (h c main_arg2).trans (arg2_eq _), (h c main_arg3).trans (arg3_eq _), (h c main_arg4).trans (arg4_eq _)⟩, sem_eq_zero_of_no_sems (by decide) r.2⟩)
    (run_seq no_bufs no_sems defs main (fun _ => ops) main_eq (fun _ => ops_sub) m ρ)

end Cert.ReferenceIdeal.Ref

end
-- ==== Proof.Frames.lean ====
/- The frames of the kernel as printed and as idealized, and what the idealization names. -/
module

public import proofs.«01_k».proof.Defs
public import proofs.«01_k».proof.Proof.Gen.Kernel
public import proofs.«01_k».proof.Proof.Launch
public import proofs.«01_k».proof.Proof.Ref

@[expose] public section

noncomputable section

namespace Cert.Proof

open Idealize.ShloMosaic Idealize.ShloMosaic.TcCoe Idealize.SL.Sem

/-- At the machine's floats a named constant is read as the word it was printed from. -/
@[reducible] def bitsNamed : Named Bits := ⟨fun _ _ {φ} b => Scalar.ofBits φ b⟩

theorem frame_ideal : Cert.quiescent_KernelIdeal := fun m ρ _ =>
  (θ_run Cert.KernelIdeal.defs _ _).mono (fun _ h => ⟨fun c => (h.1 c).2, h.2⟩) (Cert.KernelIdeal.Run.run_main (F := Ideal) m ρ)

theorem frame_reference : Cert.quiescent_ReferenceIdeal := fun m ρ _ =>
  (θ_run Cert.ReferenceIdeal.defs _ _).mono (fun _ h => ⟨fun c => (h.1 c).2, h.2⟩) (Cert.ReferenceIdeal.Ref.run_main (F := Ideal) m ρ)

theorem named : Cert.preserves_Kernel_KernelIdeal := IdealRules.named_const.statement _ _ _ _ _ rfl

theorem run_bits (m : (ℓ : Loc Cert.KernelIdeal.nD Cert.KernelIdeal.τ Cert.KernelIdeal.sig) → Buf (Elt Bits) ℓ) (ρ : Dev Cert.KernelIdeal.nD → PrngReg) :
    letI := bitsNamed
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) := by
  letI := bitsNamed
  exact (θ_run Cert.KernelIdeal.defs _ _).mono (fun _ h => ⟨fun c => (h.1 c).2, h.2⟩) (Cert.KernelIdeal.Run.run_main (F := Bits) m ρ)

attribute [local instance] bitsNamed
set_option maxRecDepth 65536 in
theorem defs0_eq : Cert.Kernel.defs₀ (F := Bits) = Cert.KernelIdeal.defs₀ := by
  refine congrArg Defs.onTc (funext fun b => funext fun x => ?_)
  match b with
  | 0 => rfl
set_option maxRecDepth 65536 in
theorem defs_eq : Cert.Kernel.defs (F := Bits) = Cert.KernelIdeal.defs := congrArg (Pipeline.defs (Cert.Kernel.pcfgs (F := Bits))) defs0_eq
set_option maxRecDepth 65536 in
theorem main_eq : Cert.Kernel.main (F := Bits) = Cert.KernelIdeal.main := funext fun d => rfl

theorem frame_kernel : Cert.quiescent_Kernel := fun m ρ _ => by
  rw [defs_eq, main_eq]
  exact run_bits m ρ

end Cert.Proof

end
-- ==== Proof.Mask.lean ====
module

public import Idealize.ShloMosaic.PureOps
public import Idealize.ShloMosaic.Lib.WordCmp

@[expose] public section

namespace Cert.Mask

open Idealize.ShloMosaic

/-- Whether row `u` and column `v` are at most 128 apart. -/
def near (u v : ℕ) : Prop := u ≤ v + 128 ∧ v ≤ u + 128
instance (u v : ℕ) : Decidable (near u v) := by unfold near; infer_instance

/-- The words' test of it. -/
theorem test (u v : ℕ) (hu : u < 8192) (hv : v < 8192) :
    IntOp.cmpi .sle (IntOp.absi (IntOp.subi (BitVec.ofNat 32 u) (BitVec.ofNat 32 v))) 128#32 = BitVec.ofBool (decide (near u v)) := by
  have hd : (IntOp.subi (BitVec.ofNat 32 u) (BitVec.ofNat 32 v)).toNat = (4294967296 - v + u) % 4294967296 := by
    unfold IntOp.subi
    rw [BitVec.toNat_sub, BitVec.toNat_ofNat, BitVec.toNat_ofNat]
    omega
  generalize IntOp.subi (BitVec.ofNat 32 u) (BitVec.ofNat 32 v) = w at hd
  have ha : (IntOp.absi w).toNat = if v ≤ u then u - v else v - u := by
    unfold IntOp.absi
    rw [BitVec.msb_eq_decide]
    split <;> rename_i h <;> rw [decide_eq_true_iff] at h
    · rw [BitVec.toNat_neg, hd]
      split <;> omega
    · rw [hd]
      split <;> omega
  rw [WordCmp.cmpi_sle_of_lt (by rw [ha]; split <;> omega) (by decide), ha]
  congr 1
  rw [decide_eq_decide]
  unfold near
  show (_ : ℕ) ≤ 128 ↔ _
  split <;> omega

end Cert.Mask
-- ==== Proof.ValK.lean ====
/- The kernel's arithmetic read at an index, floats as extended reals. -/
module

public import proofs.«01_k».proof.Proof.Body
public import proofs.«01_k».proof.Proof.Mask
public import Idealize.ShloMosaic.Lib.MatmulPlain
public import Idealize.ShloMosaic.Lib.IdealHost
public import Idealize.ShloMosaic.Lib.Pipeline.Value
public import Idealize.ShloMosaic.PureOps.Ideal.Laws

@[expose] public section

noncomputable section

namespace Cert.KernelIdeal.Run

open Idealize.ShloMosaic Idealize.ShloMosaic.ValueIdx
open Cert.KernelIdeal
open Cert.KernelIdeal.Facts₀ Cert.KernelIdeal.Facts
open scoped BigOperators

/-! ## Windows of columns, and blocks with a leading axis of one -/

/-- Column `d` of head `g`. -/
def lane (g : Fin 8) (d : Fin 128) : Fin 1024 := ⟨g.val * 128 + d.val, by omega⟩

theorem slice_apply {A : ℕ} (x : (⟨2, ![A, 1024]⟩ : Shape).Idx → EReal) (g : Fin 8)
    (h : (⟨2, ![A, 1024]⟩ : Shape).Slices ![0, g.val * 128] ⟨2, ![A, 128]⟩) (i : Fin A) (d : Fin 128) :
    extractStridedSlice ⟨2, ![A, 128]⟩ ![0, g.val * 128] x h (ix2 i d) = x (ix2 i (lane g d)) :=
  extractStridedSlice_apply _ x h _ _ fun a => by
    match a with
    | 0 => exact (Nat.zero_add _).symm
    | 1 => rfl

theorem drop_apply {A B : ℕ} (x : (⟨3, ![1, A, B]⟩ : Shape).Idx → EReal) (h : (⟨3, ![1, A, B]⟩ : Shape).ShapeCasts ⟨2, ![A, B]⟩)
    (i : Fin A) (n : Fin B) : shapeCast ⟨2, ![A, B]⟩ x h (ix2 i n) = x (ix3 0 i n) :=
  shapeCast_apply x h _ _ (by rw [Shape.rowMajor_val_two, Shape.rowMajor_val_three]; show (0 * A + i.val) * B + n.val = i.val * B + n.val; rw [Nat.zero_mul, Nat.zero_add])

theorem add_apply {A B : ℕ} (x : (⟨2, ![A, B]⟩ : Shape).Idx → EReal) (h : (⟨2, ![A, B]⟩ : Shape).ShapeCasts ⟨3, ![1, A, B]⟩)
    (i : Fin A) (n : Fin B) : shapeCast ⟨3, ![1, A, B]⟩ x h (ix3 0 i n) = x (ix2 i n) :=
  shapeCast_apply x h _ _ (by rw [Shape.rowMajor_val_two, Shape.rowMajor_val_three]; show i.val * B + n.val = (0 * A + i.val) * B + n.val; rw [Nat.zero_mul, Nat.zero_add])

/-! ## The mask -/

theorem maskOf_apply (a b : ℕ) (ha : a < 4096) (hb : b < 4096) (i : Fin 128) (p : Fin 384) :
    maskOf (F := Ideal) (BitVec.ofNat 32 a) (BitVec.ofNat 32 b) (ix2 i p) = if Mask.near (a + i.val) (b + p.val) then (0 : EReal) else ⊥ := by
  have e : cmpi .sle (absi (subi (addi (broadcast S128x384 (BitVec.ofNat 32 a)) (iota .tc S128x384 32 [0] iota_S128x384_d0_w32))
      (addi (broadcast S128x384 (BitVec.ofNat 32 b)) (iota .tc S128x384 32 [1] iota_S128x384_d1_w32)))) (broadcast S128x384 128#32) (ix2 i p)
      = BitVec.ofBool (decide (Mask.near (a + i.val) (b + p.val))) := by
    rw [← Mask.test _ _ (by omega) (by omega), BitVec.ofNat_add, BitVec.ofNat_add]
    show IntOp.cmpi .sle (IntOp.absi (IntOp.subi (BitVec.ofNat 32 a + iota .tc S128x384 32 [0] iota_S128x384_d0_w32 (ix2 i p))
      (BitVec.ofNat 32 b + iota .tc S128x384 32 [1] iota_S128x384_d1_w32 (ix2 i p)))) 128#32 = _
    rw [iota_single_apply, iota_single_apply]
  unfold maskOf
  rw [select_apply, e]
  by_cases h : Mask.near (a + i.val) (b + p.val)
  · rw [if_pos h, decide_eq_true h]
    exact Ideal.ofBits_zero_f32
  · rw [if_neg h, decide_eq_false h]
    exact IdealRules.named_const.ideal_named_scalar _ _ _ _ rfl

/-! ## A head -/

section
variable (q : FVec Ideal S128x1024 .bf16) (k v : FVec Ideal S384x1024 .bf16) (m : FVec Ideal S128x384 .f32) (g : Fin 8)

theorem expOf_apply (i : Fin 128) (p : Fin 384) :
    expOf q k m g (ix2 i p) = Ideal.exp ((∑ d : Fin 128, q (ix2 i (lane g d)) * k (ix2 p (lane g d))) + m (ix2 i p)) := by
  unfold expOf
  refine congrArg (fun z : EReal => Ideal.exp (z + m (ix2 i p))) ?_
  refine (Ideal.matmul_transposedRhs_apply none _ _ _ i p).trans ?_
  refine (congrArg (· + _) Ideal.ofBits_zero_f32).trans ((zero_add _).trans (Finset.sum_congr rfl fun d _ => ?_))
  exact congrArg₂ (· * ·) (slice_apply q g (sl_q g) i d) (slice_apply k g (sl_k g) p d)

theorem headOf_apply (i d : Fin 128) :
    headOf q k v m g (ix2 i d) = (∑ p : Fin 384, expOf q k m g (ix2 i p) * v (ix2 p (lane g d))) * Ideal.div 1 (∑ p : Fin 384, expOf q k m g (ix2 i p)) := by
  unfold headOf
  refine congrArg₂ (fun y z : EReal => y * z) ?_ ?_
  · refine (Ideal.matmul_plain_apply none _ _ _ i d).trans ?_
    refine (congrArg (· + _) Ideal.ofBits_zero_f32).trans ((zero_add _).trans (Finset.sum_congr rfl fun p _ => ?_))
    exact congrArg (expOf q k m g (ix2 i p) * ·) (slice_apply v g (sl_k g) p d)
  · refine (broadcastTo_apply _ broadcasts_S128x1_S128x128 (ix2 i d) (ix2 i 0) fun a => by match a with | 0 => rfl | 1 => rfl).trans ?_
    show Ideal.div (Ideal.ofBits .f32 0x3F800000#32) _ = _
    refine congrArg₂ Ideal.div Ideal.ofBits_one_f32 ?_
    refine (shapeCast_apply _ shapeCasts_S128_S128x1 (ix2 i 0) (ix1 i) ?_).trans ?_
    · rw [Shape.rowMajor_val_one, Shape.rowMajor_val_two]; show i.val = i.val * 1 + 0; omega
    · refine (Ideal.multiReduction_add_single _ _ reduces_S128x384_S128 _ rfl (ix1 i)).trans (Finset.sum_congr rfl fun p _ => congrArg (expOf q k m g) ?_)
      funext a; match a with | 0 => rfl | 1 => rfl

end

/-! ## A block -/

/-- The queries of a block. -/
def qN (xb : Vec Ideal S1x128x1024 .bf16) (wq : Vec Ideal S1024x1024 .bf16) (i : Fin 128) (n : Fin 1024) : EReal :=
  ∑ m : Fin 1024, xb (ix3 0 i m) * wq (ix2 m n)

/-- The exponentials of a row against its window. -/
def eN (a b : ℕ) (kw : Vec Ideal S1x384x1024 .f32) (xb : Vec Ideal S1x128x1024 .bf16) (wq : Vec Ideal S1024x1024 .bf16)
    (g : Fin 8) (i : Fin 128) (p : Fin 384) : EReal :=
  Ideal.exp ((∑ d : Fin 128, qN xb wq i (lane g d) * kw (ix3 0 p (lane g d))) + if Mask.near (a + i.val) (b + p.val) then (0 : EReal) else ⊥)

/-- A head's weighted values. -/
def headN (a b : ℕ) (kw vw : Vec Ideal S1x384x1024 .f32) (xb : Vec Ideal S1x128x1024 .bf16) (wq : Vec Ideal S1024x1024 .bf16)
    (g : Fin 8) (i d : Fin 128) : EReal :=
  (∑ p : Fin 384, eN a b kw xb wq g i p * vw (ix3 0 p (lane g d))) * Ideal.div 1 (∑ p : Fin 384, eN a b kw xb wq g i p)

theorem headOf_eq (q : FVec Ideal S128x1024 .bf16) (k v : FVec Ideal S384x1024 .bf16) (a b : ℕ) (ha : a < 4096) (hb : b < 4096)
    (a' b' : BitVec 32) (ea : a' = BitVec.ofNat 32 a) (eb : b' = BitVec.ofNat 32 b) (kw vw : Vec Ideal S1x384x1024 .f32)
    (xb : Vec Ideal S1x128x1024 .bf16) (wq : Vec Ideal S1024x1024 .bf16) (g : Fin 8) (i d : Fin 128)
    (hq : ∀ n, q (ix2 i n) = qN xb wq i n) (hk : ∀ p n, k (ix2 p n) = kw (ix3 0 p n)) (hv : ∀ p n, v (ix2 p n) = vw (ix3 0 p n)) :
    headOf q k v (maskOf a' b') g (ix2 i d) = headN a b kw vw xb wq g i d := by
  have ee : ∀ p, expOf q k (maskOf a' b') g (ix2 i p) = eN a b kw xb wq g i p := fun p => by
    rw [expOf_apply, ea, eb, maskOf_apply a b ha hb]
    simp only [hq, hk]
    rfl
  rw [headOf_apply]
  simp only [ee, hv]
  rfl

theorem partOf_apply (c : Dev nD) (r : Fin 2) (h a b : ℕ) (ha : a < 4096) (hb : b < 4096) (ea : rowW c r h = BitVec.ofNat 32 a)
    (eb : winW c r h = BitVec.ofNat 32 b) (kw vw : Vec Ideal S1x384x1024 .f32) (xb : Vec Ideal S1x128x1024 .bf16)
    (wq wo : Vec Ideal S1024x1024 .bf16) (i : Fin 128) (n : Fin 1024) :
    partOf c r h kw vw xb wq wo (ix3 0 i n)
      = ∑ k : Fin 1024, headN a b kw vw xb wq ⟨k.val / 128, by omega⟩ i ⟨k.val % 128, by omega⟩ * wo (ix2 k n) := by
  have eq : ∀ (m : Fin 1024), (truncf .bf16 (matmul dot_S128x1024_S1024x1024_S128x1024_1_0_0_1_n_n none
      (shapeCast S128x1024 xb shapeCasts_S1x128x1024_S128x1024 : FVec Ideal S128x1024 .bf16)
      (shapeCast S1024x1024 wq shapeCasts_S1024x1024_S1024x1024 : FVec Ideal S1024x1024 .bf16) (constant S128x1024 .f32 0x00000000#32))
      bitsLt_bf16_f32 : FVec Ideal S128x1024 .bf16) (ix2 i m) = qN xb wq i m := fun m => by
    refine (Ideal.matmul_plain_apply none _ _ _ i m).trans ?_
    refine (congrArg (· + _) Ideal.ofBits_zero_f32).trans ((zero_add _).trans (Finset.sum_congr rfl fun l _ => ?_))
    exact congrArg₂ (· * ·) (drop_apply xb shapeCasts_S1x128x1024_S128x1024 i l) (congrFun (shapeCast_self wq shapeCasts_S1024x1024_S1024x1024) _)
  have ek : ∀ (w : Vec Ideal S1x384x1024 .f32) (p : Fin 384) (m : Fin 1024), (truncf .bf16 (shapeCast S384x1024 w shapeCasts_S1x384x1024_S384x1024 : FVec Ideal S384x1024 .f32)
      bitsLt_bf16_f32 : FVec Ideal S384x1024 .bf16) (ix2 p m) = w (ix3 0 p m) := fun w p m => drop_apply w shapeCasts_S1x384x1024_S384x1024 p m
  unfold partOf
  rw [shapeCast_self]
  refine (add_apply _ shapeCasts_S128x1024_S1x128x1024 i n).trans ?_
  refine (Ideal.matmul_plain_apply none _ _ _ i n).trans ?_
  refine (congrArg (· + _) Ideal.ofBits_zero_f32).trans ((zero_add _).trans (Finset.sum_congr rfl fun l _ => ?_))
  refine congrArg₂ (fun y z : EReal => y * z) ?_ (congrFun (shapeCast_self wo shapeCasts_S1024x1024_S1024x1024) _)
  refine (concatenate_ofFn_apply (t := S128x1024) (s₁ := S128x128) 1 (N := 8) (headOf _ _ _ _)
    concatenates_S128x128_S128x128_S128x128_S128x128_S128x128_S128x128_S128x128_S128x128_S128x1024_d1 rfl 128 rfl (ix2 i l)
    ⟨l.val / 128, by omega⟩ rfl (ix2 i ⟨l.val % 128, by omega⟩) rfl fun b hb => by
      match b with
      | 0 => rfl
      | 1 => exact absurd rfl hb).trans ?_
  exact headOf_eq _ _ _ a b ha hb _ _ ea eb kw vw xb wq _ i _ eq (ek kw) (ek vw)

theorem sumOf_apply (x y : Vec Ideal S1x128x1024 .bf16) (i : Fin 128) (n : Fin 1024) :
    sumOf x y (ix2 i n) = x (ix3 0 i n) + y (ix3 0 i n) :=
  congrArg₂ (· + ·) (drop_apply x shapeCasts_S1x128x1024_S128x1024 i n) (drop_apply y shapeCasts_S1x128x1024_S128x1024 i n)

theorem accOf_apply (x y : Vec Ideal S1x128x1024 .bf16) (i : Fin 128) (n : Fin 1024) :
    accOf x y (ix3 0 i n) = x (ix3 0 i n) + y (ix3 0 i n) := by
  unfold accOf
  rw [shapeCast_self]
  exact (add_apply _ shapeCasts_S128x1024_S1x128x1024 i n).trans (sumOf_apply x y i n)

theorem xinOf_apply (x : Vec Ideal S128x1024 .bf16) (i : Fin 128) (n : Fin 1024) : xinOf x (ix3 0 i n) = x (ix2 i n) := by
  unfold xinOf
  rw [shapeCast_self, shapeCast_self]
  exact add_apply x shapeCasts_S128x1024_S1x128x1024 i n

theorem outOf_apply (f : Fin 2 → FVec Ideal S128x1024 .f32) (r : Fin 2) (i : Fin 128) (n : Fin 1024) :
    outOf (f 0) (f 1) (ix3 0 ⟨r.val * 128 + i.val, by omega⟩ n) = f r (ix2 i n) := by
  unfold outOf
  refine (add_apply _ shapeCasts_S256x1024_S1x256x1024 _ n).trans ?_
  revert r
  rw [Fin.forall_fin_two]
  constructor
  · refine concatenate_pair_apply_left (t := S256x1024) 0 (f 0) (f 1) concatenates_S128x1024_S128x1024_S256x1024_d0 _ rfl (ix2 i n) fun b => ?_
    match b with
    | 0 => show i.val = 0 * 128 + i.val; omega
    | 1 => rfl
  · refine concatenate_pair_apply_right (t := S256x1024) 0 (f 0) (f 1) concatenates_S128x1024_S128x1024_S256x1024_d0 _ rfl rfl (ix2 i n)
      (fun b hb => ?_) (by show i.val + 128 = 1 * 128 + i.val; omega)
    match b with
    | 0 => exact absurd rfl hb
    | 1 => rfl

end Cert.KernelIdeal.Run
-- ==== Proof.Win.lean ====
/- The rows, windows and blocks a device works on, as numbers, and the ring's sum over the devices. -/
module

public import proofs.«01_k».proof.Proof.Sched
public import proofs.«01_k».proof.Proof.ValK

@[expose] public section

noncomputable section

namespace Cert.KernelIdeal.Run

open Idealize.ShloMosaic
open Idealize.ShloMosaic.ValueIdx (ix3 ix4)
open Cert.KernelIdeal
open Cert.KernelIdeal.Facts₀ Cert.KernelIdeal.Facts
open scoped BigOperators

/-- The first row of ring `r`'s half of block `b`. -/
def row (r : Fin 2) (b : Fin 8) : ℕ := b.val * 256 + r.val * 128
/-- The first column of its window. -/
def win (r : Fin 2) (b : Fin 8) : ℕ := min 3712 (row r b - 128)

theorem row_lt (r : Fin 2) (b : Fin 8) : row r b + 128 ≤ 2048 := by unfold row; omega
theorem win_lt (r : Fin 2) (b : Fin 8) : win r b + 384 ≤ 4096 := by unfold win; omega

theorem rowW_eq : ∀ (c : Dev nD) (r : Fin 2) (h : Fin 8), rowW c r h.val = BitVec.ofNat 32 (row r (blk r h.val c)) := by decide +kernel
theorem winW_eq : ∀ (c : Dev nD) (r : Fin 2) (h : Fin 8), winW c r h.val = BitVec.ofNat 32 (win r (blk r h.val c)) := by decide +kernel
theorem off2_eq : ∀ (c : Dev nD) (r : Fin 2) (h g : Fin 8),
    k0_off2 c (dist r h.val) (half r) (BitVec.ofNat 32 g.val) = ![win r (blk r h.val c), c.val * 8 + g.val, 0] := by decide +kernel

variable {F : FTy → Type} [FloatOps F] [Named F] (I : Ins F)

theorem read_head (kv : Fin 2) (c : Dev nD) (off : Fin 3 → ℕ) (a b : ℕ) (e : off = ![a, b, 0])
    (inb : ∀ x, off x + S384x1x128.size x ≤ S4096x64x128.size x) (ha : a + 384 ≤ 4096) (hb' : b < 64) (p : Fin 384) (d : Fin 128) :
    (((hb kv).slice (Rect.unit (s := S4096x64x128) off S384x1x128.size inb) (fun _ => rfl)).squeeze S384x128 squeezes_S384x1x128_S384x128).view.read
      (Elt F) (kvC I kv c) (ix2 p d) = I.kv kv c (ix3 ⟨a + p.val, by omega⟩ ⟨b, hb'⟩ d) := by
  subst e
  rw [Memref.read_squeeze_slice (hb kv) _ _ _ (show S384x1x128.ShapeCasts S384x128 by decide)]
  refine (shapeCast_apply _ _ _ (ix3 p 0 d) ?_).trans ?_
  · rw [Shape.rowMajor_val_two, Shape.rowMajor_val_three]
    show (p.val * 1 + 0) * 128 + d.val = p.val * 128 + d.val
    omega
  · have ei : ∀ (R : Rect S4096x64x128) (hR : R = Rect.unit (s := S4096x64x128) ![a, b, 0] S384x1x128.size inb) (y : R.shape.Idx),
        (∀ x, (y (x.cast rfl)).val = (![p.val, 0, d.val] : Fin 3 → ℕ) x) → R.toLoadRect.idx y = ix3 ⟨a + p.val, by omega⟩ ⟨b, hb'⟩ d := by
      rintro R rfl y hy
      funext x
      apply Fin.ext
      have := hy x
      match x with
      | 0 => show a + 1 * (y 0).val = a + p.val; rw [Nat.one_mul]; exact congrArg (a + ·) this
      | 1 => show b + 1 * (y 1).val = b; rw [Nat.one_mul]; exact congrArg (b + ·) this
      | 2 => show 0 + 1 * (y 2).val = d.val; rw [Nat.one_mul, Nat.zero_add]; exact this
    revert kv
    rw [Fin.forall_fin_two]
    constructor
    · exact congrArg (I.kv 0 c) (ei _ rfl (ix3 p 0 d) fun x => by match x with | 0 => rfl | 1 => rfl | 2 => rfl)
    · exact congrArg (I.kv 1 c) (ei _ rfl (ix3 p 0 d) fun x => by match x with | 0 => rfl | 1 => rfl | 2 => rfl)

theorem winV_apply (r kv : Fin 2) (h : Fin 8) (c : Dev nD) (p : Fin 384) (g : Fin 8) (d : Fin 128) :
    winV I r kv h c (ix3 0 p (lane g d)) = I.kv kv c (ix3 ⟨win r (blk r h.val c) + p.val, by have := win_lt r (blk r h.val c); omega⟩ ⟨c.val * 8 + g.val, by have : c.val < 8 := c.isLt; omega⟩ d) := by
  have key : ∀ (g' : Fin 8) (d' : Fin 128), g' = g → d' = d → (hbB c r kv h g').view.read (Elt F) (kvC I kv c) (ix2 p d')
      = I.kv kv c (ix3 ⟨win r (blk r h.val c) + p.val, by have := win_lt r (blk r h.val c); omega⟩ ⟨c.val * 8 + g.val, by have : c.val < 8 := c.isLt; omega⟩ d) := by
    intro g' d' eg ed
    rw [eg, ed]
    exact read_head I kv c _ _ _ (off2_eq c r h g) (off2_inb c r h g) (win_lt _ _) (by have : c.val < 8 := c.isLt; omega) p d
  exact key _ _ (Fin.ext (by show (g.val * 128 + d.val) / 128 = _; omega)) (Fin.ext (by show (g.val * 128 + d.val) % 128 = _; omega))

/-! ## The ring's sum -/

theorem blk_back : ∀ (r : Fin 2) (c : Dev nD) (t : Fin 8), blk r t.val ((src r)^[(8 - t.val) % 8] c) = c := by decide +kernel
theorem back_bij (r : Fin 2) (c : Dev nD) : Function.Bijective fun t : Fin 8 => (src r)^[t.val] c := by
  revert r c; decide +kernel

/-- The products a device's block gathers on its way round the ring are every device's. -/
theorem ring_sum (r : Fin 2) (c : Dev nD) (f : Dev nD → EReal) :
    f c + (f ((src r)^[1] c) + (f ((src r)^[2] c) + (f ((src r)^[3] c) + (f ((src r)^[4] c) + (f ((src r)^[5] c) + (f ((src r)^[6] c) + f ((src r)^[7] c)))))))
      = ∑ e : Dev nD, f e := by
  rw [← (back_bij r c).sum_comp f, Fin.sum_univ_eight]
  simp only [← add_assoc]
  rfl

theorem lastV_apply (I : Ins Ideal) (Q : Dev nD → Fin 8 → EReal) (r : Fin 2) (i : Fin 128) (n : Fin 1024)
    (hQ : ∀ h c, prod I r h c (ix3 0 i n) = Q c (blk r h.val c)) (c : Dev nD) :
    lastV I r c (ValueIdx.ix2 i n) = ∑ e : Dev nD, Q e c := by
  have hs : ∀ (s : ℕ) (e : Dev nD), sentN I r (s + 1) e (ix3 0 i n)
      = prod I r (Fin.ofNat 8 (s + 2)) e (ix3 0 i n) + sentN I r s (src r e) (ix3 0 i n) := fun s e => accOf_apply _ _ i n
  have hq : ∀ (t : Fin 8), prod I r t ((src r)^[(8 - t.val) % 8] c) (ix3 0 i n) = Q ((src r)^[(8 - t.val) % 8] c) c := fun t => by
    rw [hQ, blk_back]
  rw [← ring_sum r c]
  refine (sumOf_apply _ _ i n).trans ?_
  show _ + sentN I r 6 _ _ = _
  rw [hs, hs, hs, hs, hs, hs]
  exact congrArg₂ (· + ·) (hq 0) (congrArg₂ (· + ·) (hq 7) (congrArg₂ (· + ·) (hq 6) (congrArg₂ (· + ·) (hq 5) (congrArg₂ (· + ·) (hq 4)
    (congrArg₂ (· + ·) (hq 3) (congrArg₂ (· + ·) (hq 2) (hq 1)))))))

end Cert.KernelIdeal.Run
-- ==== Proof.Num.lean ====
module

public import Idealize.ShloMosaic.PureOps.Ideal.Laws
public import Idealize.ShloMosaic.Lib.IdealHost

@[expose] public section

noncomputable section

namespace Cert.Num

open Idealize.ShloMosaic
open scoped BigOperators

/-! # Sums and quotients of extended reals that a masked softmax takes -/

/-- The pattern of minus infinity. -/
theorem bits_bot : Ideal.ofBits .f32 0xFF800000#32 = ⊥ := by simp [Ideal.ofBits, Ideal.ieee]
/-- The pattern of infinity. -/
theorem bits_top : Ideal.ofBits .f32 0x7F800000#32 = ⊤ := by simp [Ideal.ofBits, Ideal.ieee]
/-- The scale is a real. -/
theorem bits_scale : ∃ r : ℝ, Ideal.ofBits .f32 0x3DB504F3#32 = r := by
  simp only [Ideal.ofBits, Ideal.ieee]
  exact ⟨_, rfl⟩

/-- A sum of reals, taken as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real that is not negative goes into a sum of whatever extended reals. -/
theorem sum_mul {ι : Type} (s : Finset ι) (f : ι → EReal) {c : ℝ} (hc : 0 ≤ c) : (∑ i ∈ s, f i) * (c : EReal) = ∑ i ∈ s, f i * c := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

/-- A quotient by a positive real. -/
theorem div_coe (x : EReal) {A : ℝ} (hA : 0 < A) : Ideal.div x (A : EReal) = x * ((A⁻¹ : ℝ) : EReal) := by
  unfold Ideal.div
  rw [if_neg (by exact_mod_cast hA.ne'), EReal.coe_inv]

/-- An extended real below `⊤` in size is a real. -/
theorem real_of_abs {x : EReal} (h : max x (-x) < ⊤) : ∃ r : ℝ, x = r := by
  induction x using EReal.rec with
  | bot => simp at h
  | coe r => exact ⟨r, rfl⟩
  | top => simp at h

/-- A score: the scale may sit on the weight or on the sum. -/
theorem score {M D : Type} [Fintype M] [Fintype D] (x : M → ℝ) (w : M → D → ℝ) (k : D → ℝ) (c : ℝ) :
    (∑ d, (∑ m, (x m : EReal) * ((w m d : EReal) * c)) * k d = ((∑ d, (∑ m, x m * w m d) * k d) * c : ℝ))
    ∧ (∑ d, (∑ m, (x m : EReal) * (w m d : EReal)) * (k d : EReal)) * c = ((∑ d, (∑ m, x m * w m d) * k d) * c : ℝ) := by
  constructor
  · simp only [← EReal.coe_mul, ← coe_sum]
    refine congrArg _ ?_
    rw [Finset.sum_mul]
    refine Finset.sum_congr rfl fun d _ => ?_
    rw [Finset.sum_mul, Finset.sum_mul, Finset.sum_mul]
    exact Finset.sum_congr rfl fun m _ => by ring
  · simp only [← EReal.coe_mul, ← coe_sum]

/-! ## The softmax -/

section
variable {J W : Type} [Fintype J] [Fintype W] (s : J → ℝ) (p : J → Prop) [DecidablePred p] (w : W → J)

/-- A row's scores, those outside the band at `⊥`. -/
def masked (j : J) : EReal := if p j then (s j : EReal) else ⊥

theorem exp_masked_sub (μ : ℝ) (j : J) : Ideal.exp (masked s p j - μ) = ((if p j then Real.exp (s j - μ) else 0 : ℝ) : EReal) := by
  unfold masked
  split
  · rw [← EReal.coe_sub]; rfl
  · rw [EReal.bot_sub]; rfl

theorem exp_masked_add (j : J) : Ideal.exp ((s j : EReal) + if p j then 0 else ⊥) = ((if p j then Real.exp (s j) else 0 : ℝ) : EReal) := by
  split
  · rw [add_zero]; rfl
  · rw [EReal.add_bot]; rfl

/-- The greatest of a row that is not all outside the band is a real. -/
theorem max_real (j₀ : J) (h₀ : p j₀) : ∃ μ : ℝ, (Finset.univ : Finset J).fold max ⊥ (masked s p) = μ := by
  have hb : (s j₀ : EReal) ≤ (Finset.univ : Finset J).fold max ⊥ (masked s p) := by
    rw [Finset.le_fold_max]
    exact Or.inr ⟨j₀, Finset.mem_univ _, by rw [masked, if_pos h₀]⟩
  have ht : (Finset.univ : Finset J).fold max ⊥ (masked s p) < ⊤ := by
    rw [Finset.fold_max_lt]
    refine ⟨bot_lt_top, fun j _ => ?_⟩
    unfold masked
    split
    · exact EReal.coe_lt_top _
    · exact bot_lt_top
  exact ⟨_, (EReal.coe_toReal ht.ne (lt_of_lt_of_le (EReal.bot_lt_coe _) hb).ne').symm⟩

/-- A sum over a window that takes in the band is the sum over the whole row. -/
theorem sum_window (hw : Function.Injective w) (hc : ∀ j, p j → ∃ i, w i = j) (f : J → EReal) (hf : ∀ j, ¬ p j → f j = 0) :
    ∑ i, f (w i) = ∑ j, f j := by
  classical
  rw [← Finset.sum_image (s := Finset.univ) (g := w) (f := f) fun a _ b _ h => hw h]
  refine Finset.sum_subset (Finset.subset_univ _) fun j _ hj => hf j fun hp => hj ?_
  obtain ⟨i, hi⟩ := hc j hp
  exact Finset.mem_image.2 ⟨i, Finset.mem_univ _, hi⟩

/-- A row of attended values: over the window without the greatest taken off and normalised at the end, or over the whole row with
    the greatest taken off and normalised first. -/
theorem softmax (j₀ : J) (h₀ : p j₀) (hw : Function.Injective w) (hc : ∀ j, p j → ∃ i, w i = j) (v : J → EReal) :
    (∑ i, Ideal.exp ((s (w i) : EReal) + if p (w i) then 0 else ⊥) * v (w i))
        * Ideal.div 1 (∑ i, Ideal.exp ((s (w i) : EReal) + if p (w i) then 0 else ⊥))
      = ∑ j, v j * Ideal.div (Ideal.exp (masked s p j - (Finset.univ : Finset J).fold max ⊥ (masked s p)))
          (∑ j', Ideal.exp (masked s p j' - (Finset.univ : Finset J).fold max ⊥ (masked s p))) := by
  obtain ⟨μ, hμ⟩ := max_real s p j₀ h₀
  simp only [hμ, exp_masked_sub, exp_masked_add]
  rw [sum_window p w hw hc (fun j => ((if p j then Real.exp (s j) else 0 : ℝ) : EReal) * v j) fun j hj => by rw [if_neg hj]; simp,
    sum_window p w hw hc (fun j => ((if p j then Real.exp (s j) else 0 : ℝ) : EReal)) fun j hj => by rw [if_neg hj]; simp]
  rw [← coe_sum, ← coe_sum]
  have hpos : ∀ f : J → ℝ, (∀ j, 0 < f j) → 0 < ∑ j, if p j then f j else 0 := fun f hf =>
    Finset.sum_pos' (fun j _ => by split <;> [exact (hf j).le; exact le_rfl]) ⟨j₀, Finset.mem_univ _, by rw [if_pos h₀]; exact hf j₀⟩
  have hB := hpos (fun j => Real.exp (s j)) fun j => Real.exp_pos _
  have hA := hpos (fun j => Real.exp (s j - μ)) fun j => Real.exp_pos _
  have hAB : (∑ j, if p j then Real.exp (s j - μ) else 0) = (∑ j, if p j then Real.exp (s j) else 0) * (Real.exp μ)⁻¹ := by
    rw [Finset.sum_mul]
    refine Finset.sum_congr rfl fun j _ => ?_
    split
    · rw [Real.exp_sub, div_eq_mul_inv]
    · rw [zero_mul]
  rw [div_coe _ hB, one_mul, sum_mul _ _ (inv_nonneg.2 hB.le)]
  refine Finset.sum_congr rfl fun j _ => ?_
  rw [div_coe _ hA, mul_comm _ (v j), mul_assoc, ← EReal.coe_mul, ← EReal.coe_mul]
  refine congrArg (fun t : ℝ => v j * (t : EReal)) ?_
  rw [hAB]
  split
  · rw [Real.exp_sub]
    have := (Real.exp_pos μ).ne'
    have := hB.ne'
    field_simp
  · rw [zero_mul, zero_mul]

end

/-! ## The sum over the devices -/

/-- Eight blocks of 1024 are 8192. -/
theorem sum_blocks (f : Fin 8192 → EReal) : ∑ k, f k = ∑ c : Fin 8, ∑ k : Fin 1024, f ⟨c.val * 1024 + k.val, by omega⟩ := by
  rw [← Equiv.sum_comp (finProdFinEquiv (m := 8) (n := 1024)) f, Fintype.sum_prod_type]
  refine Finset.sum_congr rfl fun c _ => Finset.sum_congr rfl fun k _ => congrArg f (Fin.ext ?_)
  show k.val + 1024 * c.val = c.val * 1024 + k.val
  omega

end Cert.Num

end
-- ==== Proof.ValR.lean ====
/- The reference's result read at an index, floats as extended reals. -/
module

public import proofs.«01_k».proof.Proof.Ref
public import proofs.«01_k».proof.Proof.Mask
public import proofs.«01_k».proof.Proof.Num
public import Idealize.ShloMosaic.Lib.MatmulPlain
public import Idealize.ShloMosaic.Lib.IdealHost
public import Idealize.ShloMosaic.Lib.Pipeline.Value
public import Idealize.ShloMosaic.PureOps.Ideal.Laws

@[expose] public section

noncomputable section

namespace Cert.ReferenceIdeal.Ref

open Cert.ReferenceIdeal Cert.ReferenceIdeal.Gen
open Idealize.ShloMosaic Idealize.ShloMosaic.ValueIdx
open scoped BigOperators

/-- A product contracted along one axis, as a sum over that axis. -/
theorem dot_apply {sl sr so : Shape} (D : DotDims sl sr so) (n : ℕ) (h₁ : D.contr.rank = 1) (h₂ : D.contr.size ⟨0, by omega⟩ = n)
    (l : FVec Ideal sl .f32) (r : FVec Ideal sr .f32) (j : so.Idx) (li : Fin n → sl.Idx) (ri : Fin n → sr.Idx)
    (hl : ∀ (k : Fin n) (q : D.contr.Idx), (q ⟨0, by omega⟩ : ℕ) = k.val → D.lhsIdx j q = li k)
    (hr : ∀ (k : Fin n) (q : D.contr.Idx), (q ⟨0, by omega⟩ : ℕ) = k.val → D.rhsIdx j q = ri k) :
    (Host.dotGeneral D none l r : FVec Ideal so .f32) j = ∑ k : Fin n, l (li k) * r (ri k) := by
  simp only [Host.dotGeneral]
  rw [Ideal.dotGeneral_apply, ← Equiv.sum_comp (contrEquiv1 D n h₁ h₂).symm]
  refine Finset.sum_congr rfl fun k _ => ?_
  rw [hl k _ (contrEquiv1_symm_val D n h₁ h₂ k), hr k _ (contrEquiv1_symm_val D n h₁ h₂ k)]

/-! ## The band -/

theorem band_apply (i : Fin 2048) (j : Fin 4096) : band (ix2 i j) = BitVec.ofBool (decide (Mask.near i.val j.val)) := by
  rw [← Mask.test _ _ (by omega) (by omega)]
  unfold band
  refine congrArg (IntOp.cmpi .sle · 128#32) (congrArg IntOp.absi (congrArg₂ IntOp.subi ?_ ?_))
  · refine (broadcastInDim_apply _ bcast_S2048x1_S2048x4096_0_1 _ (ix2 i j) (ix2 i 0) fun a => by match a with | 0 => rfl | 1 => rfl).trans ?_
    exact (broadcastInDim_apply _ bcast_S2048_S2048x1_0 _ (ix2 i 0) (ix1 i) fun a => by match a with | 0 => rfl).trans rfl
  · refine (broadcastInDim_apply _ bcast_S1x4096_S2048x4096_0_1 _ (ix2 i j) (ix2 0 j) fun a => by match a with | 0 => rfl | 1 => rfl).trans ?_
    exact (broadcastInDim_apply _ bcast_S4096_S1x4096_1 _ (ix2 0 j) (ix1 j) fun a => by match a with | 0 => rfl).trans rfl

theorem reduces_band : S2048x4096.Reduces [1] S2048 := by decide
theorem reduces_row : S1x64x2048x4096.Reduces [3] S1x64x2048 := by decide

theorem lift_band (i : Fin 2048) (k : Fin 4096) : reduces_band.lift (ix1 i) k = ix2 i k := by
  funext a; match a with | 0 => rfl | 1 => rfl
theorem lift_row (H : Fin 64) (i : Fin 2048) (k : Fin 4096) : reduces_row.lift (ix3 0 H i) k = ix4 0 H i k := by
  funext a; match a with | 0 => rfl | 1 => rfl | 2 => rfl | 3 => rfl

/-- Every row has a column inside the band. -/
theorem keep_apply (i : Fin 2048) : keep (ix1 i) = 1#1 := by
  unfold keep
  rw [Host.reduce_eq_fold_single IntOp.ori band _ reducesTo_S2048x4096_S2048_d1 reduces_band h_S_]
  have key : ∀ (s : Finset (Fin 4096)) (f : Fin 4096 → BitVec 1) (k : Fin 4096), k ∈ s → f k = 1#1 → s.fold IntOp.ori 0#1 f = 1#1 := by
    intro s f k hk hf
    classical
    rw [← Finset.insert_erase hk, Finset.fold_insert (Finset.notMem_erase _ _), hf]
    generalize Finset.fold IntOp.ori 0#1 f (s.erase k) = z
    revert z
    decide
  refine key _ _ ⟨i.val, by omega⟩ (Finset.mem_univ _) ?_
  show band (reduces_band.lift (ix1 i) _) = _
  rw [lift_band, band_apply, decide_eq_true (by unfold Mask.near; constructor <;> simp)]
  rfl

theorem keepC_apply (i : Fin 2048) : keepC (ix4 0 0 i 0) = 1#1 :=
  (broadcastInDim_apply _ bcast_S2048_S1x1x2048x1_2 _ _ (ix1 i) fun a => by match a with | 0 => rfl).trans (keep_apply i)

/-! ## The scores -/

variable (x : FVec Ideal S1x2048x1024 .f32) (wq : FVec Ideal S1024x8192 .f32) (k v : FVec Ideal S1x4096x64x128 .f32) (wo : FVec Ideal S8192x1024 .f32)

/-- Column `d` of head `H`. -/
def hcol (H : Fin 64) (d : Fin 128) : Fin 8192 := ⟨H.val * 128 + d.val, by omega⟩

theorem queries_apply (i : Fin 2048) (H : Fin 64) (d : Fin 128) :
    queries x wq (ix4 0 i H d) = ∑ m : Fin 1024, x (ix3 0 i m) * wq (ix2 m (hcol H d)) := by
  unfold queries
  refine (shapeCast_apply _ shapeCasts_S1x2048x8192_S1x2048x64x128 _ (ix3 0 i (hcol H d)) ?_).trans ?_
  · rw [Shape.rowMajor_val_three, Shape.rowMajor_val_four]
    show (0 * 2048 + i.val) * 8192 + (H.val * 128 + d.val) = ((0 * 2048 + i.val) * 64 + H.val) * 128 + d.val
    omega
  · refine dot_apply dot_S1x2048x1024_S1024x8192_S1x2048x8192_2_0_01_1_n_n 1024 rfl rfl x wq (ix3 0 i (hcol H d)) (fun m => ix3 0 i m) (fun m => ix2 m (hcol H d)) ?_ ?_
    · intro m q hq; funext a; apply Fin.ext
      match a with | 0 => rfl | 1 => rfl | 2 => exact hq
    · intro m q hq; funext a; apply Fin.ext
      match a with | 0 => exact hq | 1 => rfl

/-- A score before the mask. -/
def sR (i : Fin 2048) (H : Fin 64) (j : Fin 4096) : EReal :=
  (∑ d : Fin 128, (∑ m : Fin 1024, x (ix3 0 i m) * wq (ix2 m (hcol H d))) * k (ix4 0 j H d)) * Ideal.ofBits .f32 0x3DB504F3#32

/-- A row of masked scores. -/
def mR (i : Fin 2048) (H : Fin 64) (j : Fin 4096) : EReal := if Mask.near i.val j.val then sR x wq k i H j else ⊥

theorem scores_apply (H : Fin 64) (i : Fin 2048) (j : Fin 4096) : scores x wq k (ix4 0 H i j) = mR x wq k i H j := by
  unfold scores
  rw [select_apply]
  have e : broadcastInDim S1x64x2048x4096 ![0, 1, 2, 3] bcast_S1x1x2048x4096_S1x64x2048x4096_0_1_2_3
      (broadcastInDim S1x1x2048x4096 ![2, 3] bcast_S2048x4096_S1x1x2048x4096_2_3 band) (ix4 0 H i j) = BitVec.ofBool (decide (Mask.near i.val j.val)) := by
    rw [← band_apply]
    refine (broadcastInDim_apply _ bcast_S1x1x2048x4096_S1x64x2048x4096_0_1_2_3 _ _ (ix4 0 0 i j) fun a => by
      match a with | 0 => rfl | 1 => rfl | 2 => rfl | 3 => rfl).trans ?_
    exact broadcastInDim_apply _ bcast_S2048x4096_S1x1x2048x4096_2_3 _ _ (ix2 i j) fun a => by match a with | 0 => rfl | 1 => rfl
  rw [e]
  unfold mR
  by_cases h : Mask.near i.val j.val
  · rw [if_pos h, decide_eq_true h]
    refine congrArg (fun z : EReal => z * Ideal.ofBits .f32 0x3DB504F3#32) ?_
    refine (dot_apply dot_S1x2048x64x128_S1x4096x64x128_S1x64x2048x4096_3_3_1_1_02_02 128 rfl rfl _ k (ix4 0 H i j) (fun d => ix4 0 i H d) (fun d => ix4 0 j H d) ?_ ?_).trans ?_
    · intro m q hq; funext a; apply Fin.ext
      match a with | 0 => rfl | 1 => rfl | 2 => rfl | 3 => exact hq
    · intro m q hq; funext a; apply Fin.ext
      match a with | 0 => rfl | 1 => rfl | 2 => rfl | 3 => exact hq
    · exact Finset.sum_congr rfl fun d _ => by rw [queries_apply]
  · rw [if_neg h, decide_eq_false h]
    exact Num.bits_bot

/-! ## The weights -/

/-- A row's exponentials. -/
def eR (i : Fin 2048) (H : Fin 64) (j : Fin 4096) : EReal :=
  Ideal.exp (mR x wq k i H j - (Finset.univ : Finset (Fin 4096)).fold max ⊥ (mR x wq k i H))

theorem exps_apply (H : Fin 64) (i : Fin 2048) (j : Fin 4096) : exps (scores x wq k) (ix4 0 H i j) = eR x wq k i H j := by
  unfold exps eR
  refine congrArg Ideal.exp (congrArg₂ (fun y z : EReal => y - z) (scores_apply x wq k H i j) ?_)
  refine (broadcastInDim_apply _ bcast_S1x64x2048x1_S1x64x2048x4096_0_1_2_3 _ _ (ix4 0 H i 0) fun a => by
    match a with | 0 => rfl | 1 => rfl | 2 => rfl | 3 => rfl).trans ?_
  refine (broadcastInDim_apply _ bcast_S1x64x2048_S1x64x2048x1_0_1_2 _ _ (ix3 0 H i) fun a => by
    match a with | 0 => rfl | 1 => rfl | 2 => rfl).trans ?_
  refine (Host.reduce_eq_fold_single (α := EReal) max _ _ reducesTo_S1x64x2048x4096_S1x64x2048_d3 reduces_row h_S_ _).trans ?_
  refine congrArg₂ (fun z f => (Finset.univ : Finset (Fin 4096)).fold max z f) Num.bits_bot (funext fun j' => ?_)
  exact (congrArg (scores x wq k) (lift_row H i j')).trans (scores_apply x wq k H i j')

theorem weights_apply (H : Fin 64) (i : Fin 2048) (j : Fin 4096) :
    weights (exps (scores x wq k)) (ix4 0 H i j) = Ideal.div (eR x wq k i H j) (∑ j' : Fin 4096, eR x wq k i H j') := by
  have e₁ : broadcastInDim S1x64x2048x4096 ![0, 1, 2, 3] bcast_S1x1x2048x1_S1x64x2048x4096_0_1_2_3 keepC (ix4 0 H i j) = 1#1 :=
    (broadcastInDim_apply _ _ keepC _ (ix4 0 0 i 0) fun a => by match a with | 0 => rfl | 1 => rfl | 2 => rfl | 3 => rfl).trans (keepC_apply i)
  have e₂ : broadcastInDim S1x64x2048x1 ![0, 1, 2, 3] bcast_S1x1x2048x1_S1x64x2048x1_0_1_2_3 keepC (ix4 0 H i 0) = 1#1 :=
    (broadcastInDim_apply _ _ keepC _ (ix4 0 0 i 0) fun a => by match a with | 0 => rfl | 1 => rfl | 2 => rfl | 3 => rfl).trans (keepC_apply i)
  unfold weights
  rw [select_apply, e₁, select_one]
  rw [hostDivf_apply]
  refine congrArg₂ Ideal.div (exps_apply x wq k H i j) ?_
  refine (broadcastInDim_apply _ bcast_S1x64x2048x1_S1x64x2048x4096_0_1_2_3 _ _ (ix4 0 H i 0) fun a => by
    match a with | 0 => rfl | 1 => rfl | 2 => rfl | 3 => rfl).trans ?_
  rw [select_apply, e₂, select_one]
  refine (broadcastInDim_apply _ bcast_S1x64x2048_S1x64x2048x1_0_1_2 _ _ (ix3 0 H i) fun a => by
    match a with | 0 => rfl | 1 => rfl | 2 => rfl).trans ?_
  rw [hostReduceAdd_apply]
  refine (Ideal.hostReduceAdd_single reducesTo_S1x64x2048x4096_S1x64x2048_d3 reduces_row _ _ _).trans ?_
  refine (congrArg (· + _) Ideal.ofBits_zero_f32).trans ((zero_add _).trans (Finset.sum_congr rfl fun j' _ => ?_))
  exact (congrArg (exps (scores x wq k)) (lift_row H i j')).trans (exps_apply x wq k H i j')

/-! ## The result -/

theorem ctx_apply (w : FVec Ideal S1x64x2048x4096 .f32) (i : Fin 2048) (n : Fin 8192) :
    ctx v w (ix3 0 i n) = ∑ j : Fin 4096, v (ix4 0 j ⟨n.val / 128, by omega⟩ ⟨n.val % 128, by omega⟩) * w (ix4 0 ⟨n.val / 128, by omega⟩ i j) := by
  unfold ctx
  refine (shapeCast_apply _ shapeCasts_S1x2048x64x128_S1x2048x8192 _ (ix4 0 i ⟨n.val / 128, by omega⟩ ⟨n.val % 128, by omega⟩) ?_).trans ?_
  · rw [Shape.rowMajor_val_three, Shape.rowMajor_val_four]
    show ((0 * 2048 + i.val) * 64 + n.val / 128) * 128 + n.val % 128 = (0 * 2048 + i.val) * 8192 + n.val
    omega
  · refine (transpose_apply _ _ transposes_S1x64x128x2048_S1x2048x64x128_0_3_1_2 _ (ix4 0 ⟨n.val / 128, by omega⟩ ⟨n.val % 128, by omega⟩ i) fun b => by
      match b with | 0 => rfl | 1 => rfl | 2 => rfl | 3 => rfl).trans ?_
    refine dot_apply dot_S1x4096x64x128_S1x64x2048x4096_S1x64x128x2048_1_3_3_2_02_01 4096 rfl rfl v w _ (fun j => ix4 0 j ⟨n.val / 128, by omega⟩ ⟨n.val % 128, by omega⟩)
      (fun j => ix4 0 ⟨n.val / 128, by omega⟩ i j) ?_ ?_
    · intro m q hq; funext a; apply Fin.ext
      match a with | 0 => rfl | 1 => exact hq | 2 => rfl | 3 => rfl
    · intro m q hq; funext a; apply Fin.ext
      match a with | 0 => rfl | 1 => rfl | 2 => rfl | 3 => exact hq

theorem out_apply (i : Fin 2048) (n : Fin 1024) :
    out x wq k v wo (ix3 0 i n) = ∑ K : Fin 8192, (∑ j : Fin 4096, v (ix4 0 j ⟨K.val / 128, by omega⟩ ⟨K.val % 128, by omega⟩)
      * Ideal.div (eR x wq k i ⟨K.val / 128, by omega⟩ j) (∑ j' : Fin 4096, eR x wq k i ⟨K.val / 128, by omega⟩ j')) * wo (ix2 K n) := by
  unfold out
  refine (dot_apply dot_S1x2048x8192_S8192x1024_S1x2048x1024_2_0_01_1_n_n 8192 rfl rfl _ wo (ix3 0 i n) (fun K => ix3 0 i K) (fun K => ix2 K n) ?_ ?_).trans ?_
  · intro m q hq; funext a; apply Fin.ext
    match a with | 0 => rfl | 1 => rfl | 2 => exact hq
  · intro m q hq; funext a; apply Fin.ext
    match a with | 0 => exact hq | 1 => rfl
  · refine Finset.sum_congr rfl fun K _ => congrArg (fun z : EReal => z * wo (ix2 K n)) ((ctx_apply v _ i K).trans (Finset.sum_congr rfl fun j _ => ?_))
    rw [weights_apply]

end Cert.ReferenceIdeal.Ref
-- ==== Proof.Val.lean ====
/- The kernel's result is the reference's, on arguments whose x, query weight and keys are reals. -/
module

public import proofs.«01_k».proof.Proof.Win
public import proofs.«01_k».proof.Proof.ValR

@[expose] public section

noncomputable section

namespace Cert.KernelIdeal.Run

open Idealize.ShloMosaic
open Idealize.ShloMosaic.ValueIdx (ix1 ix3 ix4)
open Cert.KernelIdeal
open Cert.KernelIdeal.Facts₀ Cert.KernelIdeal.Facts
open Cert.ReferenceIdeal.Ref (eR mR sR hcol)
open scoped BigOperators

/-- Row and column of a matrix. -/
abbrev at2 {A B : ℕ} (i : Fin A) (j : Fin B) : (⟨2, ![A, B]⟩ : Shape).Idx := ValueIdx.ix2 i j

/-- Row `i` of device `c`'s 256. -/
def rowAt (c : Fin 8) (i : Fin 256) : Fin 2048 := ⟨c.val * 256 + i.val, by omega⟩
/-- Column `k` of device `c`'s 1024. -/
def colAt (c : Fin 8) (k : Fin 1024) : Fin 8192 := ⟨c.val * 1024 + k.val, by omega⟩
/-- Head `g` of device `c`'s eight. -/
def headAt (c g : Fin 8) : Fin 64 := ⟨c.val * 8 + g.val, by omega⟩
/-- Row `i` of ring `r`'s half of block `b`. -/
def rowOf (r : Fin 2) (b : Fin 8) (i : Fin 128) : Fin 2048 := ⟨row r b + i.val, by have := row_lt r b; omega⟩
/-- Column `p` of its window. -/
def winOf (r : Fin 2) (b : Fin 8) (p : Fin 384) : Fin 4096 := ⟨win r b + p.val, by have := win_lt r b; omega⟩

/-- The scale. -/
def sc : EReal := Ideal.ofBits .f32 0x3DB504F3#32

variable (I : Ins Ideal) (x : FVec Ideal Cert.ReferenceIdeal.S1x2048x1024 .f32) (wq : FVec Ideal Cert.ReferenceIdeal.S1024x8192 .f32)
  (k v : FVec Ideal Cert.ReferenceIdeal.S1x4096x64x128 .f32) (wo : FVec Ideal Cert.ReferenceIdeal.S8192x1024 .f32)

/-- What each device works on is its part of the arguments. -/
structure Parts : Prop where
  x : ∀ (c : Fin 8) (i : Fin 256) (m : Fin 1024), I.x c (at2 i m) = x (ix3 0 (rowAt c i) m)
  wq : ∀ (c : Fin 8) (m n : Fin 1024), I.wq c (at2 m n) = wq (at2 m (colAt c n)) * sc
  wo : ∀ (c : Fin 8) (m n : Fin 1024), I.wo c (at2 m n) = wo (at2 (colAt c m) n)
  k : ∀ (c : Fin 8) (j : Fin 4096) (H : Fin 64) (d : Fin 128), I.kv 0 c (ix3 j H d) = k (ix4 0 j H d)
  v : ∀ (c : Fin 8) (j : Fin 4096) (H : Fin 64) (d : Fin 128), I.kv 1 c (ix3 j H d) = v (ix4 0 j H d)

/-- x, the query weight and the keys are reals. -/
structure Reals : Prop where
  x : ∀ (i : Fin 2048) (m : Fin 1024), ∃ r : ℝ, x (ix3 0 i m) = r
  wq : ∀ (m : Fin 1024) (n : Fin 8192), ∃ r : ℝ, wq (at2 m n) = r
  k : ∀ (j : Fin 4096) (H : Fin 64) (d : Fin 128), ∃ r : ℝ, k (ix4 0 j H d) = r

/-- A row of attended values, as the reference has it. -/
def att (i : Fin 2048) (H : Fin 64) (d : Fin 128) : EReal :=
  ∑ j : Fin 4096, v (ix4 0 j H d) * Ideal.div (eR x wq k i H j) (∑ j' : Fin 4096, eR x wq k i H j')

theorem win_inj (r : Fin 2) (b : Fin 8) : Function.Injective (winOf r b) := fun p p' h => by
  have : win r b + p.val = win r b + p'.val := congrArg Fin.val h
  exact Fin.ext (by omega)

/-- The window takes in the band of its rows. -/
theorem win_band (r : Fin 2) (b : Fin 8) (i : Fin 128) (j : Fin 4096) (h : Mask.near (rowOf r b i).val j.val) : ∃ p, winOf r b p = j := by
  obtain ⟨h₁, h₂⟩ : row r b + i.val ≤ j.val + 128 ∧ j.val ≤ row r b + i.val + 128 := h
  have := row_lt r b
  have hw : win r b = min 3712 (row r b - 128) := rfl
  exact ⟨⟨j.val - win r b, by omega⟩, Fin.ext (by show win r b + (j.val - win r b) = j.val; omega)⟩

section
variable {I x wq k v wo} (hp : Parts I x wq k v wo) (hr : Reals x wq k)
include hp

theorem xV_eq (r : Fin 2) (b : Fin 8) (i : Fin 128) (m : Fin 1024) : xV I r b (ix3 0 i m) = x (ix3 0 (rowOf r b i) m) := by
  have e : (xR r).toLoadRect.idx (at2 i m) = at2 (⟨r.val * 128 + i.val, by omega⟩ : Fin 256) m := by
    funext a; apply Fin.ext
    match a with
    | 0 => show r.val * 128 + 1 * i.val = r.val * 128 + i.val; omega
    | 1 => show 0 + 1 * m.val = m.val; omega
  unfold xV
  rw [xinOf_apply]
  refine (congrArg (I.x b) e).trans ((hp.x b _ m).trans (congrArg x ?_))
  rw [show rowAt b (⟨r.val * 128 + i.val, by omega⟩ : Fin 256) = rowOf r b i from Fin.ext (by show b.val * 256 + (r.val * 128 + i.val) = b.val * 256 + r.val * 128 + i.val; omega)]

omit hp in
theorem wR_idx (m n : Fin 1024) : wR.toLoadRect.idx (at2 m n) = at2 m n := by
  funext a; apply Fin.ext
  match a with
  | 0 => show 0 + 1 * m.val = m.val; omega
  | 1 => show 0 + 1 * n.val = n.val; omega

theorem wqV_eq (c : Fin 8) (m n : Fin 1024) : wqV I c (at2 m n) = wq (at2 m (colAt c n)) * sc :=
  (congrArg (I.wq c) (wR_idx m n)).trans (hp.wq c m n)
theorem woV_eq (c : Fin 8) (m n : Fin 1024) : woV I c (at2 m n) = wo (at2 (colAt c m) n) :=
  (congrArg (I.wo c) (wR_idx m n)).trans (hp.wo c m n)

include hr

/-- A head of a block, against its window, is the reference's. -/
theorem head_eq (r : Fin 2) (h : Fin 8) (c : Dev nD) (g : Fin 8) (i d : Fin 128) :
    headN (row r (blk r h.val c)) (win r (blk r h.val c)) (winV I r 0 h c) (winV I r 1 h c) (xV I r (blk r h.val c)) (wqV I c) g i d
      = att x wq k v (rowOf r (blk r h.val c) i) (headAt c g) d := by
  generalize hb : blk r h.val c = b
  obtain ⟨s, hs⟩ := Num.bits_scale
  choose xr hx using hr.x
  choose wr hw using hr.wq
  choose kr hk using hr.k
  let S : Fin 4096 → ℝ := fun j => (∑ d : Fin 128, (∑ m : Fin 1024, xr (rowOf r b i) m * wr m (hcol (headAt c g) d)) * kr j (headAt c g) d) * s
  have hc : ∀ d, colAt c (lane g d) = hcol (headAt c g) d := fun d => Fin.ext (by
    show c.val * 1024 + (g.val * 128 + d.val) = (c.val * 8 + g.val) * 128 + d.val; omega)
  have hkw : ∀ (p : Fin 384) (d : Fin 128), winV I r 0 h c (ix3 0 p (lane g d)) = k (ix4 0 (winOf r b p) (headAt c g) d) := fun p d => by
    rw [winV_apply, hp.k]; subst hb; rfl
  have hvw : ∀ (p : Fin 384) (d : Fin 128), winV I r 1 h c (ix3 0 p (lane g d)) = v (ix4 0 (winOf r b p) (headAt c g) d) := fun p d => by
    rw [winV_apply, hp.v]; subst hb; rfl
  have hq : ∀ d : Fin 128, qN (xV I r b) (wqV I c) i (lane g d)
      = ∑ m : Fin 1024, (xr (rowOf r b i) m : EReal) * ((wr m (hcol (headAt c g) d) : EReal) * (s : EReal)) := fun d =>
    Finset.sum_congr rfl fun m _ => by
      rw [xV_eq hp, hx, wqV_eq hp, hc, hw]
      exact congrArg (fun z : EReal => (xr (rowOf r b i) m : EReal) * ((wr m (hcol (headAt c g) d) : EReal) * z)) hs
  have he : ∀ p : Fin 384, eN (row r b) (win r b) (winV I r 0 h c) (xV I r b) (wqV I c) g i p
      = Ideal.exp ((S (winOf r b p) : EReal) + if Mask.near (rowOf r b i).val (winOf r b p).val then 0 else ⊥) := fun p => by
    unfold eN
    refine congrArg (fun z : EReal => Ideal.exp (z + _)) ?_
    simp only [hq, hkw, hk]
    exact (Num.score (fun m => xr (rowOf r b i) m) (fun m d => wr m (hcol (headAt c g) d)) (fun d => kr (winOf r b p) (headAt c g) d) s).1
  have hm : mR x wq k (rowOf r b i) (headAt c g) = Num.masked S fun j => Mask.near (rowOf r b i).val j.val := funext fun j => by
    unfold mR Num.masked
    refine congrArg (fun z : EReal => if Mask.near (rowOf r b i).val j.val then z else ⊥) ?_
    unfold sR
    simp only [hx, hw, hk, hs]
    exact (Num.score (fun m => xr (rowOf r b i) m) (fun m d => wr m (hcol (headAt c g) d)) (fun d => kr j (headAt c g) d) s).2
  unfold headN att eR
  simp only [he, hvw, hm]
  exact Num.softmax S (fun j => Mask.near (rowOf r b i).val j.val) (winOf r b) ⟨(rowOf r b i).val, by have := (rowOf r b i).isLt; omega⟩
    ⟨by simp, by simp⟩ (win_inj r b) (win_band r b i) fun j => v (ix4 0 j (headAt c g) d)

/-- A device's product for a block. -/
theorem prod_eq (r : Fin 2) (h : Fin 8) (c : Dev nD) (i : Fin 128) (n : Fin 1024) :
    prod I r h c (ix3 0 i n) = ∑ m : Fin 1024, att x wq k v (rowOf r (blk r h.val c) i) ⟨(colAt c m).val / 128, by have := (colAt c m).isLt; omega⟩
      ⟨(colAt c m).val % 128, by omega⟩ * wo (at2 (colAt c m) n) := by
  unfold prod
  rw [partOf_apply c r h.val _ _ (by have := row_lt r (blk r h.val c); omega) (by have := win_lt r (blk r h.val c); omega) (rowW_eq c r h) (winW_eq c r h)]
  refine Finset.sum_congr rfl fun m _ => congrArg₂ (fun y z : EReal => y * z) ?_ (woV_eq hp c m n)
  rw [head_eq hp hr]
  congr 1
  · exact Fin.ext (by show c.val * 8 + m.val / 128 = (c.val * 1024 + m.val) / 128; omega)
  · exact Fin.ext (by show m.val % 128 = (c.val * 1024 + m.val) % 128; omega)

/-- The result on device `c`. -/
theorem outV_eq (c : Dev nD) (i : Fin 256) (n : Fin 1024) :
    outV I c (ix3 0 i n) = Cert.ReferenceIdeal.Ref.out x wq k v wo (ix3 0 (rowAt c i) n) := by
  obtain ⟨r, i', rfl⟩ : ∃ (r : Fin 2) (i' : Fin 128), i = ⟨r.val * 128 + i'.val, by omega⟩ :=
    ⟨⟨i.val / 128, by omega⟩, ⟨i.val % 128, by omega⟩, Fin.ext (by show i.val = i.val / 128 * 128 + i.val % 128; omega)⟩
  refine (outOf_apply (fun r => lastV I r c) r i' n).trans ?_
  refine (lastV_apply I (fun e b => ∑ m : Fin 1024, att x wq k v (rowOf r b i') ⟨(colAt e m).val / 128, by have := (colAt e m).isLt; omega⟩
      ⟨(colAt e m).val % 128, by omega⟩ * wo (at2 (colAt e m) n)) r i' n (fun h e => prod_eq hp hr r h e i' n) c).trans ?_
  rw [Cert.ReferenceIdeal.Ref.out_apply, Num.sum_blocks]
  refine Finset.sum_congr rfl fun e _ => Finset.sum_congr rfl fun m _ => ?_
  rw [show rowAt c (⟨r.val * 128 + i'.val, by omega⟩ : Fin 256) = rowOf r c i' from Fin.ext (by show c.val * 256 + (r.val * 128 + i'.val) = c.val * 256 + r.val * 128 + i'.val; omega)]
  rfl

end

end Cert.KernelIdeal.Run
-- ==== Proof.Alg.lean ====
/- The kernel computes the reference: the claim about values, and the frames under the precondition. -/
module

public import proofs.«01_k».proof.Defs
public import proofs.«01_k».proof.Proof.Frames
public import proofs.«01_k».proof.Proof.Val
public import Idealize.ShloMosaic.Lib.ReduceAll
public import Idealize.ShloMosaic.Lib.Layout

@[expose] public section

noncomputable section

namespace Cert.KernelIdeal.Run

open Idealize.ShloMosaic Idealize.ShloMosaic.TcCoe Idealize.ShloMosaic.StableHlo
open Idealize.ShloMosaic.ValueIdx (ix1 ix3 ix4)
open Cert.KernelIdeal
open Cert.KernelIdeal.Facts₀ Cert.KernelIdeal.Facts

/-! ## What the call works on, from the arguments -/

section
variable (m : (ℓ : Loc nD τ sig) → Buf (Elt Ideal) ℓ) (c : Dev nD)

/-- The arguments a device holds. -/
abbrev aX : FVec Ideal S1x256x1024 .f32 := m ((c : Thread nD τ).loc main_arg0)
abbrev aQ : FVec Ideal S1024x1024 .f32 := m ((c : Thread nD τ).loc main_arg1)
abbrev aK : FVec Ideal S1x4096x64x128 .f32 := m ((c : Thread nD τ).loc main_arg2)
abbrev aV : FVec Ideal S1x4096x64x128 .f32 := m ((c : Thread nD τ).loc main_arg3)
abbrev aO : FVec Ideal S1024x1024 .f32 := m ((c : Thread nD τ).loc main_arg4)

theorem ins_x (i : Fin 256) (n : Fin 1024) : (ins m).x c (at2 i n) = (aX m c) (ix3 0 i n) := by
  have e : (ins m).x c = truncf .bf16 (shapeCast S256x1024 (aX m c)
      shapeCasts_S1x256x1024_S256x1024 : FVec Ideal S256x1024 .f32) bitsLt_bf16_f32 := by
    show after (Gen.hostOps0 c) (Gen.V0 m c) (main_v7 : DevRef τ sig) = _
    after_results
    rfl
  rw [e]
  exact drop_apply _ shapeCasts_S1x256x1024_S256x1024 i n

theorem ins_wq (i n : Fin 1024) : (ins m).wq c (at2 i n) = aQ m c (at2 i n) * sc := by
  have e : (ins m).wq c = truncf .bf16 (mulf (aQ m c)
      (broadcastInDim S1024x1024 ![] bcast_S_S1024x1024 (constant S_ .f32 0x3DB504F3#32))) bitsLt_bf16_f32 := by
    show after (Gen.hostOps0 c) (Gen.V0 m c) (main_v10 : DevRef τ sig) = _
    after_results
  rw [e]
  rfl

theorem ins_wo (i n : Fin 1024) : (ins m).wo c (at2 i n) = (aO m c) (at2 i n) := by
  have e : (ins m).wo c = (truncf .bf16 (aO m c) bitsLt_bf16_f32 : FVec Ideal S1024x1024 .bf16) := by
    show after (Gen.hostOps0 c) (Gen.V0 m c) (main_v11 : DevRef τ sig) = _
    after_results
  rw [e]
  rfl

theorem drop4_apply (x : FVec Ideal S1x4096x64x128 .f32) (j : Fin 4096) (H : Fin 64) (d : Fin 128) :
    shapeCast S4096x64x128 x shapeCasts_S1x4096x64x128_S4096x64x128 (ix3 j H d) = x (ix4 0 j H d) :=
  shapeCast_apply x _ _ _ (by
    rw [Shape.rowMajor_val_three, Shape.rowMajor_val_four]
    show ((0 * 4096 + j.val) * 64 + H.val) * 128 + d.val = (j.val * 64 + H.val) * 128 + d.val
    omega)

theorem ins_k (j : Fin 4096) (H : Fin 64) (d : Fin 128) :
    (ins m).kv 0 c (ix3 j H d) = (aK m c) (ix4 0 j H d) := by
  have e : (ins m).kv 0 c = shapeCast S4096x64x128 (aK m c) shapeCasts_S1x4096x64x128_S4096x64x128 := by
    show after (Gen.hostOps0 c) (Gen.V0 m c) (main_v12 : DevRef τ sig) = _
    after_results
    rfl
  rw [e]
  exact drop4_apply _ j H d

theorem ins_v (j : Fin 4096) (H : Fin 64) (d : Fin 128) :
    (ins m).kv 1 c (ix3 j H d) = (aV m c) (ix4 0 j H d) := by
  have e : (ins m).kv 1 c = shapeCast S4096x64x128 (aV m c) shapeCasts_S1x4096x64x128_S4096x64x128 := by
    show after (Gen.hostOps0 c) (Gen.V0 m c) (main_v13 : DevRef τ sig) = _
    after_results
    rfl
  rw [e]
  exact drop4_apply _ j H d

end

/-! ## Blocks of the whole arrays -/

theorem block_rows (c : Fin 8) (x : (⟨3, ![1, 2048, 1024]⟩ : Shape).Idx → EReal) (i : Fin 256) (n : Fin 1024) :
    Layout.block ⟨3, ![1, 256, 1024]⟩ ⟨3, ![1, 2048, 1024]⟩ 1 8 c x (by decide) (ix3 0 i n) = x (ix3 0 (rowAt c i) n) := by
  rw [Layout.block_apply]
  refine congrArg x (funext fun a => Fin.ext ?_)
  match a with | 0 => rfl | 1 => rfl | 2 => rfl

theorem block_cols (c : Fin 8) (w : (⟨2, ![1024, 8192]⟩ : Shape).Idx → EReal) (i n : Fin 1024) :
    Layout.block ⟨2, ![1024, 1024]⟩ ⟨2, ![1024, 8192]⟩ 1 8 c w (by decide) (at2 i n) = w (at2 i (colAt c n)) := by
  rw [Layout.block_apply]
  refine congrArg w (funext fun a => Fin.ext ?_)
  match a with | 0 => rfl | 1 => rfl

theorem block_heads (c : Fin 8) (w : (⟨2, ![8192, 1024]⟩ : Shape).Idx → EReal) (i n : Fin 1024) :
    Layout.block ⟨2, ![1024, 1024]⟩ ⟨2, ![8192, 1024]⟩ 0 8 c w (by decide) (at2 i n) = w (at2 (colAt c i) n) := by
  rw [Layout.block_apply]
  refine congrArg w (funext fun a => Fin.ext ?_)
  match a with | 0 => rfl | 1 => rfl

end Cert.KernelIdeal.Run

namespace Cert.Proof

open Idealize.ShloMosaic Idealize.ShloMosaic.TcCoe Idealize.SL.Sem
open Idealize.ShloMosaic.ValueIdx (ix3 ix4)
open Cert.KernelIdeal.Run (at2 rowAt colAt)

/-! ## The precondition -/

theorem facts_pre : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x64x128 := by decide
  reducesTo_S1x4096x64x128_S_d0_1_2_3 := by decide

theorem facts_pre_reference : Cert.Pre_finite_ReferenceIdeal.Facts where
  bcast_S_S1x2048x1024 := by decide
  reducesTo_S1x2048x1024_S_d0_1_2 := by decide
  h_S_ := by decide
  bcast_S_S1024x8192 := by decide
  reducesTo_S1024x8192_S_d0_1 := by decide
  bcast_S_S1x4096x64x128 := by decide
  reducesTo_S1x4096x64x128_S_d0_1_2_3 := by decide

/-- An array whose every element is below infinity in size holds reals. -/
theorem reals_of_all {s : Shape} {axes : List (Fin s.rank)} (x : FVec Ideal s .f32) (hb : (⟨0, ![]⟩ : Shape).BroadcastsInDim s (![] : Fin 0 → Fin s.rank))
    (hr : s.ReducesTo axes ⟨0, ![]⟩) (hu : 0 < (⟨0, ![]⟩ : Shape).numel)
    (h : Host.reduce IntOp.andi (cmpf .olt (Host.absf x) (broadcastInDim s ![] hb (constant ⟨0, ![]⟩ .f32 0x7F800000#32))) (constantI ⟨0, ![]⟩ 1 1#1) hr hu = fun _ => 1#1)
    (i : s.Idx) : ∃ r : ℝ, x i = r := by
  haveI : Subsingleton (⟨0, ![]⟩ : Shape).Idx := ⟨fun a b => funext fun z => z.elim0⟩
  have e := Host.reduce_andi_all _ _ hr hu (fun z => z.elim0) (congrFun h _) i
  have e' : BitVec.ofBool (decide (max (x i) (-(x i)) < Ideal.ofBits .f32 0x7F800000#32)) = 1#1 := e
  rw [Num.bits_top] at e'
  refine Num.real_of_abs ?_
  by_contra hn
  rw [decide_eq_false hn] at e'
  exact absurd e' (by decide)

section
open Cert.Pre_finite_KernelIdeal
variable [Facts] (a₀ : FVec Ideal S1x256x1024 .f32) (a₁ : FVec Ideal S1024x1024 .f32) (a₂ a₃ : FVec Ideal S1x4096x64x128 .f32) (a₄ : FVec Ideal S1024x1024 .f32)

/-- What the precondition says of a device's arguments. -/
theorem reals_of_pre (h : (fn (F := Ideal) a₀ a₁ a₂ a₃ a₄).1 = (fun _ => 1#1) ∧ (fn (F := Ideal) a₀ a₁ a₂ a₃ a₄).2.1 = (fun _ => 1#1)
    ∧ (fn (F := Ideal) a₀ a₁ a₂ a₃ a₄).2.2 = fun _ => 1#1) :
    (∀ i, ∃ r : ℝ, a₀ i = r) ∧ (∀ i, ∃ r : ℝ, a₁ i = r) ∧ ∀ i, ∃ r : ℝ, a₂ i = r := by
  dsimp only [fn] at h
  exact ⟨reals_of_all _ _ _ _ h.1, reals_of_all _ _ _ _ h.2.1, reals_of_all _ _ _ _ h.2.2⟩
end

/-! ## The frames under it -/

theorem frame_ideal_pre : Cert.quiescent_KernelIdeal_pre_finite_KernelIdeal (hPre_finite_KernelIdeal := facts_pre) := fun m ρ _ =>
  (θ_run Cert.KernelIdeal.defs _ _).mono (fun _ h => ⟨fun c => (h.1 c).2, h.2⟩) (Cert.KernelIdeal.Run.run_main (F := Ideal) m ρ)

theorem frame_reference_pre : Cert.quiescent_ReferenceIdeal_pre_finite_ReferenceIdeal (hPre_finite_ReferenceIdeal := facts_pre_reference) := fun m ρ _ =>
  (θ_run Cert.ReferenceIdeal.defs _ _).mono (fun _ h => ⟨fun c => (h.1 c).2, h.2⟩) (Cert.ReferenceIdeal.Ref.run_main (F := Ideal) m ρ)

/-! ## The value -/

theorem algebraic : Cert.algebraic_KernelIdeal_ReferenceIdeal_pre_finite_KernelIdeal (hPre_finite_KernelIdeal := facts_pre) := by
  intro m ρ m' ρ' hpre hargs
  let R : Thread Cert.ReferenceIdeal.nD Cert.ReferenceIdeal.τ := (0 : Dev Cert.ReferenceIdeal.nD).tc
  let x : FVec Ideal Cert.ReferenceIdeal.S1x2048x1024 .f32 := m' (R.loc Cert.ReferenceIdeal.main_arg0)
  let wq : FVec Ideal Cert.ReferenceIdeal.S1024x8192 .f32 := m' (R.loc Cert.ReferenceIdeal.main_arg1)
  let k : FVec Ideal Cert.ReferenceIdeal.S1x4096x64x128 .f32 := m' (R.loc Cert.ReferenceIdeal.main_arg2)
  let v : FVec Ideal Cert.ReferenceIdeal.S1x4096x64x128 .f32 := m' (R.loc Cert.ReferenceIdeal.main_arg3)
  let wo : FVec Ideal Cert.ReferenceIdeal.S8192x1024 .f32 := m' (R.loc Cert.ReferenceIdeal.main_arg4)
  have ax : ∀ (c : Fin 8) (i : Fin 256) (n : Fin 1024), Cert.KernelIdeal.Run.aX m c (ix3 0 i n) = x (ix3 0 (rowAt c i) n) := fun c i n =>
    (congrFun (hargs c).1 (ix3 0 i n)).trans (Cert.KernelIdeal.Run.block_rows c x i n)
  have aq : ∀ (c : Fin 8) (i n : Fin 1024), Cert.KernelIdeal.Run.aQ m c (at2 i n) = wq (at2 i (colAt c n)) := fun c i n =>
    (congrFun (hargs c).2.1 (at2 i n)).trans (Cert.KernelIdeal.Run.block_cols c wq i n)
  have ao : ∀ (c : Fin 8) (i n : Fin 1024), Cert.KernelIdeal.Run.aO m c (at2 i n) = wo (at2 (colAt c i) n) := fun c i n =>
    (congrFun (hargs c).2.2.2.2 (at2 i n)).trans (Cert.KernelIdeal.Run.block_heads c wo i n)
  have hp : Cert.KernelIdeal.Run.Parts (Cert.KernelIdeal.Run.ins m) x wq k v wo :=
    { x := fun c i n => (Cert.KernelIdeal.Run.ins_x m c i n).trans (ax c i n)
      wq := fun c i n => (Cert.KernelIdeal.Run.ins_wq m c i n).trans (congrArg (fun z : EReal => z * Cert.KernelIdeal.Run.sc) (aq c i n))
      wo := fun c i n => (Cert.KernelIdeal.Run.ins_wo m c i n).trans (ao c i n)
      k := fun c j H d => (Cert.KernelIdeal.Run.ins_k m c j H d).trans (congrFun (hargs c).2.2.1 _)
      v := fun c j H d => (Cert.KernelIdeal.Run.ins_v m c j H d).trans (congrFun (hargs c).2.2.2.1 _) }
  haveI := facts_pre
  have hf := fun c : Dev Cert.KernelIdeal.nD => reals_of_pre _ _ _ _ _ (hpre c)
  have hr : Cert.KernelIdeal.Run.Reals x wq k :=
    { x := fun i n => by
        obtain ⟨r, hr⟩ := (hf (⟨i.val / 256, by omega⟩ : Fin 8)).1 (ix3 0 (⟨i.val % 256, by omega⟩ : Fin 256) n)
        refine ⟨r, Eq.trans ?_ ((ax (⟨i.val / 256, by omega⟩ : Fin 8) (⟨i.val % 256, by omega⟩ : Fin 256) n).symm.trans hr)⟩
        exact congrArg (fun z => x (ix3 0 z n)) (Fin.ext (by show i.val = i.val / 256 * 256 + i.val % 256; omega))
      wq := fun i n => by
        obtain ⟨r, hr⟩ := (hf (⟨n.val / 1024, by omega⟩ : Fin 8)).2.1 (at2 i (⟨n.val % 1024, by omega⟩ : Fin 1024))
        refine ⟨r, Eq.trans ?_ ((aq (⟨n.val / 1024, by omega⟩ : Fin 8) i (⟨n.val % 1024, by omega⟩ : Fin 1024)).symm.trans hr)⟩
        exact congrArg (fun z => wq (at2 i z)) (Fin.ext (by show n.val = n.val / 1024 * 1024 + n.val % 1024; omega))
      k := fun j H d => by
        obtain ⟨r, hr⟩ := (hf (0 : Fin 8)).2.2 (ix4 0 j H d)
        exact ⟨r, (congrFun (hargs (0 : Fin 8)).2.2.1 (ix4 0 j H d)).symm.trans hr⟩ }
  refine ⟨Cert.ReferenceIdeal.Ref.out x wq k v wo, ?_, ?_⟩
  · refine (θ_run Cert.KernelIdeal.defs _ _).mono (fun r h c => ⟨(h.1 c).1.trans ?_, (h.1 c).2⟩) (Cert.KernelIdeal.Run.run_main (F := Ideal) m ρ)
    funext i
    obtain ⟨i₀, i₁, rfl⟩ : ∃ (i₀ : Fin 256) (i₁ : Fin 1024), i = ix3 0 i₀ i₁ := ⟨i 1, i 2, by
      funext a
      match a with
      | 0 => exact Subsingleton.elim (α := Fin 1) _ _
      | 1 => rfl
      | 2 => rfl⟩
    exact (Cert.KernelIdeal.Run.outV_eq hp hr c i₀ i₁).trans (Cert.KernelIdeal.Run.block_rows c _ i₀ i₁).symm
  · exact (θ_run Cert.ReferenceIdeal.defs _ _).mono (fun r h => h.1 0) (Cert.ReferenceIdeal.Ref.run_main (F := Ideal) m' ρ')

end Cert.Proof
-- ==== Proof.lean ====
/- The certificate: the frames of the three programs, what the idealization names, and that the
   kernel computes the reference's function over the extended reals. -/
module

public import proofs.«01_k».proof.Defs
public import proofs.«01_k».proof.Proof.Frames
public import proofs.«01_k».proof.Proof.Alg

@[expose] public section

noncomputable section

namespace Cert.Proof

theorem claim : Cert.Claim :=
  ⟨Cert.Kernel.Gen.facts, Cert.KernelIdeal.Gen.facts, Cert.ReferenceIdeal.Gen.facts, facts_pre,
    facts_pre_reference, frame_kernel, frame_ideal, frame_ideal_pre, frame_reference,
    frame_reference_pre, named, algebraic⟩

end Cert.Proof

end
